-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 [hPre_moe_tables : Cert.Pre_moe_tables.Facts] (m : (ℓ : Loc Cert.Kernel2.nD Cert.Kernel2.τ Cert.Kernel2.sig) → Buf (Elt Bits) ℓ) : Prop :=
  ∀ c : Dev Cert.Kernel2.nD,
    (Cert.Pre_moe_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_moe_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_moe_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2 = (fun _ => 1#1)

def Pre_Kernel2Ideal [hPre_moe_tables : Cert.Pre_moe_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_moe_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_moe_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_moe_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_moe_tables [hPre_moe_tables : Cert.Pre_moe_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_moe_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_moe_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_moe_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_moe_tables : Cert.Pre_moe_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_moe_tables : Cert.Pre_moe_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_moe_tables [hReference2Ideal : Cert.Reference2Ideal.Facts] [hPre_moe_tables : Cert.Pre_moe_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_moe_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_moe_tables : Cert.Pre_moe_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v34)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v34)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_with_ones : Cert.Pre_finite_with_ones.Facts) (hPre_moe_tables : Cert.Pre_moe_tables.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2) (hPre_moe_tables := hPre_moe_tables)
    ∧ quiescent_Kernel2Ideal (hKernel2Ideal := hKernel2Ideal) (hPre_moe_tables := hPre_moe_tables)
    ∧ quiescent_Reference2Ideal (hReference2Ideal := hReference2Ideal)
    ∧ quiescent_Reference2Ideal_pre_moe_tables (hReference2Ideal := hReference2Ideal) (hPre_moe_tables := hPre_moe_tables)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal (hKernel2Ideal := hKernel2Ideal) (hReference2Ideal := hReference2Ideal) (hPre_moe_tables := hPre_moe_tables)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_with_ones.lean ====
abbrev S4x64 : Shape := ⟨2, ![4, 64]⟩
abbrev S128x1 : Shape := ⟨2, ![128, 1]⟩
abbrev S1x49152x2048 : Shape := ⟨3, ![1, 49152, 2048]⟩
abbrev S8x96x144x512 : Shape := ⟨4, ![8, 96, 144, 512]⟩
abbrev S_ : Shape := ⟨0, ![]⟩
abbrev S1x32768x2048 : Shape := ⟨3, ![1, 32768, 2048]⟩
abbrev S8x64x128x512 : Shape := ⟨4, ![8, 64, 128, 512]⟩
abbrev S8x64x1x512 : Shape := ⟨4, ![8, 64, 1, 512]⟩
abbrev S8x64x512 : Shape := ⟨3, ![8, 64, 512]⟩

class Facts : Prop where
  bcast_S_S4x64 : S_.BroadcastsInDim S4x64 (![] : Fin 0 → Fin S4x64.rank)
  slices_S1x49152x2048_S1x32768x2048_0_0_0 : S1x49152x2048.Slices ![0, 0, 0] S1x32768x2048
  bitsLt_bf16_f32 : FTy.bits .bf16 < FTy.bits .f32
  bcast_S_S1x32768x2048 : S_.BroadcastsInDim S1x32768x2048 (![] : Fin 0 → Fin S1x32768x2048.rank)
  slices_S8x96x144x512_S8x64x128x512_0_0_0_0 : S8x96x144x512.Slices ![0, 0, 0, 0] S8x64x128x512
  bcast_S_S8x64x128x512 : S_.BroadcastsInDim S8x64x128x512 (![] : Fin 0 → Fin S8x64x128x512.rank)
  slices_S8x96x144x512_S8x64x1x512_0_0_128_0 : S8x96x144x512.Slices ![0, 0, 128, 0] S8x64x1x512
  shapeCasts_S8x64x1x512_S8x64x512 : S8x64x1x512.ShapeCasts S8x64x512
  bcast_S_S8x64x512 : S_.BroadcastsInDim S8x64x512 (![] : Fin 0 → Fin S8x64x512.rank)

variable [Facts]

def fn {F : FTy → Type} [FloatOps F] (main_arg0 : FVec F S4x64 .f32) (main_arg1 : FVec F S128x1 .f32) (main_arg2 : FVec F S1x49152x2048 .bf16) (main_arg3 : FVec F S8x96x144x512 .bf16) : IVec S4x64 1 × IVec S1x32768x2048 1 × IVec S8x64x128x512 1 × IVec S8x64x512 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S1x32768x2048 .bf16 := (extractStridedSlice S1x32768x2048 ![0, 0, 0] · slices_S1x49152x2048_S1x32768x2048_0_0_0) main_arg2
  let main_v4 : FVec F S1x32768x2048 .f32 := (extf .f32 · bitsLt_bf16_f32) main_v3
  let main_v5 : FVec F S1x32768x2048 .f32 := Host.absf main_v4
  let main_cst_0 : FVec F S_ .f32 := constant S_ .f32 0x7F800000#32
  let main_v6 : FVec F S1x32768x2048 .f32 := broadcastInDim S1x32768x2048 ![] bcast_S_S1x32768x2048 main_cst_0
  let main_v7 : IVec S1x32768x2048 1 := cmpf .olt main_v5 main_v6
  let main_v8 : FVec F S8x64x128x512 .bf16 := (extractStridedSlice S8x64x128x512 ![0, 0, 0, 0] · slices_S8x96x144x512_S8x64x128x512_0_0_0_0) main_arg3
  let main_v9 : FVec F S8x64x128x512 .f32 := (extf .f32 · bitsLt_bf16_f32) main_v8
  let main_v10 : FVec F S8x64x128x512 .f32 := Host.absf main_v9
  let main_cst_1 : FVec F S_ .f32 := constant S_ .f32 0x7F800000#32
  let main_v11 : FVec F S8x64x128x512 .f32 := broadcastInDim S8x64x128x512 ![] bcast_S_S8x64x128x512 main_cst_1
  let main_v12 : IVec S8x64x128x512 1 := cmpf .olt main_v10 main_v11
  let main_v13 : FVec F S8x64x1x512 .bf16 := (extractStridedSlice S8x64x1x512 ![0, 0, 128, 0] · slices_S8x96x144x512_S8x64x1x512_0_0_128_0) main_arg3
  let main_v14 : FVec F S8x64x512 .bf16 := shapeCast S8x64x512 main_v13 shapeCasts_S8x64x1x512_S8x64x512
  let main_v15 : FVec F S8x64x512 .f32 := (extf .f32 · bitsLt_bf16_f32) main_v14
  let main_cst_2 : FVec F S_ .f32 := constant S_ .f32 0x3F800000#32
  let main_v16 : FVec F S8x64x512 .f32 := broadcastInDim S8x64x512 ![] bcast_S_S8x64x512 main_cst_2
  let main_v17 : IVec S8x64x512 1 := cmpf .oeq main_v15 main_v16
  (main_v2, main_v7, main_v12, main_v17)
-- ==== Pre_moe_tables.lean ====
abbrev S49152x1152 : Shape := ⟨2, ![49152, 1152]⟩
abbrev S51200 : Shape := ⟨1, ![51200]⟩
abbrev S100 : Shape := ⟨1, ![100]⟩
abbrev S1 : Shape := ⟨1, ![1]⟩
abbrev S4x4x1024x512 : Shape := ⟨4, ![4, 4, 1024, 512]⟩
abbrev S4x4x512x1024 : Shape := ⟨4, ![4, 4, 512, 1024]⟩
abbrev S_ : Shape := ⟨0, ![]⟩

class Facts : Prop where
  bcast_S_S51200 : S_.BroadcastsInDim S51200 (![] : Fin 0 → Fin S51200.rank)
  bcast_S_S100 : S_.BroadcastsInDim S100 (![] : Fin 0 → Fin S100.rank)
  bcast_S_S1 : S_.BroadcastsInDim S1 (![] : Fin 0 → Fin S1.rank)

variable [Facts]

def fn {F : FTy → Type} [FloatOps F] (main_arg0 : FVec F S49152x1152 .f32) (main_arg1 : IVec S51200 32) (main_arg2 : IVec S100 32) (main_arg3 : IVec S1 32) (main_arg4 : FVec F S4x4x1024x512 .bf16) (main_arg5 : FVec F S4x4x1024x512 .bf16) (main_arg6 : FVec F S4x4x512x1024 .bf16) : IVec S51200 1 × IVec S100 1 × IVec S1 1 :=
  let main_c : IVec S_ 32 := constantI S_ 32 0#32
  let main_v0 : IVec S51200 32 := broadcastInDim S51200 ![] bcast_S_S51200 main_c
  let main_v1 : IVec S51200 1 := cmpi .sge main_arg1 main_v0
  let main_c_0 : IVec S_ 32 := constantI S_ 32 49152#32
  let main_v2 : IVec S51200 32 := broadcastInDim S51200 ![] bcast_S_S51200 main_c_0
  let main_v3 : IVec S51200 1 := cmpi .slt main_arg1 main_v2
  let main_v4 : IVec S51200 1 := andi main_v1 main_v3
  let main_c_1 : IVec S_ 32 := constantI S_ 32 0#32
  let main_v5 : IVec S100 32 := broadcastInDim S100 ![] bcast_S_S100 main_c_1
  let main_v6 : IVec S100 1 := cmpi .sge main_arg2 main_v5
  let main_c_2 : IVec S_ 32 := constantI S_ 32 4#32
  let main_v7 : IVec S100 32 := broadcastInDim S100 ![] bcast_S_S100 main_c_2
  let main_v8 : IVec S100 1 := cmpi .slt main_arg2 main_v7
  let main_v9 : IVec S100 1 := andi main_v6 main_v8
  let main_c_3 : IVec S_ 32 := constantI S_ 32 1#32
  let main_v10 : IVec S1 32 := broadcastInDim S1 ![] bcast_S_S1 main_c_3
  let main_v11 : IVec S1 1 := cmpi .sge main_arg3 main_v10
  let main_c_4 : IVec S_ 32 := constantI S_ 32 100#32
  let main_v12 : IVec S1 32 := broadcastInDim S1 ![] bcast_S_S1 main_c_4
  let main_v13 : IVec S1 1 := cmpi .sle main_arg3 main_v12
  let main_v14 : IVec S1 1 := andi main_v11 main_v13
  (main_v4, main_v9, main_v14)
-- ==== Kernel.lean ====
abbrev S4x64 : Shape := ⟨2, ![4, 64]⟩
abbrev S128x1 : Shape := ⟨2, ![128, 1]⟩
abbrev S1x49152x2048 : Shape := ⟨3, ![1, 49152, 2048]⟩
abbrev S8x96x144x512 : Shape := ⟨4, ![8, 96, 144, 512]⟩
abbrev S1x32768x1024 : Shape := ⟨3, ![1, 32768, 1024]⟩
abbrev S1x512x256 : Shape := ⟨3, ![1, 512, 256]⟩
abbrev S1x8192x256 : Shape := ⟨3, ![1, 8192, 256]⟩
abbrev S2x16x144x512 : Shape := ⟨4, ![2, 16, 144, 512]⟩
abbrev S128x512 : Shape := ⟨2, ![128, 512]⟩
abbrev S512x512 : Shape := ⟨2, ![512, 512]⟩
abbrev S8x512 : Shape := ⟨2, ![8, 512]⟩
abbrev S1x512 : Shape := ⟨2, ![1, 512]⟩
abbrev S144x512 : Shape := ⟨2, ![144, 512]⟩
abbrev S1x512x128 : Shape := ⟨3, ![1, 512, 128]⟩
abbrev S512x128 : Shape := ⟨2, ![512, 128]⟩
abbrev S64x8x512 : Shape := ⟨3, ![64, 8, 512]⟩
abbrev S1x1x144x512 : Shape := ⟨4, ![1, 1, 144, 512]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 5
  | .vmem => 24
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S1x49152x2048, .bf16⟩
  | .hbm, ⟨3, _⟩ => ⟨S8x96x144x512, .bf16⟩
  | .hbm, ⟨4, _⟩ => ⟨S1x32768x1024, .bf16⟩
  | .local _ .vmem, ⟨0, _⟩ => ⟨S4x64, .f32⟩
  | .local _ .vmem, ⟨1, _⟩ => ⟨S128x1, .f32⟩
  | .local _ .vmem, ⟨2, _⟩ => ⟨S1x512x256, .bf16⟩
  | .local _ .vmem, ⟨3, _⟩ => ⟨S1x512x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S2x16x144x512, .bf16⟩
  | .local _ .vmem, ⟨7, _⟩ => ⟨S2x16x144x512, .bf16⟩
  | .local _ .vmem, ⟨8, _⟩ => ⟨S1x512x256, .bf16⟩
  | .local _ .vmem, ⟨9, _⟩ => ⟨S1x512x256, .bf16⟩
  | .local _ .vmem, ⟨10, _⟩ => ⟨S128x512, .bf16⟩
  | .local _ .vmem, ⟨11, _⟩ => ⟨S128x512, .bf16⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1x512, .f32⟩
  | .local _ .vmem, ⟨21, _⟩ => ⟨S144x512, .f32⟩
  | .local _ .vmem, ⟨22, _⟩ => ⟨S1x512, .f32⟩
  | .local _ .vmem, ⟨23, _⟩ => ⟨S144x512, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_scratch12 : Ref sig .tc := ⟨.vmem, 22, rfl⟩
abbrev cc0_scratch13 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 16], ![false, false, false]⟩

def k0_mult1 : BitVec 32 :=
  let c0_i32 : BitVec 32 := 0#32
  c0_i32
@[reducible] def k0_t1_loop : Scf.Loop 32 :=
  let c0_i32_38 : BitVec 32 := 0#32
  let c7_i32 : BitVec 32 := 7#32
  let v61 : BitVec 32 := Scalar.addi c0_i32_38 c7_i32
  let c1_i32 : BitVec 32 := 1#32
  ⟨c0_i32_38, v61, c1_i32⟩
def k0_mult2 (k0_t1 : Fin k0_t1_loop.trips) : BitVec 32 :=
  let c2_i32 : BitVec 32 := 2#32
  let c0_i32_38 : BitVec 32 := 0#32
  let c1_i32 : BitVec 32 := 1#32
  let arg23 : BitVec 32 := Scf.iv c0_i32_38 c1_i32 k0_t1
  let v470 : BitVec 32 := Scalar.muli c2_i32 arg23
  let c1_i32_287 : BitVec 32 := 1#32
  let v471 : BitVec 32 := Scalar.addi v470 c1_i32_287
  let c512_i32 : BitVec 32 := 512#32
  let v472 : BitVec 32 := Scalar.muli v471 c512_i32
  v472
def k0_off1 (k0_t1 : Fin k0_t1_loop.trips) (c1_i32_287 : BitVec 32) : Fin 3 → Nat :=
  let c0_288 : Index := 0#32
  let c2_i32 : BitVec 32 := 2#32
  let c0_i32_38 : BitVec 32 := 0#32
  let c1_i32 : BitVec 32 := 1#32
  let arg23 : BitVec 32 := Scf.iv c0_i32_38 c1_i32 k0_t1
  let v470 : BitVec 32 := Scalar.muli c2_i32 arg23
  let v471 : BitVec 32 := Scalar.addi v470 c1_i32_287
  let c512_i32 : BitVec 32 := 512#32
  let v472 : BitVec 32 := Scalar.muli v471 c512_i32
  let v473 : BitVec 32 := v472
  let v474 : Index := Scalar.indexCast v473
  let c0_289 : Index := 0#32
  ![0, v474.toNat, 0]
def k0_off2 (k0_t1 : Fin k0_t1_loop.trips) : Fin 4 → Nat :=
  let c0_306 : Index := 0#32
  let c2_i32 : BitVec 32 := 2#32
  let c0_i32_38 : BitVec 32 := 0#32
  let c1_i32 : BitVec 32 := 1#32
  let arg23 : BitVec 32 := Scf.iv c0_i32_38 c1_i32 k0_t1
  let v470 : BitVec 32 := Scalar.muli c2_i32 arg23
  let v497 : Index := Scalar.indexCast v470
  let c0_307 : Index := 0#32
  let c0_308 : Index := 0#32
  ![0, v497.toNat, 0, 0]
def k0_mult3 (k0_t1 : Fin k0_t1_loop.trips) : BitVec 32 :=
  let c2_i32 : BitVec 32 := 2#32
  let c0_i32_38 : BitVec 32 := 0#32
  let c1_i32 : BitVec 32 := 1#32
  let arg23 : BitVec 32 := Scf.iv c0_i32_38 c1_i32 k0_t1
  let v470 : BitVec 32 := Scalar.muli c2_i32 arg23
  let c2_i32_337 : BitVec 32 := 2#32
  let v546 : BitVec 32 := Scalar.addi v470 c2_i32_337
  let c512_i32_338 : BitVec 32 := 512#32
  let v547 : BitVec 32 := Scalar.muli v546 c512_i32_338
  v547
def k0_off3 (k0_t1 : Fin k0_t1_loop.trips) : Fin 4 → Nat :=
  let c0_358 : Index := 0#32
  let c2_i32 : BitVec 32 := 2#32
  let c0_i32_38 : BitVec 32 := 0#32
  let c1_i32 : BitVec 32 := 1#32
  let arg23 : BitVec 32 := Scf.iv c0_i32_38 c1_i32 k0_t1
  let v470 : BitVec 32 := Scalar.muli c2_i32 arg23
  let c1_i32_357 : BitVec 32 := 1#32
  let v572 : BitVec 32 := Scalar.addi v470 c1_i32_357
  let v573 : Index := Scalar.indexCast v572
  let c0_359 : Index := 0#32
  let c0_360 : Index := 0#32
  ![0, v573.toNat, 0, 0]
def k0_mult4 : BitVec 32 :=
  let c7680_i32 : BitVec 32 := 7680#32
  c7680_i32
def k0_mult5 : BitVec 32 :=
  let c0_i32_162 : BitVec 32 := 0#32
  c0_i32_162
@[reducible] def k0_t2_loop : Scf.Loop 32 :=
  let c0_i32_181 : BitVec 32 := 0#32
  let c7_i32_182 : BitVec 32 := 7#32
  let v296 : BitVec 32 := Scalar.addi c0_i32_181 c7_i32_182
  let c1_i32_183 : BitVec 32 := 1#32
  ⟨c0_i32_181, v296, c1_i32_183⟩
def k0_mult6 (k0_t2 : Fin k0_t2_loop.trips) : BitVec 32 :=
  let c2_i32 : BitVec 32 := 2#32
  let c0_i32_181 : BitVec 32 := 0#32
  let c1_i32_183 : BitVec 32 := 1#32
  let arg23 : BitVec 32 := Scf.iv c0_i32_181 c1_i32_183 k0_t2
  let v470 : BitVec 32 := Scalar.muli c2_i32 arg23
  let c1_i32_287 : BitVec 32 := 1#32
  let v471 : BitVec 32 := Scalar.addi v470 c1_i32_287
  let c512_i32 : BitVec 32 := 512#32
  let v472 : BitVec 32 := Scalar.muli v471 c512_i32
  v472
def k0_off4 (k0_t2 : Fin k0_t2_loop.trips) (c1_i32_287 : BitVec 32) : Fin 3 → Nat :=
  let c0_288 : Index := 0#32
  let c2_i32 : BitVec 32 := 2#32
  let c0_i32_181 : BitVec 32 := 0#32
  let c1_i32_183 : BitVec 32 := 1#32
  let arg23 : BitVec 32 := Scf.iv c0_i32_181 c1_i32_183 k0_t2
  let v470 : BitVec 32 := Scalar.muli c2_i32 arg23
  let v471 : BitVec 32 := Scalar.addi v470 c1_i32_287
  let c512_i32 : BitVec 32 := 512#32
  let v472 : BitVec 32 := Scalar.muli v471 c512_i32
  let v473 : BitVec 32 := v472
  let v474 : Index := Scalar.indexCast v473
  let c128_289 : Index := 128#32
  ![0, v474.toNat, 128]
def k0_off5 (k0_t2 : Fin k0_t2_loop.trips) : Fin 4 → Nat :=
  let c1_306 : Index := 1#32
  let c2_i32 : BitVec 32 := 2#32
  let c0_i32_181 : BitVec 32 := 0#32
  let c1_i32_183 : BitVec 32 := 1#32
  let arg23 : BitVec 32 := Scf.iv c0_i32_181 c1_i32_183 k0_t2
  let v470 : BitVec 32 := Scalar.muli c2_i32 arg23
  let v497 : Index := Scalar.indexCast v470
  let c0_307 : Index := 0#32
  let c0_308 : Index := 0#32
  ![1, v497.toNat, 0, 0]
def k0_mult7 (k0_t2 : Fin k0_t2_loop.trips) : BitVec 32 :=
  let c2_i32 : BitVec 32 := 2#32
  let c0_i32_181 : BitVec 32 := 0#32
  let c1_i32_183 : BitVec 32 := 1#32
  let arg23 : BitVec 32 := Scf.iv c0_i32_181 c1_i32_183 k0_t2
  let v470 : BitVec 32 := Scalar.muli c2_i32 arg23
  let c2_i32_337 : BitVec 32 := 2#32
  let v546 : BitVec 32 := Scalar.addi v470 c2_i32_337
  let c512_i32_338 : BitVec 32 := 512#32
  let v547 : BitVec 32 := Scalar.muli v546 c512_i32_338
  v547
def k0_off6 (k0_t2 : Fin k0_t2_loop.trips) : Fin 4 → Nat :=
  let c1_358 : Index := 1#32
  let c2_i32 : BitVec 32 := 2#32
  let c0_i32_181 : BitVec 32 := 0#32
  let c1_i32_183 : BitVec 32 := 1#32
  let arg23 : BitVec 32 := Scf.iv c0_i32_181 c1_i32_183 k0_t2
  let v470 : BitVec 32 := Scalar.muli c2_i32 arg23
  let c1_i32_357 : BitVec 32 := 1#32
  let v572 : BitVec 32 := Scalar.addi v470 c1_i32_357
  let v573 : Index := Scalar.indexCast v572
  let c0_359 : Index := 0#32
  let c0_360 : Index := 0#32
  ![1, v573.toNat, 0, 0]
def k0_mult8 : BitVec 32 :=
  let c7680_i32_185 : BitVec 32 := 7680#32
  c7680_i32_185
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  let c0_i32_1 : BitVec 32 := 0#32
  ![c0_i32_0.toNat, v0.toNat, v1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![arg1.toNat, v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x16x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x64 : Shape := ⟨2, ![4, 64]⟩
abbrev S128x1 : Shape := ⟨2, ![128, 1]⟩
abbrev S1x49152x2048 : Shape := ⟨3, ![1, 49152, 2048]⟩
abbrev S8x96x144x512 : Shape := ⟨4, ![8, 96, 144, 512]⟩
abbrev S1x32768x1024 : Shape := ⟨3, ![1, 32768, 1024]⟩
abbrev S32768x1024 : Shape := ⟨2, ![32768, 1024]⟩
abbrev S4x8192x8x2x64 : Shape := ⟨5, ![4, 8192, 8, 2, 64]⟩
abbrev S2x4x8x8192x64 : Shape := ⟨5, ![2, 4, 8, 8192, 64]⟩
abbrev S8x64x128x512 : Shape := ⟨4, ![8, 64, 128, 512]⟩
abbrev S8x4x16x128x512 : Shape := ⟨5, ![8, 4, 16, 128, 512]⟩
abbrev S4x8x16x512x128 : Shape := ⟨5, ![4, 8, 16, 512, 128]⟩
abbrev S4x8x8192x128 : Shape := ⟨4, ![4, 8, 8192, 128]⟩
abbrev S1x64 : Shape := ⟨2, ![1, 64]⟩
abbrev S64 : Shape := ⟨1, ![64]⟩
abbrev S_ : Shape := ⟨0, ![]⟩
abbrev S2x4x8x8192x8192 : Shape := ⟨5, ![2, 4, 8, 8192, 8192]⟩
abbrev S2x4x8x8192 : Shape := ⟨4, ![2, 4, 8, 8192]⟩
abbrev S2x4x8x8192x1 : Shape := ⟨5, ![2, 4, 8, 8192, 1]⟩
abbrev S1x4x8x8192x8192 : Shape := ⟨5, ![1, 4, 8, 8192, 8192]⟩
abbrev S4x8x8192x8192 : Shape := ⟨4, ![4, 8, 8192, 8192]⟩
abbrev S4x8192x8x128 : Shape := ⟨4, ![4, 8192, 8, 128]⟩
abbrev S4x8192x8 : Shape := ⟨3, ![4, 8192, 8]⟩
abbrev S4x8192x8x1 : Shape := ⟨4, ![4, 8192, 8, 1]⟩
abbrev S128 : Shape := ⟨1, ![128]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128x1, .f32⟩
  | .hbm, ⟨2, _⟩ => ⟨S1x49152x2048, .bf16⟩
  | .hbm, ⟨3, _⟩ => ⟨S8x96x144x512, .bf16⟩
  | .hbm, ⟨4, _⟩ => ⟨S1x32768x1024, .bf16⟩
  | .hbm, ⟨5, _⟩ => ⟨S32768x1024, .bf16⟩
  | .hbm, ⟨6, _⟩ => ⟨S4x8192x8x2x64, .bf16⟩
  | .hbm, ⟨7, _⟩ => ⟨S2x4x8x8192x64, .bf16⟩
  | .hbm, ⟨8, _⟩ => ⟨S1x32768x1024, .bf16⟩
  | .hbm, ⟨9, _⟩ => ⟨S32768x1024, .bf16⟩
  | .hbm, ⟨10, _⟩ => ⟨S4x8192x8x2x64, .bf16⟩
  | .hbm, ⟨11, _⟩ => ⟨S2x4x8x8192x64, .bf16⟩
  | .hbm, ⟨12, _⟩ => ⟨S8x64x128x512, .bf16⟩
  | .hbm, ⟨13, _⟩ => ⟨S8x4x16x128x512, .bf16⟩
  | .hbm, ⟨14, _⟩ => ⟨S4x8x16x512x128, .bf16⟩
  | .hbm, ⟨15, _⟩ => ⟨S4x8x8192x128, .bf16⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x4x8x8192x64, .f32⟩
  | .hbm, ⟨36, _⟩ => ⟨S2x4x8x8192x64, .f32⟩
  | .hbm, ⟨37, _⟩ => ⟨S2x4x8x8192x8192, .f32⟩
  | .hbm, ⟨38, _⟩ => ⟨S2x4x8x8192x8192, .bf16⟩
  | .hbm, ⟨39, _⟩ => ⟨S2x4x8x8192x8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x4x8x8192x8192, .f32⟩
  | .hbm, ⟨44, _⟩ => ⟨S2x4x8x8192x8192, .f32⟩
  | .hbm, ⟨45, _⟩ => ⟨S_, .f32⟩
  | .hbm, ⟨46, _⟩ => ⟨S2x4x8x8192, .f32⟩
  | .hbm, ⟨47, _⟩ => ⟨S_, .f32⟩
  | .hbm, ⟨48, _⟩ => ⟨S2x4x8x8192, .f32⟩
  | .hbm, ⟨49, _⟩ => ⟨S2x4x8x8192, .f32⟩
  | .hbm, ⟨50, _⟩ => ⟨S2x4x8x8192x1, .f32⟩
  | .hbm, ⟨51, _⟩ => ⟨S2x4x8x8192x8192, .f32⟩
  | .hbm, ⟨52, _⟩ => ⟨S2x4x8x8192x8192, .f32⟩
  | .hbm, ⟨53, _⟩ => ⟨S2x4x8x8192x8192, .f32⟩
  | .hbm, ⟨54, _⟩ => ⟨S_, .f32⟩
  | .hbm, ⟨55, _⟩ => ⟨S2x4x8x8192, .f32⟩
  | .hbm, ⟨56, _⟩ => ⟨S2x4x8x8192x1, .f32⟩
  | .hbm, ⟨57, _⟩ => ⟨S2x4x8x8192x8192, .f32⟩
  | .hbm, ⟨58, _⟩ => ⟨S2x4x8x8192x8192, .f32⟩
  | .hbm, ⟨59, _⟩ => ⟨S1x4x8x8192x8192, .f32⟩
  | .hbm, ⟨60, _⟩ => ⟨S4x8x8192x8192, .f32⟩
  | .hbm, ⟨61, _⟩ => ⟨S1x4x8x8192x8192, .f32⟩
  | .hbm, ⟨62, _⟩ => ⟨S4x8x8192x8192, .f32⟩
  | .hbm, ⟨63, _⟩ => ⟨S4x8x8192x8192, .f32⟩
  | .hbm, ⟨64, _⟩ => ⟨S4x8x8192x8192, .f32⟩
  | .hbm, ⟨65, _⟩ => ⟨S4x8x8192x8192, .f32⟩
  | .hbm, ⟨66, _⟩ => ⟨S4x8x8192x8192, .bf16⟩
  | .hbm, ⟨67, _⟩ => ⟨S4x8x8192x8192, .f32⟩
  | .hbm, ⟨68, _⟩ => ⟨S4x8x8192x128, .f32⟩
  | .hbm, ⟨69, _⟩ => ⟨S4x8x8192x128, .f32⟩
  | .hbm, ⟨70, _⟩ => ⟨S4x8x8192x128, .bf16⟩
  | .hbm, ⟨71, _⟩ => ⟨S4x8192x8x128, .bf16⟩
  | .hbm, ⟨72, _⟩ => ⟨S4x8192x8x128, .f32⟩
  | .hbm, ⟨73, _⟩ => ⟨S4x8192x8x128, .f32⟩
  | .hbm, ⟨74, _⟩ => ⟨S_, .f32⟩
  | .hbm, ⟨75, _⟩ => ⟨S4x8192x8, .f32⟩
  | .hbm, ⟨76, _⟩ => ⟨S4x8192x8x1, .f32⟩
  | .hbm, ⟨77, _⟩ => ⟨S_, .f32⟩
  | .hbm, ⟨78, _⟩ => ⟨S4x8192x8x1, .f32⟩
  | .hbm, ⟨79, _⟩ => ⟨S4x8192x8x1, .f32⟩
  | .hbm, ⟨80, _⟩ => ⟨S_, .f32⟩
  | .hbm, ⟨81, _⟩ => ⟨S4x8192x8x1, .f32⟩
  | .hbm, ⟨82, _⟩ => ⟨S4x8192x8x1, .f32⟩
  | .hbm, ⟨83, _⟩ => ⟨S4x8192x8x1, .f32⟩
  | .hbm, ⟨84, _⟩ => ⟨S4x8192x8x128, .f32⟩
  | .hbm, ⟨85, _⟩ => ⟨S4x8192x8x128, .f32⟩
  | .hbm, ⟨86, _⟩ => ⟨S128, .f32⟩
  | .hbm, ⟨87, _⟩ => ⟨S1x1x1x128, .f32⟩
  | .hbm, ⟨88, _⟩ => ⟨S4x8192x8x128, .f32⟩
  | .hbm, ⟨89, _⟩ => ⟨S4x8192x8x128, .f32⟩
  | .hbm, ⟨90, _⟩ => ⟨S_, .f32⟩
  | .hbm, ⟨91, _⟩ => ⟨S4x8192x8x128, .f32⟩
  | .hbm, ⟨92, _⟩ => ⟨S4x8192x8x128, .f32⟩
  | .hbm, ⟨93, _⟩ => ⟨S4x8192x8x128, .bf16⟩
  | .hbm, ⟨94, _⟩ => ⟨S1x32768x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_cst_7 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩

abbrev nD : Nat := 1
abbrev τ : Topo := Topo.v7x

variable {F : FTy → Type} [FloatOps F]
-- ==== Kernel2.lean ====
abbrev S49152x1152 : Shape := ⟨2, ![49152, 1152]⟩
abbrev S51200 : Shape := ⟨1, ![51200]⟩
abbrev S100 : Shape := ⟨1, ![100]⟩
abbrev S1 : Shape := ⟨1, ![1]⟩
abbrev S4x4x1024x512 : Shape := ⟨4, ![4, 4, 1024, 512]⟩
abbrev S4x4x512x1024 : Shape := ⟨4, ![4, 4, 512, 1024]⟩
abbrev S100x1x512 : Shape := ⟨3, ![100, 1, 512]⟩
abbrev S51200x1024 : Shape := ⟨2, ![51200, 1024]⟩
abbrev S1x1x512 : Shape := ⟨3, ![1, 1, 512]⟩
abbrev S1x4x1024x512 : Shape := ⟨4, ![1, 4, 1024, 512]⟩
abbrev S1x4x512x1024 : Shape := ⟨4, ![1, 4, 512, 1024]⟩
abbrev S512x1024 : Shape := ⟨2, ![512, 1024]⟩
abbrev S2x512x1152 : Shape := ⟨3, ![2, 512, 1152]⟩
abbrev S2 : Shape := ⟨1, ![2]⟩
abbrev S1x1x1 : Shape := ⟨3, ![1, 1, 1]⟩
abbrev S_ : Shape := ⟨0, ![]⟩
abbrev S1x512x1152 : Shape := ⟨3, ![1, 512, 1152]⟩
abbrev S512x1152 : Shape := ⟨2, ![512, 1152]⟩
abbrev S1x1152 : Shape := ⟨2, ![1, 1152]⟩
abbrev S1x512x1024 : Shape := ⟨3, ![1, 512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩

abbrev nBuf : Space → Nat
  | .hbm => 7
  | .vmem => 9
  | .smem => 6
  | _ => 0

abbrev bufTy : (tb : Table) → Fin (tcTables nBuf tb) → BufTy
  | .hbm, ⟨0, _⟩ => ⟨S49152x1152, .f32⟩
  | .hbm, ⟨1, _⟩ => ⟨S51200, .i32⟩
  | .hbm, ⟨2, _⟩ => ⟨S4x4x1024x512, .bf16⟩
  | .hbm, ⟨3, _⟩ => ⟨S4x4x1024x512, .bf16⟩
  | .hbm, ⟨4, _⟩ => ⟨S4x4x512x1024, .bf16⟩
  | .hbm, ⟨5, _⟩ => ⟨S100x1x512, .i32⟩
  | .hbm, ⟨6, _⟩ => ⟨S51200x1024, .f32⟩
  | .local _ .vmem, ⟨0, _⟩ => ⟨S1x4x1024x512, .bf16⟩
  | .local _ .vmem, ⟨1, _⟩ => ⟨S1x4x1024x512, .bf16⟩
  | .local _ .vmem, ⟨2, _⟩ => ⟨S1x4x1024x512, .bf16⟩
  | .local _ .vmem, ⟨3, _⟩ => ⟨S1x4x1024x512, .bf16⟩
  | .local _ .vmem, ⟨4, _⟩ => ⟨S1x4x512x1024, .bf16⟩
  | .local _ .vmem, ⟨5, _⟩ => ⟨S1x4x512x1024, .bf16⟩
  | .local _ .vmem, ⟨6, _⟩ => ⟨S512x1024, .f32⟩
  | .local _ .vmem, ⟨7, _⟩ => ⟨S512x1024, .f32⟩
  | .local _ .vmem, ⟨8, _⟩ => ⟨S2x512x1152, .f32⟩
  | .local _ .smem, ⟨0, _⟩ => ⟨S100, .i32⟩
  | .local _ .smem, ⟨1, _⟩ => ⟨S1, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S49152x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![100], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_11 : BitVec 32 := 0#32
  let c512_i32 : BitVec 32 := 512#32
  let v24 : BitVec 32 := Scalar.addi c0_i32_11 c512_i32
  let c1_i32_12 : BitVec 32 := 1#32
  ⟨c0_i32_11, v24, c1_i32_12⟩
def k0_off2 (k0_t1 : Fin k0_t1_loop.trips) : Fin 3 → Nat :=
  let c0_14 : Index := 0#32
  let c0_15 : Index := 0#32
  let c0_i32_11 : BitVec 32 := 0#32
  let c1_i32_12 : BitVec 32 := 1#32
  let arg12 : BitVec 32 := Scf.iv c0_i32_11 c1_i32_12 k0_t1
  let v25 : Index := Scalar.indexCast arg12
  ![0, 0, v25.toNat]
def k0_off3 (k0_t1 : Fin k0_t1_loop.trips) : Fin 2 → Nat :=
  let c0_i32_11 : BitVec 32 := 0#32
  let c1_i32_12 : BitVec 32 := 1#32
  let arg12 : BitVec 32 := Scf.iv c0_i32_11 c1_i32_12 k0_t1
  let c0_i32_18 : BitVec 32 := 0#32
  ![arg12.toNat, 0]
def k0_off4 (v26 : BitVec 32) : Fin 2 → Nat :=
  let c0_i32_19 : BitVec 32 := 0#32
  ![v26.toNat, 0]

def k0_chk1 (i : grid0.Coords) (v26 : BitVec 32) : Prop :=
  (∀ (k0_h1 : k0_cond1 i = 1#1), ∀ a, (k0_off4 v26) a + S1x1152.size a ≤ S49152x1152.size a)
theorem k0_off4_inb : ∀ (i : grid0.Coords) (v26 : BitVec 32) (k0_hw1 : k0_chk1 i v26), ∀ (k0_h1 : k0_cond1 i = 1#1), ∀ a, (k0_off4 v26) a + S1x1152.size a ≤ S49152x1152.size a := fun i v26 k0_hw1 k0_h1 => k0_hw1 k0_h1

@[reducible] def k0_t2_loop : Scf.Loop 32 :=
  let c0_i32_11 : BitVec 32 := 0#32
  let c512_i32 : BitVec 32 := 512#32
  let v26 : BitVec 32 := Scalar.addi c0_i32_11 c512_i32
  let c1_i32_12 : BitVec 32 := 1#32
  ⟨c0_i32_11, v26, c1_i32_12⟩
def k0_off5 (k0_t2 : Fin k0_t2_loop.trips) : Fin 3 → Nat :=
  let c0_14 : Index := 0#32
  let c0_15 : Index := 0#32
  let c0_i32_11 : BitVec 32 := 0#32
  let c1_i32_12 : BitVec 32 := 1#32
  let arg12 : BitVec 32 := Scf.iv c0_i32_11 c1_i32_12 k0_t2
  let v27 : Index := Scalar.indexCast arg12
  ![0, 0, v27.toNat]
def k0_off6 (i : grid0.Coords) : Fin 1 → Nat :=
  let c1_i32_10 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : BitVec 32 := Scalar.subi c1_i32_10 v9
  ![v25.toNat]
def k0_off7 (i : grid0.Coords) : Fin 3 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v24 : BitVec 32 := Scalar.subi c1_i32_9 v9
  let c0_i32_16 : BitVec 32 := 0#32
  let c0_i32_17 : BitVec 32 := 0#32
  ![v24.toNat, 0, 0]
def k0_off8 (k0_t2 : Fin k0_t2_loop.trips) : Fin 2 → Nat :=
  let c0_i32_11 : BitVec 32 := 0#32
  let c1_i32_12 : BitVec 32 := 1#32
  let arg12 : BitVec 32 := Scf.iv c0_i32_11 c1_i32_12 k0_t2
  let c0_i32_18 : BitVec 32 := 0#32
  ![arg12.toNat, 0]
def k0_off9 (v28 : BitVec 32) : Fin 2 → Nat :=
  let c0_i32_19 : BitVec 32 := 0#32
  ![v28.toNat, 0]
def k0_cond2 (i : grid0.Coords) (v10 : BitVec 32) : BitVec 1 :=
  let arg0 : BitVec 32 := BitVec.ofNat 32 (i 0).val
  let c1_i32_5 : BitVec 32 := 1#32
  let v14 : BitVec 32 := Scalar.addi arg0 c1_i32_5
  let v15 : BitVec 1 := Scalar.cmpi .slt v14 v10
  let v16 : BitVec 32 := Scalar.extui v15
  let c0_i32_6 : BitVec 32 := 0#32
  let v17 : BitVec 1 := Scalar.cmpi .ne v16 c0_i32_6
  v17

def k0_chk2 (i : grid0.Coords) (v10 : BitVec 32) (v28 : BitVec 32) : Prop :=
  (∀ (k0_h2 : k0_cond2 i v10 = 1#1), ∀ a, (k0_off9 v28) a + S1x1152.size a ≤ S49152x1152.size a)
theorem k0_off9_inb : ∀ (i : grid0.Coords) (v10 : BitVec 32) (v28 : BitVec 32) (k0_hw2 : k0_chk2 i v10 v28), ∀ (k0_h2 : k0_cond2 i v10 = 1#1), ∀ a, (k0_off9 v28) a + S1x1152.size a ≤ S49152x1152.size a := fun i v10 v28 k0_hw2 k0_h2 => k0_hw2 k0_h2

@[reducible] def k0_t3_loop : Scf.Loop 32 :=
  let c0_i32_9 : BitVec 32 := 0#32
  let c512_i32 : BitVec 32 := 512#32
  let v24 : BitVec 32 := Scalar.addi c0_i32_9 c512_i32
  let c1_i32_10 : BitVec 32 := 1#32
  ⟨c0_i32_9, v24, c1_i32_10⟩
def k0_off10 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_85 : BitVec 32 := 0#32
  let c0_i32_86 : BitVec 32 := 0#32
  ![v9.toNat, 0, 0]
def k0_off12 (k0_t3 : Fin k0_t3_loop.trips) : Fin 2 → Nat :=
  let c0_i32_9 : BitVec 32 := 0#32
  let c1_i32_10 : BitVec 32 := 1#32
  let arg12 : BitVec 32 := Scf.iv c0_i32_9 c1_i32_10 k0_t3
  let c0_i32_87 : BitVec 32 := 0#32
  ![arg12.toNat, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v25 : Index := Scalar.indexCast v9
  let c0_12 : Index := 0#32
  let c0_13 : Index := 0#32
  ![v25.toNat, 0, 0]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v29 : Index := Scalar.indexCast v9
  let c0_14 : Index := 0#32
  let c1024 : Index := 1024#32
  ![v29.toNat, 0, 1024]
def k0_off15 (i : grid0.Coords) : Fin 1 → Nat :=
  let arg0 : BitVec 32 := BitVec.ofNat 32 (i 0).val
  let v33 : Index := Scalar.indexCast arg0
  ![v33.toNat]
def k0_cond3 (i : grid0.Coords) (v10 : BitVec 32) : BitVec 1 :=
  let arg0 : BitVec 32 := BitVec.ofNat 32 (i 0).val
  let v18 : BitVec 1 := Scalar.cmpi .slt arg0 v10
  let v19 : BitVec 32 := Scalar.extui v18
  let c0_i32_7 : BitVec 32 := 0#32
  let v20 : BitVec 1 := Scalar.cmpi .ne v19 c0_i32_7
  v20

def k0_cond4 (i : grid0.Coords) (v10 : BitVec 32) : BitVec 1 :=
  let arg0 : BitVec 32 := BitVec.ofNat 32 (i 0).val
  let v21 : BitVec 1 := Scalar.cmpi .sge arg0 v10
  let v22 : BitVec 32 := Scalar.extui v21
  let c0_i32_8 : BitVec 32 := 0#32
  let v23 : BitVec 1 := Scalar.cmpi .ne v22 c0_i32_8
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c99_i32 : BitVec 32 := 99#32
  let v1 : BitVec 32 := Scalar.minsi v0 c99_i32
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (k0_off1_inb : ∀ i : grid0.Coords, ∀ a, (k0_off1 i) a + S1.size a ≤ S100.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S100) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S49152x1152 : Shape := ⟨2, ![49152, 1152]⟩
abbrev S51200 : Shape := ⟨1, ![51200]⟩
abbrev S100 : Shape := ⟨1, ![100]⟩
abbrev S1 : Shape := ⟨1, ![1]⟩
abbrev S4x4x1024x512 : Shape := ⟨4, ![4, 4, 1024, 512]⟩
abbrev S4x4x512x1024 : Shape := ⟨4, ![4, 4, 512, 1024]⟩
abbrev S_ : Shape := ⟨0, ![]⟩
abbrev S51200x1 : Shape := ⟨2, ![51200, 1]⟩
abbrev S51200x1152 : Shape := ⟨2, ![51200, 1152]⟩
abbrev S51200x1024 : Shape := ⟨2, ![51200, 1024]⟩
abbrev S51200x16 : Shape := ⟨2, ![51200, 16]⟩
abbrev S51200x4x4 : Shape := ⟨3, ![51200, 4, 4]⟩
abbrev S100x512 : Shape := ⟨2, ![100, 512]⟩
abbrev S1x4 : Shape := ⟨2, ![1, 4]⟩
abbrev S51200x4 : Shape := ⟨2, ![51200, 4]⟩
abbrev S51200x4x1 : Shape := ⟨3, ![51200, 4, 1]⟩
abbrev S1x4x1024x512 : Shape := ⟨4, ![1, 4, 1024, 512]⟩
abbrev S4x1024x512 : Shape := ⟨3, ![4, 1024, 512]⟩
abbrev S51200x4x512 : Shape := ⟨3, ![51200, 4, 512]⟩
abbrev S51200x1x4 : Shape := ⟨3, ![51200, 1, 4]⟩
abbrev S1x4x512x1024 : Shape := ⟨4, ![1, 4, 512, 1024]⟩
abbrev S4x512x1024 : Shape := ⟨3, ![4, 512, 1024]⟩

abbrev nBuf : Space → Nat
  | .hbm => 156
  | .vmem => 0
  | .smem => 0
  | _ => 0

abbrev hbmTy0_0 (i : Nat) : BufTy := match i % 128 with
  | 0 => ⟨S49152x1152, .f32⟩
  | 1 => ⟨S51200, .i32⟩
  | 2 => ⟨S100, .i32⟩
  | 3 => ⟨S1, .i32⟩
  | 4 => ⟨S4x4x1024x512, .bf16⟩
  | 5 => ⟨S4x4x1024x512, .bf16⟩
  | 6 => ⟨S4x4x512x1024, .bf16⟩
  | 7 => ⟨S_, .i32⟩
  | 8 => ⟨S51200, .i32⟩
  | 9 => ⟨S51200, .i1⟩
  | 10 => ⟨S_, .i32⟩
  | 11 => ⟨S51200, .i32⟩
  | 12 => ⟨S51200, .i32⟩
  | 13 => ⟨S51200, .i32⟩
  | 14 => ⟨S51200x1, .i32⟩
  | 15 => ⟨S51200x1152, .f32⟩
  | 16 => ⟨S51200x1024, .f32⟩
  | 17 => ⟨S51200x16, .f32⟩
  | 18 => ⟨S51200x4x4, .f32⟩
  | 19 => ⟨S100x512, .i32⟩
  | 20 => ⟨S51200, .i32⟩
  | 21 => ⟨S51200x1, .i32⟩
  | 22 => ⟨S1x4, .i32⟩
  | 23 => ⟨S51200x4, .i32⟩
  | 24 => ⟨S51200x4, .i32⟩
  | 25 => ⟨S51200x4, .i1⟩
  | 26 => ⟨S51200x4, .f32⟩
  | 27 => ⟨S51200x4x1, .f32⟩
  | 28 => ⟨S51200x4x4, .f32⟩
  | 29 => ⟨S51200x4x4, .f32⟩
  | 30 => ⟨S_, .f32⟩
  | 31 => ⟨S51200x1024, .f32⟩
  | 32 => ⟨S1x4x1024x512, .bf16⟩
  | 33 => ⟨S4x1024x512, .bf16⟩
  | 34 => ⟨S4x1024x512, .f32⟩
  | 35 => ⟨S51200x4x512, .f32⟩
  | 36 => ⟨S51200x4x512, .f32⟩
  | 37 => ⟨S51200x4x512, .f32⟩
  | 38 => ⟨S_, .f32⟩
  | 39 => ⟨S51200x4x512, .f32⟩
  | 40 => ⟨S51200x4x512, .f32⟩
  | 41 => ⟨S_, .f32⟩
  | 42 => ⟨S51200x4x512, .f32⟩
  | 43 => ⟨S51200x4x512, .f32⟩
  | 44 => ⟨S51200x4x512, .f32⟩
  | 45 => ⟨S1x4x1024x512, .bf16⟩
  | 46 => ⟨S4x1024x512, .bf16⟩
  | 47 => ⟨S4x1024x512, .f32⟩
  | 48 => ⟨S51200x4x512, .f32⟩
  | 49 => ⟨S51200x4x512, .f32⟩
  | 50 => ⟨S51200x1x4, .f32⟩
  | 51 => ⟨S51200x4, .f32⟩
  | 52 => ⟨S51200x4x1, .f32⟩
  | 53 => ⟨S51200x4x512, .f32⟩
  | 54 => ⟨S51200x4x512, .f32⟩
  | 55 => ⟨S1x4x512x1024, .bf16⟩
  | 56 => ⟨S4x512x1024, .bf16⟩
  | 57 => ⟨S4x512x1024, .f32⟩
  | 58 => ⟨S51200x1024, .f32⟩
  | 59 => ⟨S51200x1024, .f32⟩
  | 60 => ⟨S1x4x1024x512, .bf16⟩
  | 61 => ⟨S4x1024x512, .bf16⟩
  | 62 => ⟨S4x1024x512, .f32⟩
  | 63 => ⟨S51200x4x512, .f32⟩
  | 64 => ⟨S51200x4x512, .f32⟩
  | 65 => ⟨S51200x4x512, .f32⟩
  | 66 => ⟨S_, .f32⟩
  | 67 => ⟨S51200x4x512, .f32⟩
  | 68 => ⟨S51200x4x512, .f32⟩
  | 69 => ⟨S_, .f32⟩
  | 70 => ⟨S51200x4x512, .f32⟩
  | 71 => ⟨S51200x4x512, .f32⟩
  | 72 => ⟨S51200x4x512, .f32⟩
  | 73 => ⟨S1x4x1024x512, .bf16⟩
  | 74 => ⟨S4x1024x512, .bf16⟩
  | 75 => ⟨S4x1024x512, .f32⟩
  | 76 => ⟨S51200x4x512, .f32⟩
  | 77 => ⟨S51200x4x512, .f32⟩
  | 78 => ⟨S51200x1x4, .f32⟩
  | 79 => ⟨S51200x4, .f32⟩
  | 80 => ⟨S51200x4x1, .f32⟩
  | 81 => ⟨S51200x4x512, .f32⟩
  | 82 => ⟨S51200x4x512, .f32⟩
  | 83 => ⟨S1x4x512x1024, .bf16⟩
  | 84 => ⟨S4x512x1024, .bf16⟩
  | 85 => ⟨S4x512x1024, .f32⟩
  | 86 => ⟨S51200x1024, .f32⟩
  | 87 => ⟨S51200x1024, .f32⟩
  | 88 => ⟨S1x4x1024x512, .bf16⟩
  | 89 => ⟨S4x1024x512, .bf16⟩
  | 90 => ⟨S4x1024x512, .f32⟩
  | 91 => ⟨S51200x4x512, .f32⟩
  | 92 => ⟨S51200x4x512, .f32⟩
  | 93 => ⟨S51200x4x512, .f32⟩
  | 94 => ⟨S_, .f32⟩
  | 95 => ⟨S51200x4x512, .f32⟩
  | 96 => ⟨S51200x4x512, .f32⟩
  | 97 => ⟨S_, .f32⟩
  | 98 => ⟨S51200x4x512, .f32⟩
  | 99 => ⟨S51200x4x512, .f32⟩
  | 100 => ⟨S51200x4x512, .f32⟩
  | 101 => ⟨S1x4x1024x512, .bf16⟩
  | 102 => ⟨S4x1024x512, .bf16⟩
  | 103 => ⟨S4x1024x512, .f32⟩
  | 104 => ⟨S51200x4x512, .f32⟩
  | 105 => ⟨S51200x4x512, .f32⟩
  | 106 => ⟨S51200x1x4, .f32⟩
  | 107 => ⟨S51200x4, .f32⟩
  | 108 => ⟨S51200x4x1, .f32⟩
  | 109 => ⟨S51200x4x512, .f32⟩
  | 110 => ⟨S51200x4x512, .f32⟩
  | 111 => ⟨S1x4x512x1024, .bf16⟩
  | 112 => ⟨S4x512x1024, .bf16⟩
  | 113 => ⟨S4x512x1024, .f32⟩
  | 114 => ⟨S51200x1024, .f32⟩
  | 115 => ⟨S51200x1024, .f32⟩
  | 116 => ⟨S1x4x1024x512, .bf16⟩
  | 117 => ⟨S4x1024x512, .bf16⟩
  | 118 => ⟨S4x1024x512, .f32⟩
  | 119 => ⟨S51200x4x512, .f32⟩
  | 120 => ⟨S51200x4x512, .f32⟩
  | 121 => ⟨S51200x4x512, .f32⟩
  | 122 => ⟨S_, .f32⟩
  | 123 => ⟨S51200x4x512, .f32⟩
  | 124 => ⟨S51200x4x512, .f32⟩
  | 125 => ⟨S_, .f32⟩
  | 126 => ⟨S51200x4x512, .f32⟩
  | 127 => ⟨S51200x4x512, .f32⟩
  | _ => ⟨S49152x1152, .f32⟩

abbrev hbmTy0_1 (i : Nat) : BufTy := match i % 128 with
  | 0 => ⟨S51200x4x512, .f32⟩
  | 1 => ⟨S1x4x1024x512, .bf16⟩
  | 2 => ⟨S4x1024x512, .bf16⟩
  | 3 => ⟨S4x1024x512, .f32⟩
  | 4 => ⟨S51200x4x512, .f32⟩
  | 5 => ⟨S51200x4x512, .f32⟩
  | 6 => ⟨S51200x1x4, .f32⟩
  | 7 => ⟨S51200x4, .f32⟩
  | 8 => ⟨S51200x4x1, .f32⟩
  | 9 => ⟨S51200x4x512, .f32⟩
  | 10 => ⟨S51200x4x512, .f32⟩
  | 11 => ⟨S1x4x512x1024, .bf16⟩
  | 12 => ⟨S4x512x1024, .bf16⟩
  | 13 => ⟨S4x512x1024, .f32⟩
  | 14 => ⟨S51200x1024, .f32⟩
  | 15 => ⟨S51200x1024, .f32⟩
  | 16 => ⟨S100, .i32⟩
  | 17 => ⟨S_, .i32⟩
  | 18 => ⟨S100, .i32⟩
  | 19 => ⟨S100, .i1⟩
  | 20 => ⟨S100x512, .i1⟩
  | 21 => ⟨S51200, .i1⟩
  | 22 => ⟨S51200x1, .i1⟩
  | 23 => ⟨S_, .f32⟩
  | 24 => ⟨S_, .f32⟩
  | 25 => ⟨S51200x1024, .i1⟩
  | 26 => ⟨S51200x1024, .f32⟩
  | 27 => ⟨S51200x1024, .f32⟩
  | _ => ⟨S49152x1152, .f32⟩

abbrev hbmTy (i : Nat) : BufTy := match i / 128 with
  | 0 => hbmTy0_0 i
  | 1 => hbmTy0_1 i
  | _ => ⟨S49152x1152, .f32⟩

abbrev bufTy : (tb : Table) → Fin (tcTables nBuf tb) → BufTy
  | .hbm, ⟨i, _⟩ => hbmTy i
  | _, _ => ⟨S49152x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call4_v0 : Ref sig .tc := ⟨.hbm, 120, rfl⟩
abbrev main_call4_v1 : Ref sig .tc := ⟨.hbm, 121, rfl⟩
abbrev main_call4_cst : Ref sig .tc := ⟨.hbm, 122, rfl⟩
abbrev main_call4_v2 : Ref sig .tc := ⟨.hbm, 123, rfl⟩
abbrev main_call4_v3 : Ref sig .tc := ⟨.hbm, 124, rfl⟩
abbrev main_call4_cst_0 : Ref sig .tc := ⟨.hbm, 125, rfl⟩
abbrev main_call4_v4 : Ref sig .tc := ⟨.hbm, 126, rfl⟩
abbrev main_call4_v5 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_1 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v104 : Ref sig .tc := ⟨.hbm, 155, rfl⟩

abbrev nD : Nat := 1
abbrev τ : Topo := Topo.v7x

variable {F : FTy → Type} [FloatOps F]
-- ==== Kernel3.lean ====
abbrev S49152x1024 : Shape := ⟨2, ![49152, 1024]⟩
abbrev S1024x3072 : Shape := ⟨2, ![1024, 3072]⟩
abbrev S48 : Shape := ⟨1, ![48]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S1x49152x3072 : Shape := ⟨3, ![1, 49152, 3072]⟩
abbrev S1024x1024 : Shape := ⟨2, ![1024, 1024]⟩
abbrev S3x1024x128 : Shape := ⟨3, ![3, 1024, 128]⟩
abbrev S1 : Shape := ⟨1, ![1]⟩
abbrev S1x1024x3072 : Shape := ⟨3, ![1, 1024, 3072]⟩
abbrev S4x1024x128 : Shape := ⟨3, ![4, 1024, 128]⟩
abbrev S2x4x256x128 : Shape := ⟨4, ![2, 4, 256, 128]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 42
  | .vmem => 9
  | .smem => 1
  | _ => 0

abbrev bufTy : (tb : Table) → Fin (tcTables nBuf tb) → BufTy
  | .hbm, ⟨0, _⟩ => ⟨S49152x1024, .bf16⟩
  | .hbm, ⟨1, _⟩ => ⟨S1024x3072, .bf16⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8192, .f32⟩
  | .hbm, ⟨11, _⟩ => ⟨S8192x1, .f32⟩
  | .hbm, ⟨12, _⟩ => ⟨S1x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192x48, .f32⟩
  | .hbm, ⟨20, _⟩ => ⟨S_, .f32⟩
  | .hbm, ⟨21, _⟩ => ⟨S8192x8, .f32⟩
  | .hbm, ⟨22, _⟩ => ⟨S_, .f32⟩
  | .hbm, ⟨23, _⟩ => ⟨S8192x48, .f32⟩
  | .hbm, ⟨24, _⟩ => ⟨S8192x64, .f32⟩
  | .hbm, ⟨25, _⟩ => ⟨S8192x64, .f32⟩
  | .hbm, ⟨26, _⟩ => ⟨S8192x8, .f32⟩
  | .hbm, ⟨27, _⟩ => ⟨S8192x64, .f32⟩
  | .hbm, ⟨28, _⟩ => ⟨S1x8192x1x64, .f32⟩
  | .hbm, ⟨29, _⟩ => ⟨S1x8192x2x64, .f32⟩
  | .hbm, ⟨30, _⟩ => ⟨S8192x128, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S1x8192x128, .f32⟩
  | .hbm, ⟨38, _⟩ => ⟨S1x8192x128, .f32⟩
  | .hbm, ⟨39, _⟩ => ⟨S1x8192x128, .f32⟩
  | .hbm, ⟨40, _⟩ => ⟨S3x8192x128, .f32⟩
  | .hbm, ⟨41, _⟩ => ⟨S1x49152x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S3x1024x128, .f32⟩
  | .local _ .vmem, ⟨4, _⟩ => ⟨S3x1024x128, .f32⟩
  | .local _ .vmem, ⟨5, _⟩ => ⟨S1x1024x3072, .bf16⟩
  | .local _ .vmem, ⟨6, _⟩ => ⟨S1x1024x3072, .bf16⟩
  | .local _ .vmem, ⟨7, _⟩ => ⟨S4x1024x128, .f32⟩
  | .local _ .vmem, ⟨8, _⟩ => ⟨S2x4x256x128, .f32⟩
  | .local _ .smem, ⟨0, _⟩ => ⟨S48, .i32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S49152x1024 : Shape := ⟨2, ![49152, 1024]⟩
abbrev S1024x3072 : Shape := ⟨2, ![1024, 3072]⟩
abbrev S49152x3072 : Shape := ⟨2, ![49152, 3072]⟩
abbrev S49152x3x16x64 : Shape := ⟨4, ![49152, 3, 16, 64]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S49152 : Shape := ⟨1, ![49152]⟩
abbrev S49152x1x16x64 : Shape := ⟨4, ![49152, 1, 16, 64]⟩
abbrev S49152x16x64 : Shape := ⟨3, ![49152, 16, 64]⟩
abbrev S_ : Shape := ⟨0, ![]⟩
abbrev S8 : Shape := ⟨1, ![8]⟩
abbrev S49152x1 : Shape := ⟨2, ![49152, 1]⟩
abbrev S1x8 : Shape := ⟨2, ![1, 8]⟩
abbrev S49152x8 : Shape := ⟨2, ![49152, 8]⟩
abbrev S49152x1x8 : Shape := ⟨3, ![49152, 1, 8]⟩
abbrev S49152x16x8 : Shape := ⟨3, ![49152, 16, 8]⟩
abbrev S49152x16x48 : Shape := ⟨3, ![49152, 16, 48]⟩
abbrev S1x49152x3072 : Shape := ⟨3, ![1, 49152, 3072]⟩

abbrev nBuf : Space → Nat
  | .hbm => 92
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S1024x3072, .bf16⟩
  | .hbm, ⟨2, _⟩ => ⟨S49152x1024, .f32⟩
  | .hbm, ⟨3, _⟩ => ⟨S1024x3072, .f32⟩
  | .hbm, ⟨4, _⟩ => ⟨S49152x3072, .f32⟩
  | .hbm, ⟨5, _⟩ => ⟨S49152x3x16x64, .f32⟩
  | .hbm, ⟨6, _⟩ => ⟨S8192, .f32⟩
  | .hbm, ⟨7, _⟩ => ⟨S1x8192, .f32⟩
  | .hbm, ⟨8, _⟩ => ⟨S4x8192, .f32⟩
  | .hbm, ⟨9, _⟩ => ⟨S32768, .f32⟩
  | .hbm, ⟨10, _⟩ => ⟨S4096, .f32⟩
  | .hbm, ⟨11, _⟩ => ⟨S1x4096, .f32⟩
  | .hbm, ⟨12, _⟩ => ⟨S4x4096, .f32⟩
  | .hbm, ⟨13, _⟩ => ⟨S16384, .f32⟩
  | .hbm, ⟨14, _⟩ => ⟨S49152, .f32⟩
  | .hbm, ⟨15, _⟩ => ⟨S49152x1x16x64, .f32⟩
  | .hbm, ⟨16, _⟩ => ⟨S49152x16x64, .f32⟩
  | .hbm, ⟨17, _⟩ => ⟨S_, .f32⟩
  | .hbm, ⟨18, _⟩ => ⟨S49152x16x64, .f32⟩
  | .hbm, ⟨19, _⟩ => ⟨S49152x16x64, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S49152x1, .f32⟩
  | .hbm, ⟨29, _⟩ => ⟨S1x8, .f32⟩
  | .hbm, ⟨30, _⟩ => ⟨S49152x8, .f32⟩
  | .hbm, ⟨31, _⟩ => ⟨S49152x8, .f32⟩
  | .hbm, ⟨32, _⟩ => ⟨S49152x8, .f32⟩
  | .hbm, ⟨33, _⟩ => ⟨S49152x8, .f32⟩
  | .hbm, ⟨34, _⟩ => ⟨S49152x1x8, .f32⟩
  | .hbm, ⟨35, _⟩ => ⟨S49152x8, .f32⟩
  | .hbm, ⟨36, _⟩ => ⟨S49152x1x8, .f32⟩
  | .hbm, ⟨37, _⟩ => ⟨S49152x16x8, .f32⟩
  | .hbm, ⟨38, _⟩ => ⟨S49152x16x8, .f32⟩
  | .hbm, ⟨39, _⟩ => ⟨S49152x16x8, .f32⟩
  | .hbm, ⟨40, _⟩ => ⟨S49152x16x8, .f32⟩
  | .hbm, ⟨41, _⟩ => ⟨S49152x16x8, .f32⟩
  | .hbm, ⟨42, _⟩ => ⟨S49152x16x8, .f32⟩
  | .hbm, ⟨43, _⟩ => ⟨S49152x16x8, .f32⟩
  | .hbm, ⟨44, _⟩ => ⟨S49152x16x8, .f32⟩
  | .hbm, ⟨45, _⟩ => ⟨S49152x16x8, .f32⟩
  | .hbm, ⟨46, _⟩ => ⟨S49152x16x8, .f32⟩
  | .hbm, ⟨47, _⟩ => ⟨S49152x16x8, .f32⟩
  | .hbm, ⟨48, _⟩ => ⟨S49152x16x8, .f32⟩
  | .hbm, ⟨49, _⟩ => ⟨S49152x16x48, .f32⟩
  | .hbm, ⟨50, _⟩ => ⟨S49152x16x64, .f32⟩
  | .hbm, ⟨51, _⟩ => ⟨S49152x1x16x64, .f32⟩
  | .hbm, ⟨52, _⟩ => ⟨S49152x16x64, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S49152x1, .f32⟩
  | .hbm, ⟨62, _⟩ => ⟨S1x8, .f32⟩
  | .hbm, ⟨63, _⟩ => ⟨S49152x8, .f32⟩
  | .hbm, ⟨64, _⟩ => ⟨S49152x8, .f32⟩
  | .hbm, ⟨65, _⟩ => ⟨S49152x8, .f32⟩
  | .hbm, ⟨66, _⟩ => ⟨S49152x8, .f32⟩
  | .hbm, ⟨67, _⟩ => ⟨S49152x1x8, .f32⟩
  | .hbm, ⟨68, _⟩ => ⟨S49152x8, .f32⟩
  | .hbm, ⟨69, _⟩ => ⟨S49152x1x8, .f32⟩
  | .hbm, ⟨70, _⟩ => ⟨S49152x16x8, .f32⟩
  | .hbm, ⟨71, _⟩ => ⟨S49152x16x8, .f32⟩
  | .hbm, ⟨72, _⟩ => ⟨S49152x16x8, .f32⟩
  | .hbm, ⟨73, _⟩ => ⟨S49152x16x8, .f32⟩
  | .hbm, ⟨74, _⟩ => ⟨S49152x16x8, .f32⟩
  | .hbm, ⟨75, _⟩ => ⟨S49152x16x8, .f32⟩
  | .hbm, ⟨76, _⟩ => ⟨S49152x16x8, .f32⟩
  | .hbm, ⟨77, _⟩ => ⟨S49152x16x8, .f32⟩
  | .hbm, ⟨78, _⟩ => ⟨S49152x16x8, .f32⟩
  | .hbm, ⟨79, _⟩ => ⟨S49152x16x8, .f32⟩
  | .hbm, ⟨80, _⟩ => ⟨S49152x16x8, .f32⟩
  | .hbm, ⟨81, _⟩ => ⟨S49152x16x8, .f32⟩
  | .hbm, ⟨82, _⟩ => ⟨S49152x16x48, .f32⟩
  | .hbm, ⟨83, _⟩ => ⟨S49152x16x64, .f32⟩
  | .hbm, ⟨84, _⟩ => ⟨S49152x1x16x64, .f32⟩
  | .hbm, ⟨85, _⟩ => ⟨S49152x16x64, .f32⟩
  | .hbm, ⟨86, _⟩ => ⟨S49152x1x16x64, .f32⟩
  | .hbm, ⟨87, _⟩ => ⟨S49152x1x16x64, .f32⟩
  | .hbm, ⟨88, _⟩ => ⟨S49152x1x16x64, .f32⟩
  | .hbm, ⟨89, _⟩ => ⟨S49152x3x16x64, .f32⟩
  | .hbm, ⟨90, _⟩ => ⟨S1x49152x3072, .f32⟩
  | .hbm, ⟨91, _⟩ => ⟨S1x49152x3072, .bf16⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩

abbrev nD : Nat := 1
abbrev τ : Topo := Topo.v7x

variable {F : FTy → Type} [FloatOps F]
-- ==== Kernel4.lean ====
abbrev S49152x1024 : Shape := ⟨2, ![49152, 1024]⟩
abbrev S1024x3072 : Shape := ⟨2, ![1024, 3072]⟩
abbrev S48 : Shape := ⟨1, ![48]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S4x12288x3072 : Shape := ⟨3, ![4, 12288, 3072]⟩
abbrev S1024x1024 : Shape := ⟨2, ![1024, 1024]⟩
abbrev S3x1024x128 : Shape := ⟨3, ![3, 1024, 128]⟩
abbrev S1 : Shape := ⟨1, ![1]⟩
abbrev S4x256x3072 : Shape := ⟨3, ![4, 256, 3072]⟩
abbrev S4x1024x128 : Shape := ⟨3, ![4, 1024, 128]⟩
abbrev S2x4x256x128 : Shape := ⟨4, ![2, 4, 256, 128]⟩
abbrev S1x1024x128 : Shape := ⟨3, ![1, 1024, 128]⟩
abbrev S1024x128 : Shape := ⟨2, ![1024, 128]⟩
abbrev S1024x256 : Shape := ⟨2, ![1024, 256]⟩
abbrev S1x256x128 : Shape := ⟨3, ![1, 256, 128]⟩
abbrev S256x128 : Shape := ⟨2, ![256, 128]⟩

abbrev nBuf : Space → Nat
  | .hbm => 42
  | .vmem => 9
  | .smem => 1
  | _ => 0

abbrev bufTy : (tb : Table) → Fin (tcTables nBuf tb) → BufTy
  | .hbm, ⟨0, _⟩ => ⟨S49152x1024, .bf16⟩
  | .hbm, ⟨1, _⟩ => ⟨S1024x3072, .bf16⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8192, .f32⟩
  | .hbm, ⟨11, _⟩ => ⟨S8192x1, .f32⟩
  | .hbm, ⟨12, _⟩ => ⟨S1x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S8192x8, .f32⟩
  | .hbm, ⟨18, _⟩ => ⟨S_, .f32⟩
  | .hbm, ⟨19, _⟩ => ⟨S8192x48, .f32⟩
  | .hbm, ⟨20, _⟩ => ⟨S_, .f32⟩
  | .hbm, ⟨21, _⟩ => ⟨S8192x8, .f32⟩
  | .hbm, ⟨22, _⟩ => ⟨S_, .f32⟩
  | .hbm, ⟨23, _⟩ => ⟨S8192x48, .f32⟩
  | .hbm, ⟨24, _⟩ => ⟨S8192x64, .f32⟩
  | .hbm, ⟨25, _⟩ => ⟨S8192x64, .f32⟩
  | .hbm, ⟨26, _⟩ => ⟨S8192x8, .f32⟩
  | .hbm, ⟨27, _⟩ => ⟨S8192x64, .f32⟩
  | .hbm, ⟨28, _⟩ => ⟨S1x8192x1x64, .f32⟩
  | .hbm, ⟨29, _⟩ => ⟨S1x8192x2x64, .f32⟩
  | .hbm, ⟨30, _⟩ => ⟨S8192x128, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S1x8192x128, .f32⟩
  | .hbm, ⟨38, _⟩ => ⟨S1x8192x128, .f32⟩
  | .hbm, ⟨39, _⟩ => ⟨S1x8192x128, .f32⟩
  | .hbm, ⟨40, _⟩ => ⟨S3x8192x128, .f32⟩
  | .hbm, ⟨41, _⟩ => ⟨S4x12288x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S3x1024x128, .f32⟩
  | .local _ .vmem, ⟨4, _⟩ => ⟨S3x1024x128, .f32⟩
  | .local _ .vmem, ⟨5, _⟩ => ⟨S4x256x3072, .bf16⟩
  | .local _ .vmem, ⟨6, _⟩ => ⟨S4x256x3072, .bf16⟩
  | .local _ .vmem, ⟨7, _⟩ => ⟨S4x1024x128, .f32⟩
  | .local _ .vmem, ⟨8, _⟩ => ⟨S2x4x256x128, .f32⟩
  | .local _ .smem, ⟨0, _⟩ => ⟨S48, .i32⟩
  | _, _ => ⟨S49152x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S48.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S48) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S49152x1024 : Shape := ⟨2, ![49152, 1024]⟩
abbrev S1024x3072 : Shape := ⟨2, ![1024, 3072]⟩
abbrev S49152x3072 : Shape := ⟨2, ![49152, 3072]⟩
abbrev S49152x3x16x64 : Shape := ⟨4, ![49152, 3, 16, 64]⟩
abbrev S8192 : Shape := ⟨1, ![8192]⟩
abbrev S1x8192 : Shape := ⟨2, ![1, 8192]⟩
abbrev S4x8192 : Shape := ⟨2, ![4, 8192]⟩
abbrev S32768 : Shape := ⟨1, ![32768]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S49152 : Shape := ⟨1, ![49152]⟩
abbrev S49152x1x16x64 : Shape := ⟨4, ![49152, 1, 16, 64]⟩
abbrev S49152x16x64 : Shape := ⟨3, ![49152, 16, 64]⟩
abbrev S_ : Shape := ⟨0, ![]⟩
abbrev S8 : Shape := ⟨1, ![8]⟩
abbrev S49152x1 : Shape := ⟨2, ![49152, 1]⟩
abbrev S1x8 : Shape := ⟨2, ![1, 8]⟩
abbrev S49152x8 : Shape := ⟨2, ![49152, 8]⟩
abbrev S49152x1x8 : Shape := ⟨3, ![49152, 1, 8]⟩
abbrev S49152x16x8 : Shape := ⟨3, ![49152, 16, 8]⟩
abbrev S49152x16x48 : Shape := ⟨3, ![49152, 16, 48]⟩
abbrev S12288x4x3072 : Shape := ⟨3, ![12288, 4, 3072]⟩
abbrev S4x12288x3072 : Shape := ⟨3, ![4, 12288, 3072]⟩

abbrev nBuf : Space → Nat
  | .hbm => 93
  | .vmem => 0
  | .smem => 0
  | _ => 0

abbrev bufTy : (tb : Table) → Fin (tcTables nBuf tb) → BufTy
  | .hbm, ⟨0, _⟩ => ⟨S49152x1024, .bf16⟩
  | .hbm, ⟨1, _⟩ => ⟨S1024x3072, .bf16⟩
  | .hbm, ⟨2, _⟩ => ⟨S49152x1024, .f32⟩
  | .hbm, ⟨3, _⟩ => ⟨S1024x3072, .f32⟩
  | .hbm, ⟨4, _⟩ => ⟨S49152x3072, .f32⟩
  | .hbm, ⟨5, _⟩ => ⟨S49152x3x16x64, .f32⟩
  | .hbm, ⟨6, _⟩ => ⟨S8192, .f32⟩
  | .hbm, ⟨7, _⟩ => ⟨S1x8192, .f32⟩
  | .hbm, ⟨8, _⟩ => ⟨S4x8192, .f32⟩
  | .hbm, ⟨9, _⟩ => ⟨S32768, .f32⟩
  | .hbm, ⟨10, _⟩ => ⟨S4096, .f32⟩
  | .hbm, ⟨11, _⟩ => ⟨S1x4096, .f32⟩
  | .hbm, ⟨12, _⟩ => ⟨S4x4096, .f32⟩
  | .hbm, ⟨13, _⟩ => ⟨S16384, .f32⟩
  | .hbm, ⟨14, _⟩ => ⟨S49152, .f32⟩
  | .hbm, ⟨15, _⟩ => ⟨S49152x1x16x64, .f32⟩
  | .hbm, ⟨16, _⟩ => ⟨S49152x16x64, .f32⟩
  | .hbm, ⟨17, _⟩ => ⟨S_, .f32⟩
  | .hbm, ⟨18, _⟩ => ⟨S49152x16x64, .f32⟩
  | .hbm, ⟨19, _⟩ => ⟨S49152x16x64, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S49152x1, .f32⟩
  | .hbm, ⟨29, _⟩ => ⟨S1x8, .f32⟩
  | .hbm, ⟨30, _⟩ => ⟨S49152x8, .f32⟩
  | .hbm, ⟨31, _⟩ => ⟨S49152x8, .f32⟩
  | .hbm, ⟨32, _⟩ => ⟨S49152x8, .f32⟩
  | .hbm, ⟨33, _⟩ => ⟨S49152x8, .f32⟩
  | .hbm, ⟨34, _⟩ => ⟨S49152x1x8, .f32⟩
  | .hbm, ⟨35, _⟩ => ⟨S49152x8, .f32⟩
  | .hbm, ⟨36, _⟩ => ⟨S49152x1x8, .f32⟩
  | .hbm, ⟨37, _⟩ => ⟨S49152x16x8, .f32⟩
  | .hbm, ⟨38, _⟩ => ⟨S49152x16x8, .f32⟩
  | .hbm, ⟨39, _⟩ => ⟨S49152x16x8, .f32⟩
  | .hbm, ⟨40, _⟩ => ⟨S49152x16x8, .f32⟩
  | .hbm, ⟨41, _⟩ => ⟨S49152x16x8, .f32⟩
  | .hbm, ⟨42, _⟩ => ⟨S49152x16x8, .f32⟩
  | .hbm, ⟨43, _⟩ => ⟨S49152x16x8, .f32⟩
  | .hbm, ⟨44, _⟩ => ⟨S49152x16x8, .f32⟩
  | .hbm, ⟨45, _⟩ => ⟨S49152x16x8, .f32⟩
  | .hbm, ⟨46, _⟩ => ⟨S49152x16x8, .f32⟩
  | .hbm, ⟨47, _⟩ => ⟨S49152x16x8, .f32⟩
  | .hbm, ⟨48, _⟩ => ⟨S49152x16x8, .f32⟩
  | .hbm, ⟨49, _⟩ => ⟨S49152x16x48, .f32⟩
  | .hbm, ⟨50, _⟩ => ⟨S49152x16x64, .f32⟩
  | .hbm, ⟨51, _⟩ => ⟨S49152x1x16x64, .f32⟩
  | .hbm, ⟨52, _⟩ => ⟨S49152x16x64, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S49152x1, .f32⟩
  | .hbm, ⟨62, _⟩ => ⟨S1x8, .f32⟩
  | .hbm, ⟨63, _⟩ => ⟨S49152x8, .f32⟩
  | .hbm, ⟨64, _⟩ => ⟨S49152x8, .f32⟩
  | .hbm, ⟨65, _⟩ => ⟨S49152x8, .f32⟩
  | .hbm, ⟨66, _⟩ => ⟨S49152x8, .f32⟩
  | .hbm, ⟨67, _⟩ => ⟨S49152x1x8, .f32⟩
  | .hbm, ⟨68, _⟩ => ⟨S49152x8, .f32⟩
  | .hbm, ⟨69, _⟩ => ⟨S49152x1x8, .f32⟩
  | .hbm, ⟨70, _⟩ => ⟨S49152x16x8, .f32⟩
  | .hbm, ⟨71, _⟩ => ⟨S49152x16x8, .f32⟩
  | .hbm, ⟨72, _⟩ => ⟨S49152x16x8, .f32⟩
  | .hbm, ⟨73, _⟩ => ⟨S49152x16x8, .f32⟩
  | .hbm, ⟨74, _⟩ => ⟨S49152x16x8, .f32⟩
  | .hbm, ⟨75, _⟩ => ⟨S49152x16x8, .f32⟩
  | .hbm, ⟨76, _⟩ => ⟨S49152x16x8, .f32⟩
  | .hbm, ⟨77, _⟩ => ⟨S49152x16x8, .f32⟩
  | .hbm, ⟨78, _⟩ => ⟨S49152x16x8, .f32⟩
  | .hbm, ⟨79, _⟩ => ⟨S49152x16x8, .f32⟩
  | .hbm, ⟨80, _⟩ => ⟨S49152x16x8, .f32⟩
  | .hbm, ⟨81, _⟩ => ⟨S49152x16x8, .f32⟩
  | .hbm, ⟨82, _⟩ => ⟨S49152x16x48, .f32⟩
  | .hbm, ⟨83, _⟩ => ⟨S49152x16x64, .f32⟩
  | .hbm, ⟨84, _⟩ => ⟨S49152x1x16x64, .f32⟩
  | .hbm, ⟨85, _⟩ => ⟨S49152x16x64, .f32⟩
  | .hbm, ⟨86, _⟩ => ⟨S49152x1x16x64, .f32⟩
  | .hbm, ⟨87, _⟩ => ⟨S49152x1x16x64, .f32⟩
  | .hbm, ⟨88, _⟩ => ⟨S49152x1x16x64, .f32⟩
  | .hbm, ⟨89, _⟩ => ⟨S49152x3x16x64, .f32⟩
  | .hbm, ⟨90, _⟩ => ⟨S12288x4x3072, .f32⟩
  | .hbm, ⟨91, _⟩ => ⟨S4x12288x3072, .f32⟩
  | .hbm, ⟨92, _⟩ => ⟨S4x12288x3072, .bf16⟩
  | _, _ => ⟨S49152x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_cst_2 : Ref sig .tc := ⟨.hbm, 55, rfl⟩
abbrev main_v50 : Ref sig .tc := ⟨.hbm, 56, rfl⟩
abbrev main_v51 : Ref sig .tc := ⟨.hbm, 57, rfl⟩
abbrev main_cst_3 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩

abbrev nD : Nat := 1
abbrev τ : Topo := Topo.v7x

variable {F : FTy → Type} [FloatOps F]
-- ==== Proof.KI.Model.lean ====
/-
  What one grid point of the differential attention computes, as functions of its blocks, at any `FloatOps F`:
  the scores of one block of 512 keys, their column maxima, one step of the running softmax, and the state after
  `n` blocks of keys.  The functions are the program's own stored values (`Gen.k0_payN`) under names; the equations
  say that the copies of these values that the program carries for its second head, its prologue and its epilogue
  are the same functions.
-/
module

public import proofs.«01_k».proof.Proof.Gen.KernelIdeal
public import proofs.«01_k».proof.Proof.Gen.KernelIdeal.Skeleton
public import Idealize.ShloMosaic.Lib.VecWindow
public import Idealize.ShloMosaic.Lib.Pipeline.FrameBody
public import Idealize.ShloMosaic.Lib.Pointwise.Index

@[expose] public section

set_option maxRecDepth 16384

noncomputable section

namespace Cert.Proof.KernelIdeal

open Cert.KernelIdeal Cert.KernelIdeal.Gen
open Idealize.ShloMosaic Idealize.ShloMosaic.TcCoe

variable {F : FTy → Type} [FloatOps F]

/-! ## The blocks of keys and of values -/

/-- Rows `512 n … 512 n + 511` and columns `128 h … 128 h + 127` of the key block. -/
def kblk (X : Vec F S1x8192x256 .bf16) (h n : ℕ) : Vec F S1x512x128 .bf16 := fun y =>
  X (ix3 (0 : Fin 1) (⟨(512 * n + (y 1).val) % 8192, Nat.mod_lt _ (by decide)⟩ : Fin 8192)
    (⟨(128 * h + (y 2).val) % 256, Nat.mod_lt _ (by decide)⟩ : Fin 256))

/-- Tile `(h, n)` of the value block: 144 rows (128 values, then rows of ones) by 512 keys. -/
def vblk (X : Vec F S2x16x144x512 .bf16) (h n : ℕ) : Vec F S1x1x144x512 .bf16 := fun y =>
  X (ix4 (⟨h % 2, Nat.mod_lt _ (by decide)⟩ : Fin 2) (⟨n % 16, Nat.mod_lt _ (by decide)⟩ : Fin 16)
    (⟨(y 2).val, (y 2).isLt⟩ : Fin 144) (⟨(y 3).val, (y 3).isLt⟩ : Fin 512))

/-- Columns `128 h … 128 h + 127` of the query block. -/
def qblk (X : Vec F S1x512x256 .bf16) (h : ℕ) : Vec F S1x512x128 .bf16 := fun y =>
  X (ix3 (0 : Fin 1) (⟨(y 1).val, (y 1).isLt⟩ : Fin 512)
    (⟨(128 * h + (y 2).val) % 256, Nat.mod_lt _ (by decide)⟩ : Fin 256))

/-- A load of 512 rows and 128 columns of the keys reads `kblk`. -/
theorem readAt_kblk {sp : Space} (v : View sig .tc sp S1x8192x256 .bf16) (f : v.ty.Contents (Elt F)) {off : Fin 3 → ℕ}
    (inb : ∀ a, off a + S1x512x128.size a ≤ S1x8192x256.size a) (h n : ℕ) (ho : off = ![0, 512 * n, 128 * h])
    (hn : n < 16) (hh : h < 2) :
    v.readAt (Elt F) (Rect.unit (s := S1x8192x256) off S1x512x128.size inb).toLoadRect f = kblk (v.read (Elt F) f) h n := by
  subst ho
  funext y
  refine congrArg (v.read (Elt F) f) (funext fun a => Fin.ext ?_)
  have h0 : (y 0).val < 1 := (y 0).isLt
  have h1 : (y 1).val < 512 := (y 1).isLt
  have h2 : (y 2).val < 128 := (y 2).isLt
  fin_cases a
  · show 0 + 1 * (y 0).val = 0; omega
  · show 512 * n + 1 * (y 1).val = (512 * n + (y 1).val) % 8192; omega
  · show 128 * h + 1 * (y 2).val = (128 * h + (y 2).val) % 256; omega

/-- A load of one tile of the values reads `vblk`. -/
theorem readAt_vblk {sp : Space} (v : View sig .tc sp S2x16x144x512 .bf16) (f : v.ty.Contents (Elt F)) {off : Fin 4 → ℕ}
    (inb : ∀ a, off a + S1x1x144x512.size a ≤ S2x16x144x512.size a) (h n : ℕ) (ho : off = ![h, n, 0, 0])
    (hn : n < 16) (hh : h < 2) :
    v.readAt (Elt F) (Rect.unit (s := S2x16x144x512) off S1x1x144x512.size inb).toLoadRect f = vblk (v.read (Elt F) f) h n := by
  subst ho
  funext y
  refine congrArg (v.read (Elt F) f) (funext fun a => Fin.ext ?_)
  have h0 : (y 0).val < 1 := (y 0).isLt
  have h1 : (y 1).val < 1 := (y 1).isLt
  fin_cases a
  · show h + 1 * (y 0).val = h % 2; omega
  · show n + 1 * (y 1).val = n % 16; omega
  · show 0 + 1 * (y 2).val = (y 2).val; omega
  · show 0 + 1 * (y 3).val = (y 3).val; omega

/-- A load of 128 columns of the queries reads `qblk`. -/
theorem readAt_qblk {sp : Space} (v : View sig .tc sp S1x512x256 .bf16) (f : v.ty.Contents (Elt F)) {off : Fin 3 → ℕ}
    (inb : ∀ a, off a + S1x512x128.size a ≤ S1x512x256.size a) (h : ℕ) (ho : off = ![0, 0, 128 * h]) (hh : h < 2) :
    v.readAt (Elt F) (Rect.unit (s := S1x512x256) off S1x512x128.size inb).toLoadRect f = qblk (v.read (Elt F) f) h := by
  subst ho
  funext y
  refine congrArg (v.read (Elt F) f) (funext fun a => Fin.ext ?_)
  have h0 : (y 0).val < 1 := (y 0).isLt
  have h2 : (y 2).val < 128 := (y 2).isLt
  fin_cases a
  · show 0 + 1 * (y 0).val = 0; omega
  · show 0 + 1 * (y 1).val = (y 1).val; omega
  · show 128 * h + 1 * (y 2).val = (128 * h + (y 2).val) % 256; omega

/-! ## Whole-buffer loads and stores of rank 2 -/

/-- A load of the whole of a rank-2 buffer reads what the buffer reads. -/
theorem rd2 {a b : ℕ} {sp : Space} {e : EltTy} (v : View sig .tc sp ⟨2, ![a, b]⟩ e) (f : v.ty.Contents (Elt F))
    (inb : ∀ i, (![0, 0] : Fin 2 → ℕ) i + (![a, b] : Fin 2 → ℕ) i ≤ (⟨2, ![a, b]⟩ : Shape).size i) :
    v.readAt (Elt F) (Rect.unit (s := ⟨2, ![a, b]⟩) ![0, 0] ![a, b] inb).toLoadRect f = v.read (Elt F) f :=
  View.readAt_full v f inb

/-- A store of the whole of a rank-2 buffer leaves the payload. -/
theorem wr2 {a b : ℕ} {sp : Space} {e : EltTy} (v : View sig .tc sp ⟨2, ![a, b]⟩ e) (f : v.ty.Contents (Elt F))
    (inb : ∀ i, (![0, 0] : Fin 2 → ℕ) i + (![a, b] : Fin 2 → ℕ) i ≤ (⟨2, ![a, b]⟩ : Shape).size i)
    (w : (⟨2, ![a, b]⟩ : Shape).Idx → Elt F e) (L : List (View.Piece (Elt F) ⟨2, ![a, b]⟩ e)) :
    v.read (Elt F) (v.writes (Elt F) f (⟨Rect.unit (s := ⟨2, ![a, b]⟩) ![0, 0] ![a, b] inb, w⟩ :: L)) = w :=
  View.read_writes_full v f inb w L

/-- A load of the whole of a rank-2 buffer after a store of the whole reads the payload. -/
theorem cov2 {a b : ℕ} {sp : Space} {e : EltTy} (v : View sig .tc sp ⟨2, ![a, b]⟩ e)
    (inb inb' : ∀ i, (![0, 0] : Fin 2 → ℕ) i + (![a, b] : Fin 2 → ℕ) i ≤ (⟨2, ![a, b]⟩ : Shape).size i)
    (w : (⟨2, ![a, b]⟩ : Shape).Idx → Elt F e) (L : List (View.Piece (Elt F) ⟨2, ![a, b]⟩ e)) :
    v.readCov (⟨Rect.unit (s := ⟨2, ![a, b]⟩) ![0, 0] ![a, b] inb', w⟩ :: L)
      (Rect.unit (s := ⟨2, ![a, b]⟩) ![0, 0] ![a, b] inb).toLoadRect = w :=
  View.readCov_full v inb inb' w L

/-! ## One step -/

/-- The scores of one block of keys against one transposed query map: keys down, queries across. -/
def scr (k : Vec F S1x512x128 .bf16) (q : Vec F S128x512 .bf16) : Vec F S512x512 .f32 := k0_pay4 k q
/-- The column maxima of `scr` over each residue of the key modulo 8. -/
def mxb (k : Vec F S1x512x128 .bf16) (q : Vec F S128x512 .bf16) : Vec F S8x512 .f32 := k0_pay5 k q
/-- The running maximum after a block whose partial maxima are `x`. -/
def mUp (m : Vec F S1x512 .f32) (x : Vec F S8x512 .f32) : Vec F S1x512 .f32 := k0_pay12 m x
/-- The running sums after a block: rescaled to the new maximum, the block's weighted values added. -/
def aUp (v : Vec F S1x1x144x512 .bf16) (m : Vec F S1x512 .f32) (x : Vec F S8x512 .f32) (s : Vec F S512x512 .f32)
    (a : Vec F S144x512 .f32) : Vec F S144x512 .f32 := k0_pay11 (k0_pay9 v) m x s a

/-- The running maximum after `n` blocks. -/
def mSt (X6 : Vec F S1x8192x256 .bf16) (h : ℕ) (q : Vec F S128x512 .bf16) : ℕ → Vec F S1x512 .f32
  | 0 => k0_pay61
  | n + 1 => mUp (mSt X6 h q n) (mxb (kblk X6 h n) q)

/-- The running sums after `n` blocks. -/
def aSt (X6 : Vec F S1x8192x256 .bf16) (X7 : Vec F S2x16x144x512 .bf16) (h : ℕ) (q : Vec F S128x512 .bf16) : ℕ → Vec F S144x512 .f32
  | 0 => k0_pay62
  | n + 1 => aUp (vblk X7 h n) (mSt X6 h q n) (mxb (kblk X6 h n) q) (scr (kblk X6 h n) q) (aSt X6 X7 h q n)

/-- The first transposed query map: rows 64 and up zeroed. -/
def qa (v : Vec F S1x512x128 .bf16) : Vec F S128x512 .bf16 := k0_pay59 v
/-- The second transposed query map: rows below 64 zeroed. -/
def qb (v : Vec F S1x512x128 .bf16) : Vec F S128x512 .bf16 := k0_pay60 v

/-! ## What one grid point stores -/

/-- Head `h`'s result (query, feature) from the point's blocks: the two maps' sums after the 16 blocks of keys,
    divided by their row of weights, subtracted, normalised and scaled. -/
def headOut (X3 : Vec F S4x64 .f32) (X4 : Vec F S128x1 .f32) (X5 : Vec F S1x512x256 .bf16) (X6 : Vec F S1x8192x256 .bf16)
    (X7 : Vec F S2x16x144x512 .bf16) (h : ℕ) : Vec F S1x512x128 .bf16 :=
  k0_pay99 (k0_pay98 X3) (aSt X6 X7 h (qa (qblk X5 h)) 16) (aSt X6 X7 h (qb (qblk X5 h)) 16) X4

/-- The stored block: columns `128 h … 128 h + 127` are head `h`'s result. -/
def outB (X3 : Vec F S4x64 .f32) (X4 : Vec F S128x1 .f32) (X5 : Vec F S1x512x256 .bf16) (X6 : Vec F S1x8192x256 .bf16)
    (X7 : Vec F S2x16x144x512 .bf16) : Vec F S1x512x256 .bf16 := fun y =>
  headOut X3 X4 X5 X6 X7 ((y 2).val / 128)
    (ix3 (0 : Fin 1) (⟨(y 1).val, (y 1).isLt⟩ : Fin 512) (⟨(y 2).val % 128, Nat.mod_lt _ (by decide)⟩ : Fin 128))

/-- The two stores of the body, one head each, leave `outB`. -/
theorem read_outB {sp : Space} (v : View sig .tc sp S1x512x256 .bf16) (f : v.ty.Contents (Elt F))
    (X3 : Vec F S4x64 .f32) (X4 : Vec F S128x1 .f32) (X5 : Vec F S1x512x256 .bf16) (X6 : Vec F S1x8192x256 .bf16)
    (X7 : Vec F S2x16x144x512 .bf16)
    (inb1 : ∀ a, (![0, 0, 128] : Fin 3 → ℕ) a + S1x512x128.size a ≤ S1x512x256.size a)
    (inb0 : ∀ a, (![0, 0, 0] : Fin 3 → ℕ) a + S1x512x128.size a ≤ S1x512x256.size a)
    (w1 w0 : Vec F S1x512x128 .bf16) (e1 : w1 = headOut X3 X4 X5 X6 X7 1) (e0 : w0 = headOut X3 X4 X5 X6 X7 0) :
    v.read (Elt F) (v.writes (Elt F) f
      [⟨Rect.unit (s := S1x512x256) ![0, 0, 128] S1x512x128.size inb1, w1⟩,
       ⟨Rect.unit (s := S1x512x256) ![0, 0, 0] S1x512x128.size inb0, w0⟩]) = outB X3 X4 X5 X6 X7 := by
  subst e1 e0
  funext y
  have h0 : (y 0).val < 1 := (y 0).isLt
  have h1 : (y 1).val < 512 := (y 1).isLt
  have h2 : (y 2).val < 256 := (y 2).isLt
  by_cases hc : 128 ≤ (y 2).val
  · rw [View.read_writes_cons_unit_of_mem v f inb1 _ _ y
      (ix3 (0 : Fin 1) (⟨(y 1).val, h1⟩ : Fin 512) (⟨(y 2).val % 128, Nat.mod_lt _ (by decide)⟩ : Fin 128)) rfl
      (fun a => by
        fin_cases a
        · show (y 0).val = 0 + 0; omega
        · show (y 1).val = 0 + (y 1).val; omega
        · show (y 2).val = 128 + (y 2).val % 128; omega)]
    have hd : (y 2).val / 128 = 1 := by omega
    unfold outB; rw [hd]
  · rw [View.read_writes_cons_unit_of_not_mem v f inb1 _ _ y rfl 2 (Or.inl (by show (y 2).val < 128; omega)),
      View.read_writes_cons_unit_of_mem v f inb0 _ _ y
      (ix3 (0 : Fin 1) (⟨(y 1).val, h1⟩ : Fin 512) (⟨(y 2).val % 128, Nat.mod_lt _ (by decide)⟩ : Fin 128)) rfl
      (fun a => by
        fin_cases a
        · show (y 0).val = 0 + 0; omega
        · show (y 1).val = 0 + (y 1).val; omega
        · show (y 2).val = 0 + (y 2).val % 128; omega)]
    have hd : (y 2).val / 128 = 0 := by omega
    unfold outB; rw [hd]

end Cert.Proof.KernelIdeal

end
-- ==== Proof.KI.Trip.lean ====
/-
  The two counted loops (the pairs of key blocks of the first head, then of the second): what the buffers hold before a
  trip, and one trip at a symbolic trip number.
-/
module

public import proofs.«01_k».proof.Proof.KI.Model
public import proofs.«01_k».proof.Proof.Gen.KernelIdeal.Frame
public import proofs.«01_k».proof.Proof.Gen.KernelIdeal.Loops
public import Idealize.ShloMosaic.Lib.Tactic
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the frame kit's. -/
abbrev UU (nD : Nat) (τ : Topo) : Type := UR sig nD τ
abbrev 𝒱₀ : Variants := Variants.none

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The buffer held whole, at contents that read `X`. -/
abbrev hold (c : Dev nD) {sp : Space} {S : Shape} {e : EltTy} (M : Memref sig .tc sp S e) (X : S.Idx → Elt F e) : sProp 𝕄 :=
  iprop(∃ f : Bf (F := F) c M, pt c M f ∗ ⌜M.view.read (Elt F) f = X⌝)
/-- The buffer held whole, at any contents. -/
abbrev any (c : Dev nD) {sp : Space} {S : Shape} {e : EltTy} (M : Memref sig .tc sp S e) : sProp 𝕄 :=
  iprop(∃ f : Bf (F := F) c M, pt c M f)

/-- What the loops' buffers hold before trip `k` of head `h`: the keys, the values and the two query maps as they were;
    the first score buffers at block `2 k`'s scores and partial maxima; the second ones at anything; the running maxima
    and sums of both maps at their values after `2 k` blocks. -/
abbrev loopI (c : Dev nD) (h : ℕ) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X6 : Vec F S1x8192x256 .bf16) (X7 : Vec F S2x16x144x512 .bf16) (Q1 Q2 : Vec F S128x512 .bf16) (k : ℕ) : sProp 𝕄 :=
  iprop(hold c arg6 X6 ∗ hold c arg7 X7 ∗ hold c arg9 Q1 ∗ hold c arg10 Q2
    ∗ hold c arg11 (scr (kblk X6 h (2 * k)) Q1) ∗ hold c arg12 (scr (kblk X6 h (2 * k)) Q2)
    ∗ any (F := F) c arg13 ∗ any (F := F) c arg14
    ∗ hold c arg15 (mxb (kblk X6 h (2 * k)) Q1) ∗ hold c arg16 (mxb (kblk X6 h (2 * k)) Q2)
    ∗ any (F := F) c arg17 ∗ any (F := F) c arg18
    ∗ hold c arg19 (mSt X6 h Q1 (2 * k)) ∗ hold c arg20 (aSt X6 X7 h Q1 (2 * k))
    ∗ hold c arg21 (mSt X6 h Q2 (2 * k)) ∗ hold c arg22 (aSt X6 X7 h Q2 (2 * k)))

set_option maxHeartbeats 4000000 in
/-- One trip of the first head's loop: from the state before pair `k` of key blocks to the state after it. -/
theorem trip1 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X6 : Vec F S1x8192x256 .bf16) (X7 : Vec F S2x16x144x512 .bf16) (Q1 Q2 : Vec F S128x512 .bf16) (k : Fin k0_t1_loop.trips) (z1 z2 : BitVec 32) :
    loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k.val
    ⊢ wp frame (wpE (defs₀ (F := F)) 𝒱₀ c none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1 z2 k ())
        (fun _ => loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (k.val + 1)) := by
  unfold k0_t1_body
  iintro ⟨⟨%f6, H6, %h6⟩, ⟨%f7, H7, %h7⟩, ⟨%f9, H9, %h9⟩, ⟨%f10, H10, %h10⟩, ⟨%f11, H11, %h11⟩, ⟨%f12, H12, %h12⟩,
    ⟨%f13, H13⟩, ⟨%f14, H14⟩, ⟨%f15, H15, %h15⟩, ⟨%f16, H16, %h16⟩, ⟨%f17, H17⟩, ⟨%f18, H18⟩,
    ⟨%f19, H19, %h19⟩, ⟨%f20, H20, %h20⟩, ⟨%f21, H21, %h21⟩, ⟨%f22, H22, %h22⟩⟩
  sl_exec_parts
  sl_step
  have hk : k.val < 7 := k.isLt
  have hk1 : View.readAt (Elt F) arg6.view (Rect.unit (s := S1x8192x256) (k0_off1 k 1#32) ![1, 512, 128] (k0_off1_inb k 0)).toLoadRect f6 = kblk X6 0 (2 * k.val + 1) :=
    (readAt_kblk arg6.view f6 _ 0 (2 * k.val + 1) ((k0_off1_eq k 0).trans (by congr 2; omega)) (by omega) (by decide)).trans (by rw [h6])
  have hk2 : View.readAt (Elt F) arg6.view (Rect.unit (s := S1x8192x256) (k0_off1 k 2#32) ![1, 512, 128] (k0_off1_inb k 1)).toLoadRect f6 = kblk X6 0 (2 * (k.val + 1)) :=
    (readAt_kblk arg6.view f6 _ 0 (2 * (k.val + 1)) ((k0_off1_eq k 1).trans (by congr 2; omega)) (by omega) (by decide)).trans (by rw [h6])
  have hv1 : View.readAt (Elt F) arg7.view (Rect.unit (s := S2x16x144x512) (k0_off2 k) ![1, 1, 144, 512] (k0_off2_inb k)).toLoadRect f7 = vblk X7 0 (2 * k.val) :=
    (readAt_vblk arg7.view f7 _ 0 (2 * k.val) (k0_off2_eq k) (by omega) (by decide)).trans (by rw [h7])
  have hv2 : View.readAt (Elt F) arg7.view (Rect.unit (s := S2x16x144x512) (k0_off3 k) ![1, 1, 144, 512] (k0_off3_inb k)).toLoadRect f7 = vblk X7 0 (2 * k.val + 1) :=
    (readAt_vblk arg7.view f7 _ 0 (2 * k.val + 1) (k0_off3_eq k) (by omega) (by decide)).trans (by rw [h7])
  isplitl [H6]
  · iexists _; isplitl [H6]; · iexact H6
    ipureintro; exact h6
  isplitl [H7]
  · iexists _; isplitl [H7]; · iexact H7
    ipureintro; exact h7
  isplitl [H9]
  · iexists _; isplitl [H9]; · iexact H9
    ipureintro; exact h9
  isplitl [H10]
  · iexists _; isplitl [H10]; · iexact H10
    ipureintro; exact h10
  isplitl [H11]
  · iexists _; isplitl [H11]; · iexact H11
    ipureintro
    sl_open_run; simp only [wr2, cov2, rd2, hk1, hk2, hv1, hv2, h9, h10, h11, h12, h15, h16, h19, h20, h21, h22]; rfl
  isplitl [H12]
  · iexists _; isplitl [H12]; · iexact H12
    ipureintro
    sl_open_run; simp only [wr2, cov2, rd2, hk1, hk2, hv1, hv2, h9, h10, h11, h12, h15, h16, h19, h20, h21, h22]; rfl
  isplitl [H13]; · iexists _; iexact H13
  isplitl [H14]; · iexists _; iexact H14
  isplitl [H15]
  · iexists _; isplitl [H15]; · iexact H15
    ipureintro
    sl_open_run; simp only [wr2, cov2, rd2, hk1, hk2, hv1, hv2, h9, h10, h11, h12, h15, h16, h19, h20, h21, h22]; rfl
  isplitl [H16]
  · iexists _; isplitl [H16]; · iexact H16
    ipureintro
    sl_open_run; simp only [wr2, cov2, rd2, hk1, hk2, hv1, hv2, h9, h10, h11, h12, h15, h16, h19, h20, h21, h22]; rfl
  isplitl [H17]; · iexists _; iexact H17
  isplitl [H18]; · iexists _; iexact H18
  isplitl [H19]
  · iexists _; isplitl [H19]; · iexact H19
    ipureintro
    sl_open_run; simp only [wr2, cov2, rd2, hk1, hk2, hv1, hv2, h9, h10, h11, h12, h15, h16, h19, h20, h21, h22]; rfl
  isplitl [H20]
  · iexists _; isplitl [H20]; · iexact H20
    ipureintro
    sl_open_run; simp only [wr2, cov2, rd2, hk1, hk2, hv1, hv2, h9, h10, h11, h12, h15, h16, h19, h20, h21, h22]; rfl
  isplitl [H21]
  · iexists _; isplitl [H21]; · iexact H21
    ipureintro
    sl_open_run; simp only [wr2, cov2, rd2, hk1, hk2, hv1, hv2, h9, h10, h11, h12, h15, h16, h19, h20, h21, h22]; rfl
  iexists _; isplitl [H22]; · iexact H22
  ipureintro
  sl_open_run; simp only [wr2, cov2, rd2, hk1, hk2, hv1, hv2, h9, h10, h11, h12, h15, h16, h19, h20, h21, h22]; rfl

set_option maxHeartbeats 4000000 in
/-- One trip of the second head's loop. -/
theorem trip2 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X6 : Vec F S1x8192x256 .bf16) (X7 : Vec F S2x16x144x512 .bf16) (Q1 Q2 : Vec F S128x512 .bf16) (k : Fin k0_t2_loop.trips) (z1 : BitVec 32) :
    loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k.val
    ⊢ wp frame (wpE (defs₀ (F := F)) 𝒱₀ c none) Set.univ (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1 k ())
        (fun _ => loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (k.val + 1)) := by
  unfold k0_t2_body
  iintro ⟨⟨%f6, H6, %h6⟩, ⟨%f7, H7, %h7⟩, ⟨%f9, H9, %h9⟩, ⟨%f10, H10, %h10⟩, ⟨%f11, H11, %h11⟩, ⟨%f12, H12, %h12⟩,
    ⟨%f13, H13⟩, ⟨%f14, H14⟩, ⟨%f15, H15, %h15⟩, ⟨%f16, H16, %h16⟩, ⟨%f17, H17⟩, ⟨%f18, H18⟩,
    ⟨%f19, H19, %h19⟩, ⟨%f20, H20, %h20⟩, ⟨%f21, H21, %h21⟩, ⟨%f22, H22, %h22⟩⟩
  sl_exec_parts
  sl_step
  have hk : k.val < 7 := k.isLt
  have hk1 : View.readAt (Elt F) arg6.view (Rect.unit (s := S1x8192x256) (k0_off4 k 1#32) ![1, 512, 128] (k0_off4_inb k 0)).toLoadRect f6 = kblk X6 1 (2 * k.val + 1) :=
    (readAt_kblk arg6.view f6 _ 1 (2 * k.val + 1) ((k0_off4_eq k 0).trans (by congr 2; omega)) (by omega) (by decide)).trans (by rw [h6])
  have hk2 : View.readAt (Elt F) arg6.view (Rect.unit (s := S1x8192x256) (k0_off4 k 2#32) ![1, 512, 128] (k0_off4_inb k 1)).toLoadRect f6 = kblk X6 1 (2 * (k.val + 1)) :=
    (readAt_kblk arg6.view f6 _ 1 (2 * (k.val + 1)) ((k0_off4_eq k 1).trans (by congr 2; omega)) (by omega) (by decide)).trans (by rw [h6])
  have hv1 : View.readAt (Elt F) arg7.view (Rect.unit (s := S2x16x144x512) (k0_off5 k) ![1, 1, 144, 512] (k0_off5_inb k)).toLoadRect f7 = vblk X7 1 (2 * k.val) :=
    (readAt_vblk arg7.view f7 _ 1 (2 * k.val) (k0_off5_eq k) (by omega) (by decide)).trans (by rw [h7])
  have hv2 : View.readAt (Elt F) arg7.view (Rect.unit (s := S2x16x144x512) (k0_off6 k) ![1, 1, 144, 512] (k0_off6_inb k)).toLoadRect f7 = vblk X7 1 (2 * k.val + 1) :=
    (readAt_vblk arg7.view f7 _ 1 (2 * k.val + 1) (k0_off6_eq k) (by omega) (by decide)).trans (by rw [h7])
  isplitl [H6]
  · iexists _; isplitl [H6]; · iexact H6
    ipureintro; exact h6
  isplitl [H7]
  · iexists _; isplitl [H7]; · iexact H7
    ipureintro; exact h7
  isplitl [H9]
  · iexists _; isplitl [H9]; · iexact H9
    ipureintro; exact h9
  isplitl [H10]
  · iexists _; isplitl [H10]; · iexact H10
    ipureintro; exact h10
  isplitl [H11]
  · iexists _; isplitl [H11]; · iexact H11
    ipureintro
    sl_open_run; simp only [wr2, cov2, rd2, hk1, hk2, hv1, hv2, h9, h10, h11, h12, h15, h16, h19, h20, h21, h22]; rfl
  isplitl [H12]
  · iexists _; isplitl [H12]; · iexact H12
    ipureintro
    sl_open_run; simp only [wr2, cov2, rd2, hk1, hk2, hv1, hv2, h9, h10, h11, h12, h15, h16, h19, h20, h21, h22]; rfl
  isplitl [H13]; · iexists _; iexact H13
  isplitl [H14]; · iexists _; iexact H14
  isplitl [H15]
  · iexists _; isplitl [H15]; · iexact H15
    ipureintro
    sl_open_run; simp only [wr2, cov2, rd2, hk1, hk2, hv1, hv2, h9, h10, h11, h12, h15, h16, h19, h20, h21, h22]; rfl
  isplitl [H16]
  · iexists _; isplitl [H16]; · iexact H16
    ipureintro
    sl_open_run; simp only [wr2, cov2, rd2, hk1, hk2, hv1, hv2, h9, h10, h11, h12, h15, h16, h19, h20, h21, h22]; rfl
  isplitl [H17]; · iexists _; iexact H17
  isplitl [H18]; · iexists _; iexact H18
  isplitl [H19]
  · iexists _; isplitl [H19]; · iexact H19
    ipureintro
    sl_open_run; simp only [wr2, cov2, rd2, hk1, hk2, hv1, hv2, h9, h10, h11, h12, h15, h16, h19, h20, h21, h22]; rfl
  isplitl [H20]
  · iexists _; isplitl [H20]; · iexact H20
    ipureintro
    sl_open_run; simp only [wr2, cov2, rd2, hk1, hk2, hv1, hv2, h9, h10, h11, h12, h15, h16, h19, h20, h21, h22]; rfl
  isplitl [H21]
  · iexists _; isplitl [H21]; · iexact H21
    ipureintro
    sl_open_run; simp only [wr2, cov2, rd2, hk1, hk2, hv1, hv2, h9, h10, h11, h12, h15, h16, h19, h20, h21, h22]; rfl
  iexists _; isplitl [H22]; · iexact H22
  ipureintro
  sl_open_run; simp only [wr2, cov2, rd2, hk1, hk2, hv1, hv2, h9, h10, h11, h12, h15, h16, h19, h20, h21, h22]; rfl

end Cert.Proof.KernelIdeal

end
-- ==== Proof.KI.Body.lean ====
/-
  The kernel's body at one grid point, run once at symbolic operands: from the five input blocks held, the output block
  and the scratch buffers at anything, it returns the inputs as they were and the output block at `outB`.
-/
module

public import proofs.«01_k».proof.Proof.KI.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Head 0's loop: from the state before the first pair of key blocks, the continuation from the state after the seventh. -/
theorem loop1 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X6 : Vec F S1x8192x256 .bf16) (X7 : Vec F S2x16x144x512 .bf16) (Q1 Q2 : Vec F S128x512 .bf16) (z1 z2 : BitVec 32)
    {β : Type} {kk : Unit → Prog (TpuEff nD τ sig (Elt F) Λ₀ .tc) β} {Q : β → sProp 𝕄} :
    loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 0
    ⊢ iprop((loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 7 -∗ wp frame (wpE (defs₀ (F := F)) 𝒱₀ c none) Set.univ (kk ()) Q)
      -∗ wp frame (wpE (defs₀ (F := F)) 𝒱₀ c none) Set.univ
          (Scf.Loop.for k0_t1_loop k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1 z2) >>= kk) Q) := by
  have hend : loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (Scf.trips k0_t1_loop.lb k0_t1_loop.ub k0_t1_loop.st)
      ⊢ loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 7 := .rfl
  have hrun : loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 0
      ⊢ iprop((∀ acc : Unit, loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (Scf.trips k0_t1_loop.lb k0_t1_loop.ub k0_t1_loop.st)
          -∗ wp frame (wpE (defs₀ (F := F)) 𝒱₀ c none) Set.univ (kk acc) Q)
        -∗ wp frame (wpE (defs₀ (F := F)) 𝒱₀ c none) Set.univ
          (Scf.Loop.for k0_t1_loop k0_t1_ok () (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1 z2) >>= kk) Q) :=
    Scf.wp_for_bind _ _ _ _ _ _ _ _ _ (fun k _ => loopI c 0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k)
      (fun k _ => trip1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k z1 z2)
  iintro H Hk
  iapply hrun $$ H
  iintro %acc Hl
  iapply Hk
  iapply hend $$ Hl

/-- Head 1's loop: from the state before the first pair of key blocks, the continuation from the state after the seventh. -/
theorem loop2 (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X6 : Vec F S1x8192x256 .bf16) (X7 : Vec F S2x16x144x512 .bf16) (Q1 Q2 : Vec F S128x512 .bf16) (z1 : BitVec 32)
    {β : Type} {kk : Unit → Prog (TpuEff nD τ sig (Elt F) Λ₀ .tc) β} {Q : β → sProp 𝕄} :
    loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 0
    ⊢ iprop((loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 7 -∗ wp frame (wpE (defs₀ (F := F)) 𝒱₀ c none) Set.univ (kk ()) Q)
      -∗ wp frame (wpE (defs₀ (F := F)) 𝒱₀ c none) Set.univ
          (Scf.Loop.for k0_t2_loop k0_t2_ok () (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1) >>= kk) Q) := by
  have hend : loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (Scf.trips k0_t2_loop.lb k0_t2_loop.ub k0_t2_loop.st)
      ⊢ loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 7 := .rfl
  have hrun : loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 0
      ⊢ iprop((∀ acc : Unit, loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 (Scf.trips k0_t2_loop.lb k0_t2_loop.ub k0_t2_loop.st)
          -∗ wp frame (wpE (defs₀ (F := F)) 𝒱₀ c none) Set.univ (kk acc) Q)
        -∗ wp frame (wpE (defs₀ (F := F)) 𝒱₀ c none) Set.univ
          (Scf.Loop.for k0_t2_loop k0_t2_ok () (k0_t2_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 z1) >>= kk) Q) :=
    Scf.wp_for_bind _ _ _ _ _ _ _ _ _ (fun k _ => loopI c 1 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k)
      (fun k _ => trip2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 Q1 Q2 k z1)
  iintro H Hk
  iapply hrun $$ H
  iintro %acc Hl
  iapply Hk
  iapply hend $$ Hl

set_option maxHeartbeats 8000000 in
/-- The body's triple. -/
theorem kernelRun (c : Dev nD) (i : grid0.Coords) (arg3 : Memref sig .tc .vmem S4x64 .f32) (harg3 : arg3.IsWhole) (arg4 : Memref sig .tc .vmem S128x1 .f32) (harg4 : arg4.IsWhole) (arg5 : Memref sig .tc .vmem S1x512x256 .bf16) (harg5 : arg5.IsWhole) (arg6 : Memref sig .tc .vmem S1x8192x256 .bf16) (harg6 : arg6.IsWhole) (arg7 : Memref sig .tc .vmem S2x16x144x512 .bf16) (harg7 : arg7.IsWhole) (arg8 : Memref sig .tc .vmem S1x512x256 .bf16) (harg8 : arg8.IsWhole) (arg9 : Memref sig .tc .vmem S128x512 .bf16) (harg9 : arg9.IsWhole) (arg10 : Memref sig .tc .vmem S128x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S8x512 .f32) (harg15 : arg15.IsWhole) (arg16 : Memref sig .tc .vmem S8x512 .f32) (harg16 : arg16.IsWhole) (arg17 : Memref sig .tc .vmem S8x512 .f32) (harg17 : arg17.IsWhole) (arg18 : Memref sig .tc .vmem S8x512 .f32) (harg18 : arg18.IsWhole) (arg19 : Memref sig .tc .vmem S1x512 .f32) (harg19 : arg19.IsWhole) (arg20 : Memref sig .tc .vmem S144x512 .f32) (harg20 : arg20.IsWhole) (arg21 : Memref sig .tc .vmem S1x512 .f32) (harg21 : arg21.IsWhole) (arg22 : Memref sig .tc .vmem S144x512 .f32) (harg22 : arg22.IsWhole)
    (X3 : Vec F S4x64 .f32) (X4 : Vec F S128x1 .f32) (X5 : Vec F S1x512x256 .bf16) (X6 : Vec F S1x8192x256 .bf16)
    (X7 : Vec F S2x16x144x512 .bf16) (Q : PUnit → sProp 𝕄) :
    iprop(hold c arg3 X3 ∗ hold c arg4 X4 ∗ hold c arg5 X5 ∗ hold c arg6 X6 ∗ hold c arg7 X7 ∗ any (F := F) c arg8
      ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20 ∗ any (F := F) c arg21 ∗ any (F := F) c arg22
      ∗ (iprop(hold c arg3 X3 ∗ hold c arg4 X4 ∗ hold c arg5 X5 ∗ hold c arg6 X6 ∗ hold c arg7 X7 ∗ hold c arg8 (outB X3 X4 X5 X6 X7)
          ∗ any (F := F) c arg9 ∗ any (F := F) c arg10 ∗ any (F := F) c arg11 ∗ any (F := F) c arg12 ∗ any (F := F) c arg13 ∗ any (F := F) c arg14 ∗ any (F := F) c arg15 ∗ any (F := F) c arg16 ∗ any (F := F) c arg17 ∗ any (F := F) c arg18 ∗ any (F := F) c arg19 ∗ any (F := F) c arg20 ∗ any (F := F) c arg21 ∗ any (F := F) c arg22) -∗ Q ⟨⟩))
    ⊢ wp frame (wpE (defs₀ (F := F)) 𝒱₀ c none) Set.univ (cc0_da_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) Q := by
  iintro ⟨⟨%f3, H3, %h3⟩, ⟨%f4, H4, %h4⟩, ⟨%f5, H5, %h5⟩, ⟨%f6, H6, %h6⟩, ⟨%f7, H7, %h7⟩, ⟨%f8, H8⟩, ⟨%f9, H9⟩, ⟨%f10, H10⟩, ⟨%f11, H11⟩, ⟨%f12, H12⟩,
    ⟨%f13, H13⟩, ⟨%f14, H14⟩, ⟨%f15, H15⟩, ⟨%f16, H16⟩, ⟨%f17, H17⟩, ⟨%f18, H18⟩,
    ⟨%f19, H19⟩, ⟨%f20, H20⟩, ⟨%f21, H21⟩, ⟨%f22, H22⟩, Hk⟩
  sl_exec
  iapply (loop1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 (qa (qblk X5 0)) (qb (qblk X5 0)) 0#32 1#32) $$ [H6 H7 H9 H10 H11 H12 H13 H14 H15 H16 H17 H18 H19 H20 H21 H22]
  · have hk0 : View.readAt (Elt F) arg6.view (Rect.unit (s := S1x8192x256) ![0, 0, 0] ![1, 512, 128] inb_S1x8192x256_S1x512x128_0_0_0).toLoadRect f6 = kblk X6 0 0 :=
      (readAt_kblk arg6.view f6 _ 0 0 rfl (by decide) (by decide)).trans (by rw [h6])
    have hq : View.readAt (Elt F) arg5.view (Rect.unit (s := S1x512x256) ![0, 0, 0] ![1, 512, 128] inb_S1x512x256_S1x512x128_0_0_0).toLoadRect f5 = qblk X5 0 :=
      (readAt_qblk arg5.view f5 _ 0 rfl (by decide)).trans (by rw [h5])
    isplitl [H6]
    · iexists _; isplitl [H6]; · iexact H6
      ipureintro; exact h6
    isplitl [H7]
    · iexists _; isplitl [H7]; · iexact H7
      ipureintro; exact h7
    isplitl [H9]
    · iexists _; isplitl [H9]; · iexact H9
      ipureintro; sl_open_run; simp only [wr2, cov2, rd2, hk0, hq]; rfl
    isplitl [H10]
    · iexists _; isplitl [H10]; · iexact H10
      ipureintro; sl_open_run; simp only [wr2, cov2, rd2, hk0, hq]; rfl
    isplitl [H11]
    · iexists _; isplitl [H11]; · iexact H11
      ipureintro; sl_open_run; simp only [wr2, cov2, rd2, hk0, hq]; rfl
    isplitl [H12]
    · iexists _; isplitl [H12]; · iexact H12
      ipureintro; sl_open_run; simp only [wr2, cov2, rd2, hk0, hq]; rfl
    isplitl [H13]; · iexists _; iexact H13
    isplitl [H14]; · iexists _; iexact H14
    isplitl [H15]
    · iexists _; isplitl [H15]; · iexact H15
      ipureintro; sl_open_run; simp only [wr2, cov2, rd2, hk0, hq]; rfl
    isplitl [H16]
    · iexists _; isplitl [H16]; · iexact H16
      ipureintro; sl_open_run; simp only [wr2, cov2, rd2, hk0, hq]; rfl
    isplitl [H17]; · iexists _; iexact H17
    isplitl [H18]; · iexists _; iexact H18
    isplitl [H19]
    · iexists _; isplitl [H19]; · iexact H19
      ipureintro; sl_open_run; simp only [wr2, cov2, rd2, hk0, hq]; rfl
    isplitl [H20]
    · iexists _; isplitl [H20]; · iexact H20
      ipureintro; sl_open_run; simp only [wr2, cov2, rd2, hk0, hq]; rfl
    isplitl [H21]
    · iexists _; isplitl [H21]; · iexact H21
      ipureintro; sl_open_run; simp only [wr2, cov2, rd2, hk0, hq]; rfl
    iexists _; isplitl [H22]; · iexact H22
    ipureintro; sl_open_run; simp only [wr2, cov2, rd2, hk0, hq]; rfl
  iintro ⟨⟨%f6a, H6, %h6a⟩, ⟨%f7a, H7, %h7a⟩, ⟨%f9a, H9, %h9a⟩, ⟨%f10a, H10, %h10a⟩, ⟨%f11a, H11, %h11a⟩, ⟨%f12a, H12, %h12a⟩, ⟨%f13a, H13⟩, ⟨%f14a, H14⟩, ⟨%f15a, H15, %h15a⟩, ⟨%f16a, H16, %h16a⟩, ⟨%f17a, H17⟩, ⟨%f18a, H18⟩, ⟨%f19a, H19, %h19a⟩, ⟨%f20a, H20, %h20a⟩, ⟨%f21a, H21, %h21a⟩, ⟨%f22a, H22, %h22a⟩⟩
  sl_exec
  iapply (loop2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X6 X7 (qa (qblk X5 1)) (qb (qblk X5 1)) 0#32) $$ [H6 H7 H9 H10 H11 H12 H13 H14 H15 H16 H17 H18 H19 H20 H21 H22]
  · have hk0 : View.readAt (Elt F) arg6.view (Rect.unit (s := S1x8192x256) ![0, 0, 128] ![1, 512, 128] inb_S1x8192x256_S1x512x128_0_0_128).toLoadRect f6a = kblk X6 1 0 :=
      (readAt_kblk arg6.view f6a _ 1 0 rfl (by decide) (by decide)).trans (by rw [h6a])
    have hq : View.readAt (Elt F) arg5.view (Rect.unit (s := S1x512x256) ![0, 0, 128] ![1, 512, 128] inb_S1x512x256_S1x512x128_0_0_128).toLoadRect f5 = qblk X5 1 :=
      (readAt_qblk arg5.view f5 _ 1 rfl (by decide)).trans (by rw [h5])
    isplitl [H6]
    · iexists _; isplitl [H6]; · iexact H6
      ipureintro; exact h6a
    isplitl [H7]
    · iexists _; isplitl [H7]; · iexact H7
      ipureintro; exact h7a
    isplitl [H9]
    · iexists _; isplitl [H9]; · iexact H9
      ipureintro; sl_open_run; simp only [wr2, cov2, rd2, hk0, hq]; rfl
    isplitl [H10]
    · iexists _; isplitl [H10]; · iexact H10
      ipureintro; sl_open_run; simp only [wr2, cov2, rd2, hk0, hq]; rfl
    isplitl [H11]
    · iexists _; isplitl [H11]; · iexact H11
      ipureintro; sl_open_run; simp only [wr2, cov2, rd2, hk0, hq]; rfl
    isplitl [H12]
    · iexists _; isplitl [H12]; · iexact H12
      ipureintro; sl_open_run; simp only [wr2, cov2, rd2, hk0, hq]; rfl
    isplitl [H13]; · iexists _; iexact H13
    isplitl [H14]; · iexists _; iexact H14
    isplitl [H15]
    · iexists _; isplitl [H15]; · iexact H15
      ipureintro; sl_open_run; simp only [wr2, cov2, rd2, hk0, hq]; rfl
    isplitl [H16]
    · iexists _; isplitl [H16]; · iexact H16
      ipureintro; sl_open_run; simp only [wr2, cov2, rd2, hk0, hq]; rfl
    isplitl [H17]; · iexists _; iexact H17
    isplitl [H18]; · iexists _; iexact H18
    isplitl [H19]
    · iexists _; isplitl [H19]; · iexact H19
      ipureintro; sl_open_run; simp only [wr2, cov2, rd2, hk0, hq]; rfl
    isplitl [H20]
    · iexists _; isplitl [H20]; · iexact H20
      ipureintro; sl_open_run; simp only [wr2, cov2, rd2, hk0, hq]; rfl
    isplitl [H21]
    · iexists _; isplitl [H21]; · iexact H21
      ipureintro; sl_open_run; simp only [wr2, cov2, rd2, hk0, hq]; rfl
    iexists _; isplitl [H22]; · iexact H22
    ipureintro; sl_open_run; simp only [wr2, cov2, rd2, hk0, hq]; rfl
  iintro ⟨⟨%f6b, H6, %h6b⟩, ⟨%f7b, H7, %h7b⟩, ⟨%f9b, H9, %h9b⟩, ⟨%f10b, H10, %h10b⟩, ⟨%f11b, H11, %h11b⟩, ⟨%f12b, H12, %h12b⟩, ⟨%f13b, H13⟩, ⟨%f14b, H14⟩, ⟨%f15b, H15, %h15b⟩, ⟨%f16b, H16, %h16b⟩, ⟨%f17b, H17⟩, ⟨%f18b, H18⟩, ⟨%f19b, H19, %h19b⟩, ⟨%f20b, H20, %h20b⟩, ⟨%f21b, H21, %h21b⟩, ⟨%f22b, H22, %h22b⟩⟩
  sl_exec
  sl_step
  iapply Hk
  isplitl [H3]
  · iexists _; isplitl [H3]; · iexact H3
    ipureintro; exact h3
  isplitl [H4]
  · iexists _; isplitl [H4]; · iexact H4
    ipureintro; exact h4
  isplitl [H5]
  · iexists _; isplitl [H5]; · iexact H5
    ipureintro; exact h5
  isplitl [H6]
  · iexists _; isplitl [H6]; · iexact H6
    ipureintro; exact h6b
  isplitl [H7]
  · iexists _; isplitl [H7]; · iexact H7
    ipureintro; exact h7b
  isplitl [H8]
  · iexists _; isplitl [H8]; · iexact H8
    ipureintro
    have ka : View.readAt (Elt F) arg6.view (Rect.unit (s := S1x8192x256) ![0, 7680, 0] ![1, 512, 128] inb_S1x8192x256_S1x512x128_0_7680_0).toLoadRect f6a = kblk X6 0 15 :=
      (readAt_kblk arg6.view f6a _ 0 15 rfl (by decide) (by decide)).trans (by rw [h6a])
    have va : View.readAt (Elt F) arg7.view (Rect.unit (s := S2x16x144x512) ![0, 14, 0, 0] ![1, 1, 144, 512] inb_S2x16x144x512_S1x1x144x512_0_14_0_0).toLoadRect f7a = vblk X7 0 14 :=
      (readAt_vblk arg7.view f7a _ 0 14 rfl (by decide) (by decide)).trans (by rw [h7a])
    have va' : View.readAt (Elt F) arg7.view (Rect.unit (s := S2x16x144x512) ![0, 15, 0, 0] ![1, 1, 144, 512] inb_S2x16x144x512_S1x1x144x512_0_15_0_0).toLoadRect f7a = vblk X7 0 15 :=
      (readAt_vblk arg7.view f7a _ 0 15 rfl (by decide) (by decide)).trans (by rw [h7a])
    have kb : View.readAt (Elt F) arg6.view (Rect.unit (s := S1x8192x256) ![0, 7680, 128] ![1, 512, 128] inb_S1x8192x256_S1x512x128_0_7680_128).toLoadRect f6b = kblk X6 1 15 :=
      (readAt_kblk arg6.view f6b _ 1 15 rfl (by decide) (by decide)).trans (by rw [h6b])
    have vb : View.readAt (Elt F) arg7.view (Rect.unit (s := S2x16x144x512) ![1, 14, 0, 0] ![1, 1, 144, 512] inb_S2x16x144x512_S1x1x144x512_1_14_0_0).toLoadRect f7b = vblk X7 1 14 :=
      (readAt_vblk arg7.view f7b _ 1 14 rfl (by decide) (by decide)).trans (by rw [h7b])
    have vb' : View.readAt (Elt F) arg7.view (Rect.unit (s := S2x16x144x512) ![1, 15, 0, 0] ![1, 1, 144, 512] inb_S2x16x144x512_S1x1x144x512_1_15_0_0).toLoadRect f7b = vblk X7 1 15 :=
      (readAt_vblk arg7.view f7b _ 1 15 rfl (by decide) (by decide)).trans (by rw [h7b])
    refine read_outB arg8.view f8 X3 X4 X5 X6 X7 _ _ _ _ ?_ ?_
    · sl_open_run; simp only [wr2, cov2, rd2, kb, vb, vb', h3, h4, h9b, h10b, h11b, h12b, h15b, h16b, h19b, h20b, h21b, h22b]; rfl
    · sl_open_run; simp only [wr2, cov2, rd2, ka, va, va', h3, h4, h9a, h10a, h11a, h12a, h15a, h16a, h19a, h20a, h21a, h22a]; rfl
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iexists _; iexact H22

end Cert.Proof.KernelIdeal

end
-- ==== Proof.KI.Run.lean ====
/-
  The run: the pipeline's proof data (each input window's buffer at its block, the output's at `outB` of the blocks),
  the body's obligation at every grid point, the run of the whole program, and the frame.
-/
module

public import proofs.«01_k».proof.Proof.KI.Body
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's resource algebra. -/
local notation "𝕄" => MT nD τ sig Unit (Elt F) ℕ (UR sig nD τ) ℕ

variable (m : (ℓ : Loc nD τ sig) → Buf (Elt F) ℓ) (ρ : Dev nD → PrngReg)

/-! ## Ownership of a whole memref, the two spellings -/

theorem hold_of_owns (c : Dev nD) {sp : Space} {sh : Shape} {e : EltTy} (M : Memref sig .tc sp sh e) (h : M.IsWhole) (X : sh.Idx → Elt F e) :
    (owns (c : Thread nD τ) M fullShare X : sProp 𝕄) ⊢ hold c M X := by
  unfold owns hold pt
  rw [h.set_eq_univ]
  iintro ⟨%f, %hf, H⟩
  iexists f; isplitl [H]; · iexact H
  ipureintro; exact hf

theorem owns_of_hold (c : Dev nD) {sp : Space} {sh : Shape} {e : EltTy} (M : Memref sig .tc sp sh e) (h : M.IsWhole) (X : sh.Idx → Elt F e) :
    (hold c M X : sProp 𝕄) ⊢ owns (c : Thread nD τ) M fullShare X := by
  unfold owns hold pt
  rw [h.set_eq_univ]
  iintro ⟨%f, H, %hf⟩
  iexists f; isplitr; · ipureintro; exact hf
  iexact H

theorem any_of_owns (c : Dev nD) {sp : Space} {sh : Shape} {e : EltTy} (M : Memref sig .tc sp sh e) (h : M.IsWhole) (X : sh.Idx → Elt F e) :
    (owns (c : Thread nD τ) M fullShare X : sProp 𝕄) ⊢ any (F := F) c M := by
  unfold owns any pt
  rw [h.set_eq_univ]
  iintro ⟨%f, -, H⟩
  iexists f; iexact H

/-! ## The pipeline's proof data -/

/-- What the body leaves in the output's buffer at point `t`. -/
def outsAt (c : Dev nD) (t : Fin cfg0.N) : Vec F S1x512x256 .bf16 :=
  outB (iblk m c 0 t) (iblk m c 1 t) (iblk m c 2 t) (iblk m c 3 t) (iblk m c 4 t)

/-- The arrays as launched; after the body each input's buffer at its block and the output's at `outsAt`; the invariant
    the scratch at any contents; nothing owed; the array that two windows read shared between them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m c t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `kernelRun` applies. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA outsAt
  rw [scopedRest0_eq]
  iintro ⟨⟨⟨S0, S1, S2, S3, S4, S5, S6, S7, S8, S9, S10, S11, S12, S13⟩, Hr⟩, Ho, ⟨%d0, H0⟩, ⟨%d1, H1⟩, ⟨%d2, H2⟩, ⟨%d3, H3⟩, ⟨%d4, H4⟩, ⟨%d5, H5⟩⟩
  iapply (kernelRun c _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) _)
  isplitl [H0]; · iapply (hold_of_owns c _ (hstage0_0 _) _) $$ H0
  isplitl [H1]; · iapply (hold_of_owns c _ (hstage0_1 _) _) $$ H1
  isplitl [H2]; · iapply (hold_of_owns c _ (hstage0_2 _) _) $$ H2
  isplitl [H3]; · iapply (hold_of_owns c _ (hstage0_3 _) _) $$ H3
  isplitl [H4]; · iapply (hold_of_owns c _ (hstage0_4 _) _) $$ H4
  isplitl [H5]; · iapply (any_of_owns c _ (hstage0_5 _) _) $$ H5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  iintro ⟨H0, H1, H2, H3, H4, H5, S0, S1, S2, S3, S4, S5, S6, S7, S8, S9, S10, S11, S12, S13⟩
  isplitl [S0 S1 S2 S3 S4 S5 S6 S7 S8 S9 S10 S11 S12 S13 Hr]
  · isplitr [Hr]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    · iexact Hr
  isplitl [Ho]; · iexact Ho
  isplitl [H0]; · iapply (owns_of_hold c _ (hstage0_0 _) _) $$ H0
  isplitl [H1]; · iapply (owns_of_hold c _ (hstage0_1 _) _) $$ H1
  isplitl [H2]; · iapply (owns_of_hold c _ (hstage0_2 _) _) $$ H2
  isplitl [H3]; · iapply (owns_of_hold c _ (hstage0_3 _) _) $$ H3
  isplitl [H4]; · iapply (owns_of_hold c _ (hstage0_4 _) _) $$ H4
  iapply (owns_of_hold c _ (hstage0_5 _) _) $$ H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- At the compiled mesh, for any values, from any memory with zero counters: every weakly fair execution of @main
    terminates, and every final state has every array of the pipeline at what the proof data say, and every semaphore
    counter at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m) (hΦ := fun _ _ => rfl)

/-- The frame: the program runs to its end and leaves its argument arrays as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.V.Ker.lean ====
/-
  The functions of one grid point (`KI.Model`) over the reals, read at an index.
-/
module

public import proofs.«01_k».proof.Proof.KI.Model
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe

/-- A score is a product of a key and a query over the 128 features of the head. -/
theorem scr_at (k : Vec Ideal S1x512x128 .bf16) (q : Vec Ideal S128x512 .bf16) (j c : Fin 512) :
    scr k q (ix2 j c) = (∑ x : Fin 128, k (ix3 (0 : Fin 1) j x) * q (ix2 x c) : EReal) := by
  pointwise [scr, k0_pay4, k0_pay3, k0_pay2]

/-- A partial maximum is one over 64 scores. -/
theorem mxb_at (k : Vec Ideal S1x512x128 .bf16) (q : Vec Ideal S128x512 .bf16) (j : Fin 8) (c : Fin 512) :
    mxb k q (ix2 j c) = Finset.univ.fold max (Ideal.ofBits .f32 0xFF800000#32) fun x : Fin 64 =>
      (∑ d : Fin 128, k (ix3 (0 : Fin 1) (⟨x.val * 8 + j.val, by omega⟩ : Fin 512) d) * q (ix2 d c) : EReal) := by
  pointwise [mxb, k0_pay5, k0_pay3, k0_pay2]

/-- The running maximum after a block. -/
theorem mUp_at (m : Vec Ideal S1x512 .f32) (x : Vec Ideal S8x512 .f32) (c : Fin 512) :
    mUp m x (ix2 (0 : Fin 1) c) = max (m (ix2 (0 : Fin 1) c)) (Finset.univ.fold max (Ideal.ofBits .f32 0xFF800000#32) fun i : Fin 8 => x (ix2 i c)) := by
  pointwise [mUp, k0_pay12, k0_pay10]

/-- The running sums after a block. -/
theorem aUp_at (v : Vec Ideal S1x1x144x512 .bf16) (m : Vec Ideal S1x512 .f32) (x : Vec Ideal S8x512 .f32) (s : Vec Ideal S512x512 .f32)
    (a : Vec Ideal S144x512 .f32) (r : Fin 144) (c : Fin 512) :
    aUp v m x s a (ix2 r c) = (Ideal.exp2 (m (ix2 (0 : Fin 1) c) - mUp m x (ix2 (0 : Fin 1) c)) * a (ix2 r c)
      + ∑ j : Fin 512, v (ix4 (0 : Fin 1) (0 : Fin 1) r j) * Ideal.exp2 (s (ix2 j c) - mUp m x (ix2 (0 : Fin 1) c)) : EReal) := by
  rw [mUp_at]
  pointwise [aUp, k0_pay9, k0_pay11, k0_pay10]
  rfl

/-- The first transposed query map. -/
theorem qa_at (q : Vec Ideal S1x512x128 .bf16) (r : Fin 128) (c : Fin 512) :
    qa q (ix2 r c) = if r.val < 64 then q (ix3 (0 : Fin 1) c r) else (0 : EReal) := by
  pointwise [qa, k0_pay59, k0_pay58]
  rw [(by decide +kernel : ∀ r : Fin 128, IntOp.cmpi .slt (BitVec.ofNat 32 r.val) 64#32 = if r.val < 64 then 1#1 else 0#1) r]
  split <;> rfl

/-- The second transposed query map. -/
theorem qb_at (q : Vec Ideal S1x512x128 .bf16) (r : Fin 128) (c : Fin 512) :
    qb q (ix2 r c) = if r.val < 64 then (0 : EReal) else q (ix3 (0 : Fin 1) c r) := by
  pointwise [qb, k0_pay60, k0_pay58]
  rw [(by decide +kernel : ∀ r : Fin 128, IntOp.cmpi .sge (BitVec.ofNat 32 r.val) 64#32 = if r.val < 64 then 0#1 else 1#1) r]
  split <;> rfl

theorem pay61_at (c : Fin 512) : k0_pay61 (F := Ideal) (ix2 (0 : Fin 1) c) = Ideal.ofBits .f32 0xF149F2CA#32 := by
  pointwise [k0_pay61]

theorem pay62_at (r : Fin 144) (c : Fin 512) : k0_pay62 (F := Ideal) (ix2 r c) = (0 : EReal) := by
  pointwise [k0_pay62]

/-- Lambda. -/
theorem pay98_at (L : Vec Ideal S4x64 .f32) : k0_pay98 L (ix2 (0 : Fin 1) (0 : Fin 1))
    = (Ideal.exp (∑ x : Fin 64, L (ix2 (0 : Fin 4) x) * L (ix2 (1 : Fin 4) x) : EReal)
    - Ideal.exp (∑ x : Fin 64, L (ix2 (2 : Fin 4) x) * L (ix2 (3 : Fin 4) x) : EReal) + Ideal.ofBits .f32 0x3E4CCCCD#32 : EReal) := by
  pointwise [k0_pay98]

/-- One feature of the norm, from the position's features `f`. -/
def nrm1 (f : Fin 128 → EReal) (g : EReal) (d : Fin 128) : EReal :=
  f d * Ideal.rsqrt (Ideal.div (∑ x, f x * f x) (Ideal.ofBits .f32 0x43000000#32) + Ideal.ofBits .f32 0x3727C5AC#32) * g
    * Ideal.ofBits .f32 0x3F4CCCCD#32

/-- One result of a head, from the two maps' sums. -/
theorem pay99_at (l : FVec Ideal S1x1 .f32) (a b : Vec Ideal S144x512 .f32) (g : Vec Ideal S128x1 .f32) (i : Fin 512) (d : Fin 128) :
    k0_pay99 l a b g (ix3 (0 : Fin 1) i d) = nrm1 (fun x => (a (ix2 (⟨x.val, by omega⟩ : Fin 144) i) * Ideal.div 1 (a (ix2 (128 : Fin 144) i))
      - l (ix2 (0 : Fin 1) (0 : Fin 1)) * (b (ix2 (⟨x.val, by omega⟩ : Fin 144) i) * Ideal.div 1 (b (ix2 (128 : Fin 144) i))) : EReal)) (g (ix2 d (0 : Fin 1))) d := by
  pointwise [k0_pay99, nrm1]

end Cert.Proof.KernelIdeal

end
-- ==== Proof.V.Real.lean ====
/-
  Facts about the extended reals that the value proof rests on: sums, maxima and quotients of reals are reals, and the
  softmax in base e of scores times log 2 is the softmax in base 2 of the scores.
-/
module

public import Idealize.ShloMosaic.Lib.IdealHost

@[expose] public section

noncomputable section

namespace Cert.Proof.Real

open Idealize.ShloMosaic Finset

/-- A finite sum of reals is a real. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem ofBits_negInf : Ideal.ofBits .f32 0xFF800000#32 = (⊥ : EReal) := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_m30 : ∃ r : ℝ, Ideal.ofBits .f32 0xF149F2CA#32 = (r : EReal) := by
  simp only [Ideal.ofBits, Ideal.ieee]
  rw [if_neg (by decide), if_neg (by decide)]
  exact ⟨_, rfl⟩

theorem ofBits_02 : ∃ r : ℝ, Ideal.ofBits .f32 0x3E4CCCCD#32 = (r : EReal) := by
  simp only [Ideal.ofBits, Ideal.ieee]
  rw [if_neg (by decide), if_neg (by decide)]
  exact ⟨_, rfl⟩

theorem log_two : Ideal.log (Ideal.ofBits .f32 0x40000000#32) = ((Real.log 2 : ℝ) : EReal) := by
  rw [ofBits_two, Ideal.log_coe, if_neg (by norm_num)]

/-- The maximum of reals, at least one of them, is a real. -/
theorem fold_real {n : ℕ} (i₀ : Fin n) (f : Fin n → EReal) (hf : ∀ i, ∃ r : ℝ, f i = r) :
    ∃ r : ℝ, Finset.univ.fold max (⊥ : EReal) f = r := by
  have h1 : Finset.univ.fold max (⊥ : EReal) f < ⊤ := by
    rw [Finset.fold_max_lt]
    exact ⟨bot_lt_top, fun i _ => by obtain ⟨r, hr⟩ := hf i; rw [hr]; exact EReal.coe_lt_top r⟩
  have h2 : ⊥ < Finset.univ.fold max (⊥ : EReal) f := by
    rw [Finset.lt_fold_max]
    exact Or.inr ⟨i₀, mem_univ _, by obtain ⟨r, hr⟩ := hf i₀; rw [hr]; exact EReal.bot_lt_coe r⟩
  exact ⟨_, (EReal.coe_toReal h1.ne h2.ne').symm⟩

theorem max_real {x y : EReal} (hx : ∃ r : ℝ, x = r) (hy : ∃ r : ℝ, y = r) : ∃ r : ℝ, max x y = r := by
  rcases max_choice x y with h | h <;> rw [h] <;> assumption

/-- A quotient of reals by a real other than zero. -/
theorem div_coe (a b : ℝ) (hb : b ≠ 0) : Ideal.div a b = ((a / b : ℝ) : EReal) := by
  unfold Ideal.div
  rw [if_neg (by exact_mod_cast hb), ← EReal.coe_inv, ← EReal.coe_mul, div_eq_mul_inv]

/-- The softmax weight in base 2 of key `j` among `n`. -/
def P (n : ℕ) (S : ℕ → ℝ) (j : ℕ) : ℝ := (2 : ℝ) ^ S j / ∑ i ∈ range n, (2 : ℝ) ^ S i

theorem sum_pow_pos {n : ℕ} (hn : 0 < n) (S : ℕ → ℝ) : 0 < ∑ i ∈ range n, (2 : ℝ) ^ S i :=
  Finset.sum_pos (fun i _ => Real.rpow_pos_of_pos two_pos _) ⟨0, by simpa using hn⟩

/-- The softmax in base e of the scores times log 2, with any real subtracted, is the softmax in base 2. -/
theorem softmax_two {n : ℕ} (hn : 0 < n) (S : ℕ → ℝ) (M : ℝ) (j : ℕ) :
    Real.exp (S j * Real.log 2 - M) / ∑ i ∈ range n, Real.exp (S i * Real.log 2 - M) = P n S j := by
  have h : ∀ i, Real.exp (S i * Real.log 2 - M) = (2 : ℝ) ^ S i * Real.exp (-M) := fun i => by
    rw [Real.rpow_def_of_pos two_pos, ← Real.exp_add]; ring_nf
  simp only [h, ← Finset.sum_mul, P]
  exact mul_div_mul_right _ _ (Real.exp_pos _).ne'

/-- Weights with any real subtracted in the exponent, over their sum, are the softmax in base 2. -/
theorem quot_two {n : ℕ} (hn : 0 < n) (S v : ℕ → ℝ) (M : ℝ) :
    (∑ j ∈ range n, v j * (2 : ℝ) ^ (S j - M)) * (1 / ∑ j ∈ range n, (2 : ℝ) ^ (S j - M)) = ∑ j ∈ range n, P n S j * v j := by
  have h : ∀ j, (2 : ℝ) ^ (S j - M) = (2 : ℝ) ^ S j * (2 : ℝ) ^ (-M) := fun j => by
    rw [← Real.rpow_add two_pos, sub_eq_add_neg]
  have h2 : (0 : ℝ) < (2 : ℝ) ^ (-M) := Real.rpow_pos_of_pos two_pos _
  simp only [h, ← mul_assoc, ← Finset.sum_mul, P]
  have h3 := sum_pow_pos hn S
  rw [Finset.sum_congr rfl (fun j _ => show (2 : ℝ) ^ S j / (∑ i ∈ range n, (2 : ℝ) ^ S i) * v j
    = (v j * (2 : ℝ) ^ S j) * (1 / ∑ i ∈ range n, (2 : ℝ) ^ S i) by ring), ← Finset.sum_mul]
  field_simp

/-- The running sums: rescaled at each block to that block's stabiliser, they are the weighted sum over all the blocks so
    far at the last stabiliser. -/
theorem running {S V : ℕ → ℕ → ℝ} {m a : ℕ → ℝ} (h0 : a 0 = 0) (N : ℕ)
    (hs : ∀ n < N, a (n + 1) = (2 : ℝ) ^ (m n - m (n + 1)) * a n + ∑ j ∈ range 512, V n j * (2 : ℝ) ^ (S n j - m (n + 1))) :
    ∀ n ≤ N, a n = ∑ i ∈ range n, ∑ j ∈ range 512, V i j * (2 : ℝ) ^ (S i j - m n) := by
  intro n
  induction n with
  | zero => intro _; simp [h0]
  | succ n ih =>
    intro hn
    rw [hs n (by omega), ih (by omega), Finset.sum_range_succ _ n, Finset.mul_sum]
    refine congrArg₂ (· + ·) (Finset.sum_congr rfl fun i _ => ?_) rfl
    rw [Finset.mul_sum]
    refine Finset.sum_congr rfl fun j _ => ?_
    rw [mul_left_comm, ← Real.rpow_add two_pos]
    congr 2; ring

/-- A sum over 16 blocks of 512 is a sum over 8192. -/
theorem sum_blocks (f : ℕ → ℝ) (N : ℕ) : ∑ i ∈ range N, ∑ j ∈ range 512, f (512 * i + j) = ∑ x ∈ range (512 * N), f x := by
  induction N with
  | zero => simp
  | succ n ih => rw [Finset.sum_range_succ _ n, ih, show 512 * (n + 1) = 512 * n + 512 from rfl, Finset.sum_range_add]

end Cert.Proof.Real

end
-- ==== Proof.V.Point.lean ====
/-
  What one grid point computes when its blocks hold reals: the scores, a real stabiliser, the running sums in closed form,
  and the difference of the two softmaxes applied to the values, which the norm is taken of.
-/
module

public import proofs.«01_k».proof.Proof.V.Ker
public import proofs.«01_k».proof.Proof.V.Real

@[expose] public section

set_option maxRecDepth 16384

noncomputable section

namespace Cert.Proof.KernelIdeal

open Cert.KernelIdeal Cert.KernelIdeal.Gen
open Idealize.ShloMosaic Idealize.ShloMosaic.TcCoe Cert.Proof.Real
open Finset

/-- The score of query `c` and key `j` in map `a` of head `h`, from queries `Q` and keys `K` by position and column. -/
def SS (K Q : ℕ → ℕ → ℝ) (h a c j : ℕ) : ℝ := ∑ d ∈ range 64, Q c (128 * h + 64 * a + d) * K j (128 * h + 64 * a + d)

/-- The transposed query map `a`. -/
def qm (a : Fin 2) (q : Vec Ideal S1x512x128 .bf16) : Vec Ideal S128x512 .bf16 := if a = 0 then qa q else qb q

/-- The 64 rows of a query map that are not zeroed. -/
theorem qm_at (a : Fin 2) (q : Vec Ideal S1x512x128 .bf16) (r : Fin 128) (c : Fin 512) :
    qm a q (ix2 r c) = if r.val / 64 = a.val then q (ix3 (0 : Fin 1) c r) else (0 : EReal) := by
  unfold qm
  by_cases ha : a = 0
  · subst ha
    rw [if_pos rfl, qa_at]
    by_cases hr : r.val < 64
    · rw [if_pos hr, if_pos (by show r.val / 64 = 0; omega)]
    · rw [if_neg hr, if_neg (by show ¬ r.val / 64 = 0; omega)]
  · have ha1 : a.val = 1 := by have := a.isLt; have h0 : a.val ≠ 0 := fun h => ha (Fin.ext h); omega
    rw [if_neg ha, qb_at, ha1]
    by_cases hr : r.val < 64
    · rw [if_pos hr, if_neg (by omega)]
    · rw [if_neg hr, if_pos (by omega)]

section
variable {X5 : Vec Ideal S1x512x256 .bf16} {X6 : Vec Ideal S1x8192x256 .bf16} {X7 : Vec Ideal S2x16x144x512 .bf16}
variable {Q K : ℕ → ℕ → ℝ} {V : ℕ → ℕ → ℕ → ℕ → ℝ}
variable (hQ : ∀ (c : Fin 512) (d : Fin 256), X5 (ix3 (0 : Fin 1) c d) = ((Q c.val d.val : ℝ) : EReal))
variable (hK : ∀ (j : Fin 8192) (d : Fin 256), X6 (ix3 (0 : Fin 1) j d) = ((K j.val d.val : ℝ) : EReal))
variable (hV : ∀ (h : Fin 2) (n : Fin 16) (r : Fin 144) (j : Fin 512), r.val ≤ 128 → X7 (ix4 h n r j) = ((V h.val n.val r.val j.val : ℝ) : EReal))
variable (a h : Fin 2)

include hK in
theorem kblk_real {n : ℕ} (hn : n < 16) (j : Fin 512) (x : Fin 128) :
    kblk X6 h.val n (ix3 (0 : Fin 1) j x) = ((K (512 * n + j.val) (128 * h.val + x.val) : ℝ) : EReal) := by
  have hh := h.isLt; have hj := j.isLt; have hx := x.isLt
  refine (hK _ _).trans ?_
  show ((K ((512 * n + j.val) % 8192) ((128 * h.val + x.val) % 256) : ℝ) : EReal) = _
  rw [Nat.mod_eq_of_lt (by omega), Nat.mod_eq_of_lt (by omega)]

include hQ in
theorem qblk_real (c : Fin 512) (x : Fin 128) :
    qblk X5 h.val (ix3 (0 : Fin 1) c x) = ((Q c.val (128 * h.val + x.val) : ℝ) : EReal) := by
  have hh := h.isLt; have hx := x.isLt
  refine (hQ _ _).trans ?_
  show ((Q c.val ((128 * h.val + x.val) % 256) : ℝ) : EReal) = _
  rw [Nat.mod_eq_of_lt (by omega)]

include hQ hK in
/-- A score over the 128 columns of the head, half of the queries zeroed, is the score of the map's 64 columns. -/
theorem score_real {n : ℕ} (hn : n < 16) (j c : Fin 512) :
    (∑ x : Fin 128, kblk X6 h.val n (ix3 (0 : Fin 1) j x) * qm a (qblk X5 h.val) (ix2 x c) : EReal) = ((SS K Q h.val a.val c.val (512 * n + j.val) : ℝ) : EReal) := by
  have e : ∀ x : Fin 128, (kblk X6 h.val n (ix3 (0 : Fin 1) j x) * qm a (qblk X5 h.val) (ix2 x c) : EReal)
      = (((if x.val / 64 = a.val then Q c.val (128 * h.val + x.val) * K (512 * n + j.val) (128 * h.val + x.val) else 0 : ℝ)) : EReal) := fun x => by
    rw [kblk_real hK h hn, qm_at]
    by_cases hx : x.val / 64 = a.val
    · rw [if_pos hx, if_pos hx, qblk_real hQ, ← EReal.coe_mul, mul_comm]
    · rw [if_neg hx, if_neg hx, mul_zero, EReal.coe_zero]
  rw [Finset.sum_congr rfl fun x _ => e x, coe_sum]
  congr 1
  rw [Fin.sum_univ_eq_sum_range (fun x => if x / 64 = a.val then Q c.val (128 * h.val + x) * K (512 * n + j.val) (128 * h.val + x) else 0) 128,
    show (128 : ℕ) = 64 + 64 from rfl, Finset.sum_range_add]
  unfold SS
  have ha := a.isLt
  rcases (by omega : a.val = 0 ∨ a.val = 1) with ha0 | ha1
  · rw [ha0, Finset.sum_eq_zero (s := range 64) (f := fun x => if (64 + x) / 64 = 0 then _ else _) (fun x hx => by
      rw [if_neg (by omega)]), add_zero]
    refine Finset.sum_congr rfl fun x hx => ?_
    have := Finset.mem_range.mp hx
    rw [if_pos (by omega)]
    simp only [Nat.mul_zero, Nat.add_zero]
  · rw [ha1, Finset.sum_eq_zero (s := range 64) (f := fun x => if x / 64 = 1 then _ else _) (fun x hx => by
      have := Finset.mem_range.mp hx
      rw [if_neg (by omega)]), zero_add]
    refine Finset.sum_congr rfl fun x hx => ?_
    have := Finset.mem_range.mp hx
    rw [if_pos (by omega)]
    simp only [Nat.mul_one, Nat.add_assoc]

include hQ hK in
/-- The stabiliser is a real after any number of blocks. -/
theorem mSt_real (c : Fin 512) : ∃ m : ℕ → ℝ, ∀ n ≤ 16, mSt X6 h.val (qm a (qblk X5 h.val)) n (ix2 (0 : Fin 1) c) = ((m n : ℝ) : EReal) := by
  have key : ∀ n, ∃ r : ℝ, n ≤ 16 → mSt X6 h.val (qm a (qblk X5 h.val)) n (ix2 (0 : Fin 1) c) = ((r : ℝ) : EReal) := by
    intro n
    induction n with
    | zero =>
      obtain ⟨r, hr⟩ := ofBits_m30
      exact ⟨r, fun _ => (pay61_at c).trans hr⟩
    | succ n ih =>
      by_cases hn : n + 1 ≤ 16
      · obtain ⟨r, hr⟩ := ih
        obtain ⟨r', hr'⟩ : ∃ r' : ℝ, mSt X6 h.val (qm a (qblk X5 h.val)) (n + 1) (ix2 (0 : Fin 1) c) = ((r' : ℝ) : EReal) := by
          show ∃ r' : ℝ, (mUp (F := Ideal) _ _ (ix2 (0 : Fin 1) c) : EReal) = ((r' : ℝ) : EReal)
          rw [mUp_at]
          refine max_real ⟨r, hr (by omega)⟩ ?_
          rw [ofBits_negInf]
          refine fold_real 0 _ fun i => ?_
          rw [mxb_at, ofBits_negInf]
          refine fold_real 0 _ fun x => ?_
          exact ⟨_, score_real hQ hK a h (by omega) _ _⟩
        exact ⟨r', fun _ => hr'⟩
      · exact ⟨0, fun h' => absurd h' hn⟩
  choose m hm using key
  exact ⟨m, hm⟩

include hQ hK hV in
/-- The running sums after the 16 blocks: each row the values weighted by powers of two of the scores, at one stabiliser. -/
theorem aSt_real (c : Fin 512) : ∃ M : ℝ, ∀ r : Fin 144, r.val ≤ 128 →
    aSt X6 X7 h.val (qm a (qblk X5 h.val)) 16 (ix2 r c)
      = ((∑ x ∈ range 8192, V h.val (x / 512) r.val (x % 512) * (2 : ℝ) ^ (SS K Q h.val a.val c.val x - M) : ℝ) : EReal) := by
  obtain ⟨m, hm⟩ := mSt_real hQ hK a h c
  refine ⟨m 16, fun r hr => ?_⟩
  let A : ℕ → ℝ := fun n => Nat.rec 0 (fun n A => (2 : ℝ) ^ (m n - m (n + 1)) * A
    + ∑ j ∈ range 512, V h.val n r.val j * (2 : ℝ) ^ (SS K Q h.val a.val c.val (512 * n + j) - m (n + 1))) n
  have hA : ∀ n ≤ 16, (aSt X6 X7 h.val (qm a (qblk X5 h.val)) n (ix2 r c) : EReal) = Real.toEReal (A n) := by
    intro n
    induction n with
    | zero => intro _; exact (pay62_at r c).trans EReal.coe_zero.symm
    | succ n ih =>
      intro hn
      show (aUp (F := Ideal) _ _ _ _ _ (ix2 r c) : EReal) = _
      rw [aUp_at, ih (by omega), hm n (by omega),
        show mUp (mSt X6 h.val (qm a (qblk X5 h.val)) n) (mxb (kblk X6 h.val n) (qm a (qblk X5 h.val))) (ix2 (0 : Fin 1) c) = ((m (n + 1) : ℝ) : EReal)
          from hm (n + 1) hn, ← EReal.coe_sub, Ideal.exp2_coe, ← EReal.coe_mul]
      have e : ∀ j : Fin 512, (vblk X7 h.val n (ix4 (0 : Fin 1) (0 : Fin 1) r j)
          * Ideal.exp2 (scr (kblk X6 h.val n) (qm a (qblk X5 h.val)) (ix2 j c) - ((m (n + 1) : ℝ) : EReal)) : EReal)
          = ((V h.val n r.val j.val * (2 : ℝ) ^ (SS K Q h.val a.val c.val (512 * n + j.val) - m (n + 1)) : ℝ) : EReal) := fun j => by
        rw [scr_at, score_real hQ hK a h (by omega), ← EReal.coe_sub, Ideal.exp2_coe, EReal.coe_mul]
        refine congrArg₂ (· * ·) ?_ rfl
        refine (hV _ _ _ _ hr).trans ?_
        show ((V (h.val % 2) (n % 16) r.val j.val : ℝ) : EReal) = _
        rw [Nat.mod_eq_of_lt h.isLt, Nat.mod_eq_of_lt (by omega)]
      rw [Finset.sum_congr rfl fun j _ => e j, coe_sum, ← EReal.coe_add,
        Fin.sum_univ_eq_sum_range (fun j => V h.val n r.val j * (2 : ℝ) ^ (SS K Q h.val a.val c.val (512 * n + j) - m (n + 1))) 512]
      rfl
  rw [hA 16 le_rfl, running (S := fun i j => SS K Q h.val a.val c.val (512 * i + j)) (V := fun i j => V h.val i r.val j) (m := m) (a := A) rfl 16
    (fun n _ => rfl) 16 le_rfl]
  congr 1
  rw [← show 512 * 16 = 8192 from rfl, ← sum_blocks]
  refine Finset.sum_congr rfl fun i _ => Finset.sum_congr rfl fun j hj => ?_
  have hj := Finset.mem_range.mp hj
  rw [show (512 * i + j) / 512 = i by omega, show (512 * i + j) % 512 = j by omega]

include hQ hK hV in
/-- A feature of the sums over the row of ones is the softmax applied to the values. -/
theorem quot_real (h1 : ∀ n j, n < 16 → j < 512 → V h.val n 128 j = 1) (c : Fin 512) (d : Fin 128) :
    (aSt X6 X7 h.val (qm a (qblk X5 h.val)) 16 (ix2 (⟨d.val, by omega⟩ : Fin 144) c)
      * Ideal.div 1 (aSt X6 X7 h.val (qm a (qblk X5 h.val)) 16 (ix2 (128 : Fin 144) c)) : EReal)
      = ((∑ x ∈ range 8192, P 8192 (SS K Q h.val a.val c.val) x * V h.val (x / 512) d.val (x % 512) : ℝ) : EReal) := by
  obtain ⟨M, hM⟩ := aSt_real hQ hK hV a h c
  have e : (∑ x ∈ range 8192, V h.val (x / 512) (128 : Fin 144).val (x % 512) * (2 : ℝ) ^ (SS K Q h.val a.val c.val x - M))
      = ∑ x ∈ range 8192, (2 : ℝ) ^ (SS K Q h.val a.val c.val x - M) := Finset.sum_congr rfl fun x hx => by
    have hx := Finset.mem_range.mp hx
    rw [show (128 : Fin 144).val = 128 from rfl, h1 _ _ (by omega) (by omega), one_mul]
  have hp : 0 < ∑ x ∈ range 8192, (2 : ℝ) ^ (SS K Q h.val a.val c.val x - M) :=
    sum_pow_pos (by norm_num) fun x => SS K Q h.val a.val c.val x - M
  rw [hM _ (by show d.val ≤ 128; omega), hM _ (by show 128 ≤ 128; omega), e, ← EReal.coe_one, div_coe _ _ hp.ne', ← EReal.coe_mul,
    quot_two (by norm_num) (SS K Q h.val a.val c.val) (fun x => V h.val (x / 512) d.val (x % 512)) M]

include hQ hK hV in
/-- One result of head `h`: the norm of the difference of the two softmaxes applied to the values. -/
theorem headOut_real (X3 : Vec Ideal S4x64 .f32) (X4 : Vec Ideal S128x1 .f32) {l : ℝ}
    (hl : k0_pay98 X3 (ix2 (0 : Fin 1) (0 : Fin 1)) = (l : EReal))
    (h1 : ∀ n j, n < 16 → j < 512 → V h.val n 128 j = 1) (c : Fin 512) (d : Fin 128) :
    headOut X3 X4 X5 X6 X7 h.val (ix3 (0 : Fin 1) c d) = nrm1 (fun x => ((∑ j ∈ range 8192,
      (P 8192 (SS K Q h.val 0 c.val) j - l * P 8192 (SS K Q h.val 1 c.val) j) * V h.val (j / 512) x.val (j % 512) : ℝ) : EReal)) (X4 (ix2 d (0 : Fin 1))) d := by
  unfold headOut
  rw [pay99_at]
  refine congrArg (fun f => nrm1 f _ d) (funext fun x => ?_)
  rw [hl, show qa (qblk X5 h.val) = qm 0 (qblk X5 h.val) from rfl, show qb (qblk X5 h.val) = qm 1 (qblk X5 h.val) from rfl,
    quot_real hQ hK hV 0 h h1, quot_real hQ hK hV 1 h h1, ← EReal.coe_mul, ← EReal.coe_sub]
  congr 1
  rw [Finset.mul_sum, ← Finset.sum_sub_distrib]
  refine Finset.sum_congr rfl fun j _ => ?_
  rw [show (0 : Fin 2).val = 0 from rfl, show (1 : Fin 2).val = 1 from rfl]
  ring

end

end Cert.Proof.KernelIdeal

end
-- ==== Proof.V.Ref.lean ====
/-
  The reference over the reals, cut into its stages (queries, keys, scores, softmax, lambda, values, attention, norm),
  each read at an index.
-/
module

public import proofs.«01_k».proof.Proof.Gen.ReferenceIdeal.Run
public import Idealize.ShloMosaic.Lib.Pointwise
public import proofs.«01_k».proof.Proof.V.Ker

@[expose] public section

set_option maxRecDepth 16384

noncomputable section

namespace Cert.Proof.Ref

open Cert.ReferenceIdeal Cert.ReferenceIdeal.Gen
open Idealize.ShloMosaic Idealize.ShloMosaic.TcCoe

/-- The queries, by map, batch, head, position and feature. -/
def qs (X : FVec Ideal S1x49152x2048 .bf16) : FVec Ideal S2x4x8x8192x64 .f32 :=
  extf .f32 (transpose S2x4x8x8192x64 [3, 0, 2, 1, 4] (shapeCast S4x8192x8x2x64 (shapeCast S32768x1024
    (extractStridedSlice S1x32768x1024 ![0, 0, 0] X slices_S1x49152x2048_S1x32768x1024_0_0_0)
    shapeCasts_S1x32768x1024_S32768x1024) shapeCasts_S32768x1024_S4x8192x8x2x64)
    transposes_S4x8192x8x2x64_S2x4x8x8192x64_3_0_2_1_4) bitsLt_bf16_f32
/-- The keys, likewise. -/
def ks (X : FVec Ideal S1x49152x2048 .bf16) : FVec Ideal S2x4x8x8192x64 .f32 :=
  extf .f32 (transpose S2x4x8x8192x64 [3, 0, 2, 1, 4] (shapeCast S4x8192x8x2x64 (shapeCast S32768x1024
    (extractStridedSlice S1x32768x1024 ![0, 0, 1024] X slices_S1x49152x2048_S1x32768x1024_0_0_1024)
    shapeCasts_S1x32768x1024_S32768x1024) shapeCasts_S32768x1024_S4x8192x8x2x64)
    transposes_S4x8192x8x2x64_S2x4x8x8192x64_3_0_2_1_4) bitsLt_bf16_f32
/-- The scores of queries `q` and keys `k`, times log 2. -/
def sc (q k : FVec Ideal S2x4x8x8192x64 .f32) : FVec Ideal S2x4x8x8192x8192 .f32 :=
  mulf (extf .f32 (truncf .bf16 (Host.dotGeneral dot_S2x4x8x8192x64_S2x4x8x8192x64_S2x4x8x8192x8192_4_4_3_3_012_012 none q k)
    bitsLt_bf16_f32) bitsLt_bf16_f32) (broadcastInDim S2x4x8x8192x8192 ![] bcast_S_S2x4x8x8192x8192 (id (Host.log (constant S_ .f32 0x40000000#32))))
/-- The maximum over the keys of scores `s`. -/
def mxr (s : FVec Ideal S2x4x8x8192x8192 .f32) : FVec Ideal S2x4x8x8192 .f32 :=
  Host.reduce FloatOps.maximumf s (constant S_ .f32 0xFF800000#32) reducesTo_S2x4x8x8192x8192_S2x4x8x8192_d4 h_S_
/-- A maximum `t`, not below −∞, repeated along the keys. -/
def mxb (t : FVec Ideal S2x4x8x8192 .f32) : FVec Ideal S2x4x8x8192x8192 .f32 :=
  broadcastInDim S2x4x8x8192x8192 ![0, 1, 2, 3, 4] bcast_S2x4x8x8192x1_S2x4x8x8192x8192_0_1_2_3_4
    (broadcastInDim S2x4x8x8192x1 ![0, 1, 2, 3] bcast_S2x4x8x8192_S2x4x8x8192x1_0_1_2_3
      (maximumf (broadcastInDim S2x4x8x8192 ![] bcast_S_S2x4x8x8192 (constant S_ .f32 0xFF800000#32)) t))
/-- The exponentials of scores `s` less `t`. -/
def ex (s t : FVec Ideal S2x4x8x8192x8192 .f32) : FVec Ideal S2x4x8x8192x8192 .f32 := Host.exp (subf s t)
/-- Exponentials `e` divided by their sum over the keys. -/
def dv (e : FVec Ideal S2x4x8x8192x8192 .f32) : FVec Ideal S2x4x8x8192x8192 .f32 :=
  Host.divf e (broadcastInDim S2x4x8x8192x8192 ![0, 1, 2, 3, 4] bcast_S2x4x8x8192x1_S2x4x8x8192x8192_0_1_2_3_4
    (broadcastInDim S2x4x8x8192x1 ![0, 1, 2, 3] bcast_S2x4x8x8192_S2x4x8x8192x1_0_1_2_3
      (Host.reduceAdd e (constant S_ .f32 0x00000000#32) reducesTo_S2x4x8x8192x8192_S2x4x8x8192_d4 h_S_)))
/-- The softmax of scores `s`. -/
def pr (s : FVec Ideal S2x4x8x8192x8192 .f32) : FVec Ideal S2x4x8x8192x8192 .f32 := dv (ex s (mxb (mxr s)))
/-- Lambda. -/
def lam (L : FVec Ideal S4x64 .f32) : FVec Ideal S_ .f32 :=
  addf (subf (Host.exp (Host.reduceAdd (mulf (shapeCast S64 (extractStridedSlice S1x64 ![0, 0] L slices_S4x64_S1x64_0_0) shapeCasts_S1x64_S64)
      (shapeCast S64 (extractStridedSlice S1x64 ![1, 0] L slices_S4x64_S1x64_1_0) shapeCasts_S1x64_S64)) (constant S_ .f32 0x00000000#32) reducesTo_S64_S_d0 h_S_))
    (Host.exp (Host.reduceAdd (mulf (shapeCast S64 (extractStridedSlice S1x64 ![2, 0] L slices_S4x64_S1x64_2_0) shapeCasts_S1x64_S64)
      (shapeCast S64 (extractStridedSlice S1x64 ![3, 0] L slices_S4x64_S1x64_3_0) shapeCasts_S1x64_S64)) (constant S_ .f32 0x00000000#32) reducesTo_S64_S_d0 h_S_)))
    (constant S_ .f32 0x3E4CCCCD#32)
/-- The difference of the two maps' softmaxes `P`, the second times `l`. -/
def av (l : FVec Ideal S_ .f32) (P : FVec Ideal S2x4x8x8192x8192 .f32) : FVec Ideal S4x8x8192x8192 .f32 :=
  extf .f32 (truncf .bf16 (subf (shapeCast S4x8x8192x8192 (extractStridedSlice S1x4x8x8192x8192 ![0, 0, 0, 0, 0] P slices_S2x4x8x8192x8192_S1x4x8x8192x8192_0_0_0_0_0) shapeCasts_S1x4x8x8192x8192_S4x8x8192x8192)
    (mulf (broadcastInDim S4x8x8192x8192 ![] bcast_S_S4x8x8192x8192 l)
      (shapeCast S4x8x8192x8192 (extractStridedSlice S1x4x8x8192x8192 ![1, 0, 0, 0, 0] P slices_S2x4x8x8192x8192_S1x4x8x8192x8192_1_0_0_0_0) shapeCasts_S1x4x8x8192x8192_S4x8x8192x8192))) bitsLt_bf16_f32) bitsLt_bf16_f32
/-- The values, by batch, head, position and feature. -/
def vs (W : FVec Ideal S8x96x144x512 .bf16) : FVec Ideal S4x8x8192x128 .f32 :=
  extf .f32 (shapeCast S4x8x8192x128 (transpose S4x8x16x512x128 [1, 0, 2, 4, 3] (shapeCast S8x4x16x128x512
    (extractStridedSlice S8x64x128x512 ![0, 0, 0, 0] W slices_S8x96x144x512_S8x64x128x512_0_0_0_0) shapeCasts_S8x64x128x512_S8x4x16x128x512)
    transposes_S8x4x16x128x512_S4x8x16x512x128_1_0_2_4_3) shapeCasts_S4x8x16x512x128_S4x8x8192x128) bitsLt_bf16_f32
/-- The weights `A` applied to the values `v`, by batch, position, head and feature. -/
def oo (A : FVec Ideal S4x8x8192x8192 .f32) (v : FVec Ideal S4x8x8192x128 .f32) : FVec Ideal S4x8192x8x128 .f32 :=
  extf .f32 (transpose S4x8192x8x128 [0, 2, 1, 3] (truncf .bf16 (Host.dotGeneral dot_S4x8x8192x8192_S4x8x8192x128_S4x8x8192x128_3_2_2_3_01_01 none A v)
    bitsLt_bf16_f32) transposes_S4x8x8192x128_S4x8192x8x128_0_2_1_3) bitsLt_bf16_f32
/-- The normalised result of an attention's result `o`. -/
def nrm (o : FVec Ideal S4x8192x8x128 .f32) (G : FVec Ideal S128x1 .f32) : FVec Ideal S1x32768x1024 .bf16 :=
  shapeCast S1x32768x1024 (truncf .bf16 (mulf (mulf (mulf o (broadcastInDim S4x8192x8x128 ![0, 1, 2, 3] bcast_S4x8192x8x1_S4x8192x8x128_0_1_2_3
    (Host.rsqrt (addf (Host.divf (broadcastInDim S4x8192x8x1 ![0, 1, 2] bcast_S4x8192x8_S4x8192x8x1_0_1_2
      (Host.reduceAdd (mulf o o) (constant S_ .f32 0x00000000#32) reducesTo_S4x8192x8x128_S4x8192x8_d3 h_S_))
      (broadcastInDim S4x8192x8x1 ![] bcast_S_S4x8192x8x1 (constant S_ .f32 0x43000000#32)))
      (broadcastInDim S4x8192x8x1 ![] bcast_S_S4x8192x8x1 (constant S_ .f32 0x3727C5AC#32))))))
    (broadcastInDim S4x8192x8x128 ![0, 1, 2, 3] bcast_S1x1x1x128_S4x8192x8x128_0_1_2_3 (broadcastInDim S1x1x1x128 ![3] bcast_S128_S1x1x1x128_3
      (shapeCast S128 G shapeCasts_S128x1_S128))))
    (broadcastInDim S4x8192x8x128 ![] bcast_S_S4x8192x8x128 (constant S_ .f32 0x3F4CCCCD#32))) bitsLt_bf16_f32) shapeCasts_S4x8192x8x128_S1x32768x1024

/-- What the reference's run leaves is the stages put together. -/
theorem res_eq (m : (ℓ : Loc nD τ sig) → Buf (Elt Ideal) ℓ) (c : Dev nD) :
    Value.res_main_v79 (F := Ideal) m c = nrm (oo (av (lam (m ((c.tc : Thread nD τ).loc main_arg0)))
      (pr (sc (qs (m ((c.tc : Thread nD τ).loc main_arg2))) (ks (m ((c.tc : Thread nD τ).loc main_arg2))))))
      (vs (m ((c.tc : Thread nD τ).loc main_arg3)))) (m ((c.tc : Thread nD τ).loc main_arg1)) := by
  unfold Value.res_main_v79
  rfl

/-! ## The stages at an index -/

theorem qs_at (X : FVec Ideal S1x49152x2048 .bf16) (a : Fin 2) (b : Fin 4) (h : Fin 8) (q : Fin 8192) (d : Fin 64) :
    qs X (ix5 a b h q d) = X (ix3 (0 : Fin 1) (⟨b.val * 8192 + q.val, by omega⟩ : Fin 49152) (⟨h.val * 128 + a.val * 64 + d.val, by omega⟩ : Fin 2048)) := by
  pointwise [qs]

theorem ks_at (X : FVec Ideal S1x49152x2048 .bf16) (a : Fin 2) (b : Fin 4) (h : Fin 8) (q : Fin 8192) (d : Fin 64) :
    ks X (ix5 a b h q d) = X (ix3 (0 : Fin 1) (⟨b.val * 8192 + q.val, by omega⟩ : Fin 49152) (⟨1024 + (h.val * 128 + a.val * 64 + d.val), by omega⟩ : Fin 2048)) := by
  pointwise [ks]

theorem sc_at (q k : FVec Ideal S2x4x8x8192x64 .f32) (a : Fin 2) (b : Fin 4) (h : Fin 8) (i j : Fin 8192) :
    sc q k (ix5 a b h i j) = (∑ x : Fin 64, q (ix5 a b h i x) * k (ix5 a b h j x)) * Ideal.log (Ideal.ofBits .f32 0x40000000#32) := by
  pointwise [sc]
  rfl

theorem mxr_at (s : FVec Ideal S2x4x8x8192x8192 .f32) (a : Fin 2) (b : Fin 4) (h : Fin 8) (i : Fin 8192) :
    mxr s (ix4 a b h i) = Finset.univ.fold max (Ideal.ofBits .f32 0xFF800000#32) fun x => s (ix5 a b h i x) := by
  pointwise [mxr]

theorem mxb_at (t : FVec Ideal S2x4x8x8192 .f32) (a : Fin 2) (b : Fin 4) (h : Fin 8) (i j : Fin 8192) :
    mxb t (ix5 a b h i j) = max (Ideal.ofBits .f32 0xFF800000#32) (t (ix4 a b h i)) := by
  pointwise [mxb]

theorem ex_at (s t : FVec Ideal S2x4x8x8192x8192 .f32) (a : Fin 2) (b : Fin 4) (h : Fin 8) (i j : Fin 8192) :
    ex s t (ix5 a b h i j) = Ideal.exp (s (ix5 a b h i j) - t (ix5 a b h i j)) := by
  pointwise [ex]

theorem dv_at (e : FVec Ideal S2x4x8x8192x8192 .f32) (a : Fin 2) (b : Fin 4) (h : Fin 8) (i j : Fin 8192) :
    dv e (ix5 a b h i j) = Ideal.div (e (ix5 a b h i j)) (∑ x : Fin 8192, e (ix5 a b h i x)) := by
  pointwise [dv]

theorem lam_at (L : FVec Ideal S4x64 .f32) : lam L ix0 = Ideal.exp (∑ x : Fin 64, L (ix2 (0 : Fin 4) x) * L (ix2 (1 : Fin 4) x))
    - Ideal.exp (∑ x : Fin 64, L (ix2 (2 : Fin 4) x) * L (ix2 (3 : Fin 4) x)) + Ideal.ofBits .f32 0x3E4CCCCD#32 := by
  pointwise [lam]

theorem av_at (l : FVec Ideal S_ .f32) (P : FVec Ideal S2x4x8x8192x8192 .f32) (b : Fin 4) (h : Fin 8) (i j : Fin 8192) :
    av l P (ix4 b h i j) = P (ix5 (0 : Fin 2) b h i j) - l ix0 * P (ix5 (1 : Fin 2) b h i j) := by
  pointwise [av]

theorem vs_at (W : FVec Ideal S8x96x144x512 .bf16) (b : Fin 4) (h : Fin 8) (q : Fin 8192) (d : Fin 128) :
    vs W (ix4 b h q d) = W (ix4 h (⟨b.val * 16 + q.val / 512, by omega⟩ : Fin 96) (⟨d.val, by omega⟩ : Fin 144) (⟨q.val % 512, by omega⟩ : Fin 512)) := by
  pointwise [vs]

theorem oo_at (A : FVec Ideal S4x8x8192x8192 .f32) (v : FVec Ideal S4x8x8192x128 .f32) (b : Fin 4) (q : Fin 8192) (h : Fin 8) (d : Fin 128) :
    oo A v (ix4 b q h d) = ∑ x : Fin 8192, A (ix4 b h q x) * v (ix4 b h x d) := by
  pointwise [oo]

theorem nrm_at (o : FVec Ideal S4x8192x8x128 .f32) (G : FVec Ideal S128x1 .f32) (p : Fin 32768) (d : Fin 1024) :
    nrm o G (ix3 (0 : Fin 1) p d) = KernelIdeal.nrm1 (fun x => o (ix4 (⟨p.val / 8192, by omega⟩ : Fin 4) (⟨p.val % 8192, by omega⟩ : Fin 8192) (⟨d.val / 128, by omega⟩ : Fin 8) x))
      (G (ix2 (⟨d.val % 128, by omega⟩ : Fin 128) (0 : Fin 1))) ⟨d.val % 128, by omega⟩ := by
  pointwise [nrm, KernelIdeal.nrm1]

end Cert.Proof.Ref

end
-- ==== Proof.V.RefReal.lean ====
/-
  The reference when its arguments hold reals: the softmax in base 2 of the scores, and the difference of the two maps'
  softmaxes applied to the values.
-/
module

public import proofs.«01_k».proof.Proof.V.Ref
public import proofs.«01_k».proof.Proof.V.Real

@[expose] public section

set_option maxRecDepth 16384

noncomputable section

namespace Cert.Proof.Ref

open Cert.ReferenceIdeal Cert.ReferenceIdeal.Gen
open Idealize.ShloMosaic Idealize.ShloMosaic.TcCoe Cert.Proof.Real
open Finset

/-- The score of positions `i` and `j` of batch `b` in map `a` of head `h`, from the queries and keys `X` by row and column. -/
def T (X : ℕ → ℕ → ℝ) (a b h i j : ℕ) : ℝ :=
  ∑ d ∈ range 64, X (b * 8192 + i) (h * 128 + a * 64 + d) * X (b * 8192 + j) (1024 + (h * 128 + a * 64 + d))

section
variable {X : FVec Ideal S1x49152x2048 .bf16} {W : FVec Ideal S8x96x144x512 .bf16} {L : FVec Ideal S4x64 .f32}
variable {Xr : ℕ → ℕ → ℝ} {Wr : ℕ → ℕ → ℕ → ℕ → ℝ} {l : ℝ}
variable (hX : ∀ (p : Fin 49152) (d : Fin 2048), p.val < 32768 → X (ix3 (0 : Fin 1) p d) = ((Xr p.val d.val : ℝ) : EReal))
variable (hW : ∀ (h : Fin 8) (n : Fin 96) (r : Fin 144) (j : Fin 512), n.val < 64 → r.val ≤ 128 → W (ix4 h n r j) = ((Wr h.val n.val r.val j.val : ℝ) : EReal))
variable (hl : lam L ix0 = (l : EReal))
variable (b : Fin 4) (h : Fin 8) (i : Fin 8192)

include hX in
theorem sc_real (a : Fin 2) (j : Fin 8192) :
    sc (qs X) (ks X) (ix5 a b h i j) = ((T Xr a.val b.val h.val i.val j.val * Real.log 2 : ℝ) : EReal) := by
  rw [sc_at, log_two]
  have e : ∀ x : Fin 64, (qs X (ix5 a b h i x) * ks X (ix5 a b h j x) : EReal)
      = ((Xr (b.val * 8192 + i.val) (h.val * 128 + a.val * 64 + x.val) * Xr (b.val * 8192 + j.val) (1024 + (h.val * 128 + a.val * 64 + x.val)) : ℝ) : EReal) := fun x => by
    rw [qs_at, ks_at, hX _ _ (by show b.val * 8192 + i.val < 32768; omega), hX _ _ (by show b.val * 8192 + j.val < 32768; omega), ← EReal.coe_mul]
  rw [Finset.sum_congr rfl fun x _ => e x, coe_sum, ← EReal.coe_mul,
    Fin.sum_univ_eq_sum_range (fun x => Xr (b.val * 8192 + i.val) (h.val * 128 + a.val * 64 + x) * Xr (b.val * 8192 + j.val) (1024 + (h.val * 128 + a.val * 64 + x))) 64]
  rfl

include hX in
/-- The softmax. -/
theorem pr_real (a : Fin 2) (j : Fin 8192) :
    pr (sc (qs X) (ks X)) (ix5 a b h i j) = ((P 8192 (T Xr a.val b.val h.val i.val) j.val : ℝ) : EReal) := by
  obtain ⟨M, hM⟩ : ∃ M : ℝ, max (Ideal.ofBits .f32 0xFF800000#32) (mxr (sc (qs X) (ks X)) (ix4 a b h i)) = ((M : ℝ) : EReal) := by
    rw [mxr_at, ofBits_negInf, max_eq_right bot_le]
    exact fold_real 0 _ fun x => ⟨_, sc_real hX b h i a x⟩
  have e : ∀ x : Fin 8192, ex (sc (qs X) (ks X)) (mxb (mxr (sc (qs X) (ks X)))) (ix5 a b h i x)
      = ((Real.exp (T Xr a.val b.val h.val i.val x.val * Real.log 2 - M) : ℝ) : EReal) := fun x => by
    rw [ex_at, mxb_at, hM, sc_real hX, ← EReal.coe_sub, Ideal.exp_coe]
  unfold pr
  rw [dv_at, Finset.sum_congr rfl fun x _ => e x, coe_sum, e,
    Fin.sum_univ_eq_sum_range (fun x => Real.exp (T Xr a.val b.val h.val i.val x * Real.log 2 - M)) 8192,
    div_coe _ _ (Finset.sum_pos (fun x _ => Real.exp_pos _) ⟨0, by simp⟩).ne', softmax_two (by norm_num)]

include hX hW hl in
/-- The attention's result. -/
theorem oo_real (d : Fin 128) :
    oo (av (lam L) (pr (sc (qs X) (ks X)))) (vs W) (ix4 b i h d) = ((∑ j ∈ range 8192,
      (P 8192 (T Xr 0 b.val h.val i.val) j - l * P 8192 (T Xr 1 b.val h.val i.val) j) * Wr h.val (b.val * 16 + j / 512) d.val (j % 512) : ℝ) : EReal) := by
  have e : ∀ x : Fin 8192, (av (lam L) (pr (sc (qs X) (ks X))) (ix4 b h i x) * vs W (ix4 b h x d) : EReal)
      = (((P 8192 (T Xr 0 b.val h.val i.val) x.val - l * P 8192 (T Xr 1 b.val h.val i.val) x.val) * Wr h.val (b.val * 16 + x.val / 512) d.val (x.val % 512) : ℝ) : EReal) := fun x => by
    rw [av_at, vs_at, pr_real hX, pr_real hX, hl, hW _ _ _ _ (by show b.val * 16 + x.val / 512 < 64; omega) (by show d.val ≤ 128; omega),
      ← EReal.coe_mul, ← EReal.coe_sub, ← EReal.coe_mul]
    rfl
  rw [oo_at, Finset.sum_congr rfl fun x _ => e x, coe_sum,
    Fin.sum_univ_eq_sum_range (fun x => (P 8192 (T Xr 0 b.val h.val i.val) x - l * P 8192 (T Xr 1 b.val h.val i.val) x) * Wr h.val (b.val * 16 + x / 512) d.val (x % 512)) 8192]

end

end Cert.Proof.Ref

end
-- ==== Proof.V.Arr.lean ====
/-
  The kernel's result array: every block is the reference's result at the block's place.
-/
module

public import proofs.«01_k».proof.Proof.KI.Run
public import proofs.«01_k».proof.Proof.V.Point
public import proofs.«01_k».proof.Proof.V.RefReal
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Cert.Proof.Real
open Finset

/-- Where each window's block lies at a point. -/
theorem idx : ∀ t : Fin grid0.N, win0_0.index t = ![0, 0] ∧ win0_1.index t = ![0, 0]
    ∧ win0_2.index t = ![0, t.val / 64 * 16 + t.val % 16, t.val / 16 % 4]
    ∧ win0_3.index t = ![0, t.val / 64, 4 + t.val / 16 % 4]
    ∧ win0_4.index t = ![t.val / 16 % 4, t.val / 64, 0, 0]
    ∧ win0_5.index t = ![0, t.val / 64 * 16 + t.val % 16, t.val / 16 % 4] := by decide +kernel

section
variable (m : (ℓ : Loc nD τ sig) → Buf (Elt Ideal) ℓ) (c : Dev nD) (t : Fin cfg0.N)

theorem blk0 : (iblk m c 0 t : Vec Ideal S4x64 .f32) = m ((c.tc : Thread nD τ).loc main_arg0) := by
  funext y
  blk_ext [iblk, V, idx t]

theorem blk1 : (iblk m c 1 t : Vec Ideal S128x1 .f32) = m ((c.tc : Thread nD τ).loc main_arg1) := by
  funext y
  blk_ext [iblk, V, idx t]

theorem blk2 (p : Fin 512) (d : Fin 256) : (iblk m c 2 t : Vec Ideal S1x512x256 .bf16) (ix3 (0 : Fin 1) p d)
    = (m ((c.tc : Thread nD τ).loc main_arg2) : Vec Ideal S1x49152x2048 .bf16) (ix3 (0 : Fin 1)
      (⟨(t.val / 64 * 16 + t.val % 16) * 512 + p.val, by have : t.val < 256 := t.isLt; omega⟩ : Fin 49152) (⟨t.val / 16 % 4 * 256 + d.val, by omega⟩ : Fin 2048)) := by
  blk_ext [iblk, V, idx t]

theorem blk3 (p : Fin 8192) (d : Fin 256) : (iblk m c 3 t : Vec Ideal S1x8192x256 .bf16) (ix3 (0 : Fin 1) p d)
    = (m ((c.tc : Thread nD τ).loc main_arg2) : Vec Ideal S1x49152x2048 .bf16) (ix3 (0 : Fin 1)
      (⟨t.val / 64 * 8192 + p.val, by have : t.val < 256 := t.isLt; omega⟩ : Fin 49152) (⟨(4 + t.val / 16 % 4) * 256 + d.val, by omega⟩ : Fin 2048)) := by
  blk_ext [iblk, V, idx t]

theorem blk4 (h : Fin 2) (n : Fin 16) (r : Fin 144) (j : Fin 512) : (iblk m c 4 t : Vec Ideal S2x16x144x512 .bf16) (ix4 h n r j)
    = (m ((c.tc : Thread nD τ).loc main_arg3) : Vec Ideal S8x96x144x512 .bf16) (ix4
      (⟨t.val / 16 % 4 * 2 + h.val, by omega⟩ : Fin 8) (⟨t.val / 64 * 16 + n.val, by have : t.val < 256 := t.isLt; omega⟩ : Fin 96) r j) := by
  blk_ext [iblk, V, idx t]

end

section
variable {m : (ℓ : Loc nD τ sig) → Buf (Elt Ideal) ℓ} {c : Dev nD} {l : ℝ} {Xr : ℕ → ℕ → ℝ} {Wr : ℕ → ℕ → ℕ → ℕ → ℝ}
variable (hl : Ref.lam (m ((c.tc : Thread nD τ).loc main_arg0)) ix0 = (l : EReal))
variable (hX : ∀ (p : Fin 49152) (d : Fin 2048), p.val < 32768 →
  (m ((c.tc : Thread nD τ).loc main_arg2) : Vec Ideal S1x49152x2048 .bf16) (ix3 (0 : Fin 1) p d) = ((Xr p.val d.val : ℝ) : EReal))
variable (hW : ∀ (h : Fin 8) (n : Fin 96) (r : Fin 144) (j : Fin 512), n.val < 64 → r.val ≤ 128 →
  (m ((c.tc : Thread nD τ).loc main_arg3) : Vec Ideal S8x96x144x512 .bf16) (ix4 h n r j) = ((Wr h.val n.val r.val j.val : ℝ) : EReal))
variable (h1 : ∀ h n j, h < 8 → n < 64 → j < 512 → Wr h n 128 j = 1)

/-- The score by the block's columns is the score by the array's. -/
theorem SS_eq (Xr : ℕ → ℕ → ℝ) (b i hh h a p : ℕ) : SS (fun j d => Xr (b * 8192 + j) ((4 + hh) * 256 + d)) (fun p d => Xr ((b * 16 + i) * 512 + p) (hh * 256 + d)) h a p
    = Ref.T Xr a b (hh * 2 + h) (i * 512 + p) := by
  funext j
  unfold SS Ref.T
  refine Finset.sum_congr rfl fun d _ => ?_
  beta_reduce
  rw [show (b * 16 + i) * 512 + p = b * 8192 + (i * 512 + p) by ring, show hh * 256 + (128 * h + 64 * a + d) = (hh * 2 + h) * 128 + a * 64 + d by ring,
    show (4 + hh) * 256 + (128 * h + 64 * a + d) = 1024 + ((hh * 2 + h) * 128 + a * 64 + d) by ring]

/-- The reference's result, of the kernel's arguments. -/
def G (m : (ℓ : Loc nD τ sig) → Buf (Elt Ideal) ℓ) (c : Dev nD) : Vec Ideal S1x32768x1024 .bf16 :=
  Ref.nrm (Ref.oo (Ref.av (Ref.lam (m ((c.tc : Thread nD τ).loc main_arg0)))
      (Ref.pr (Ref.sc (Ref.qs (m ((c.tc : Thread nD τ).loc main_arg2))) (Ref.ks (m ((c.tc : Thread nD τ).loc main_arg2))))))
      (Ref.vs (m ((c.tc : Thread nD τ).loc main_arg3)))) (m ((c.tc : Thread nD τ).loc main_arg1))

include hl hX hW h1 in
/-- One element of the block of point `t`. -/
theorem outsAt_eq (t : Fin cfg0.N) (p : Fin 512) (h : Fin 2) (d : Fin 128) :
    outsAt m c t (ix3 (0 : Fin 1) p (⟨h.val * 128 + d.val, by omega⟩ : Fin 256))
    = G m c (ix3 (0 : Fin 1) (⟨(t.val / 64 * 16 + t.val % 16) * 512 + p.val, by have : t.val < 256 := t.isLt; omega⟩ : Fin 32768)
      (⟨t.val / 16 % 4 * 256 + (h.val * 128 + d.val), by omega⟩ : Fin 1024)) := by
  have ht : t.val < 256 := t.isLt
  have hQ : ∀ (p : Fin 512) (d : Fin 256), (iblk m c 2 t : Vec Ideal S1x512x256 .bf16) (ix3 (0 : Fin 1) p d)
      = (((fun p d => Xr ((t.val / 64 * 16 + t.val % 16) * 512 + p) (t.val / 16 % 4 * 256 + d)) p.val d.val : ℝ) : EReal) := fun p d => by
    rw [blk2, hX _ _ (by show (t.val / 64 * 16 + t.val % 16) * 512 + p.val < 32768; omega)]
  have hK : ∀ (p : Fin 8192) (d : Fin 256), (iblk m c 3 t : Vec Ideal S1x8192x256 .bf16) (ix3 (0 : Fin 1) p d)
      = (((fun j d => Xr (t.val / 64 * 8192 + j) ((4 + t.val / 16 % 4) * 256 + d)) p.val d.val : ℝ) : EReal) := fun p d => by
    rw [blk3, hX _ _ (by show t.val / 64 * 8192 + p.val < 32768; omega)]
  have hV : ∀ (h : Fin 2) (n : Fin 16) (r : Fin 144) (j : Fin 512), r.val ≤ 128 → (iblk m c 4 t : Vec Ideal S2x16x144x512 .bf16) (ix4 h n r j)
      = (((fun h n r j => Wr (t.val / 16 % 4 * 2 + h) (t.val / 64 * 16 + n) r j) h.val n.val r.val j.val : ℝ) : EReal) := fun h n r j hr => by
    rw [blk4, hW _ _ _ _ (by show t.val / 64 * 16 + n.val < 64; omega) hr]
  have e1 : (h.val * 128 + d.val) / 128 = h.val := by omega
  have e2 : (⟨(h.val * 128 + d.val) % 128, Nat.mod_lt _ (by decide)⟩ : Fin 128) = d := Fin.ext (by show (h.val * 128 + d.val) % 128 = d.val; omega)
  have e3 : outsAt m c t (ix3 (0 : Fin 1) p (⟨h.val * 128 + d.val, by omega⟩ : Fin 256))
      = headOut (iblk m c 0 t) (iblk m c 1 t) (iblk m c 2 t) (iblk m c 3 t) (iblk m c 4 t) h.val (ix3 (0 : Fin 1) p d) := by
    show headOut _ _ _ _ _ ((h.val * 128 + d.val) / 128) (ix3 (0 : Fin 1) p (⟨(h.val * 128 + d.val) % 128, Nat.mod_lt _ (by decide)⟩ : Fin 128)) = _
    rw [e1, e2]
  have hl' : k0_pay98 (F := Ideal) (iblk m c 0 t) (ix2 (0 : Fin 1) (0 : Fin 1)) = (l : EReal) := by
    rw [blk0, pay98_at, ← hl, Ref.lam_at]
  rw [e3, headOut_real (Q := fun p d => Xr ((t.val / 64 * 16 + t.val % 16) * 512 + p) (t.val / 16 % 4 * 256 + d))
    (K := fun j d => Xr (t.val / 64 * 8192 + j) ((4 + t.val / 16 % 4) * 256 + d))
    (V := fun h n r j => Wr (t.val / 16 % 4 * 2 + h) (t.val / 64 * 16 + n) r j) hQ hK hV h _ _ hl' (fun n j hn hj => h1 _ _ _ (by omega) (by omega) hj)]
  unfold G
  rw [Ref.nrm_at]
  have f1 : (t.val / 16 % 4 * 256 + (h.val * 128 + d.val)) % 128 = d.val := by omega
  have f2 : (t.val / 16 % 4 * 256 + (h.val * 128 + d.val)) / 128 = t.val / 16 % 4 * 2 + h.val := by omega
  have f3 : ((t.val / 64 * 16 + t.val % 16) * 512 + p.val) / 8192 = t.val / 64 := by omega
  have f4 : ((t.val / 64 * 16 + t.val % 16) * 512 + p.val) % 8192 = t.val % 16 * 512 + p.val := by omega
  have g1 : (⟨(t.val / 16 % 4 * 256 + (h.val * 128 + d.val)) % 128, Nat.mod_lt _ (by decide)⟩ : Fin 128) = d := Fin.ext f1
  simp only [g1]
  rw [blk1]
  refine congrArg (fun f => nrm1 f _ d) (funext fun x => ?_)
  rw [Ref.oo_real hX hW hl, SS_eq, SS_eq]
  simp only [f2, f3, f4]

include hl hX hW h1 in
/-- The result array after the run. -/
theorem arr_eq : (dats m 0 c).arrAt 5 cfg0.N = G m c := by
  refine (dats m 0 c).arrAt_eq_of_covers 5 _ (by decide +kernel) fun t hf y => ?_
  blk_simp
  rw [after0_5]
  have hp : (y 1).val < 512 := (y 1).isLt
  have hd : (y 2).val < 256 := (y 2).isLt
  have e : y = ix3 (0 : Fin 1) (⟨(y 1).val, hp⟩ : Fin 512) (⟨(y 2).val / 128 * 128 + (y 2).val % 128, by omega⟩ : Fin 256) := by
    blk_ext [idx t]
  refine (congrArg (outsAt m c t) e).trans ((outsAt_eq hl hX hW h1 t ⟨(y 1).val, hp⟩ ⟨(y 2).val / 128, by omega⟩ ⟨(y 2).val % 128, by omega⟩).trans ?_)
  refine congrArg (G m c) ?_
  have ht : t.val < 256 := t.isLt
  blk_ext [idx t]

end

end Cert.Proof.KernelIdeal

end
-- ==== Proof.V.Pre.lean ====
/-
  The precondition read element by element: which arguments hold reals, and that the values' row 128 holds ones.
-/
module

public import proofs.«01_k».proof.Pre_finite_with_ones
public import Idealize.ShloMosaic.Lib.Pointwise

@[expose] public section

set_option maxRecDepth 16384

noncomputable section

namespace Cert.Proof.Pre

open Idealize.ShloMosaic Idealize.ShloMosaic.TcCoe
open Cert.Pre_finite_with_ones

/-- The predicate's side conditions. -/
theorem facts : Cert.Pre_finite_with_ones.Facts where
  bcast_S_S4x64 := by decide
  slices_S1x49152x2048_S1x32768x2048_0_0_0 := by decide
  bitsLt_bf16_f32 := by decide
  bcast_S_S1x32768x2048 := by decide
  slices_S8x96x144x512_S8x64x128x512_0_0_0_0 := by decide
  bcast_S_S8x64x128x512 := by decide
  slices_S8x96x144x512_S8x64x1x512_0_0_128_0 := by decide
  shapeCasts_S8x64x1x512_S8x64x512 := by decide
  bcast_S_S8x64x512 := by decide

/-- An extended real of finite absolute value is the real it stands for. -/
theorem coe_of_abs_lt {x : EReal} (h : BitVec.ofBool (decide (max x (-x) < Ideal.ofBits .f32 0x7F800000#32)) = 1#1) :
    x = ((x.toReal : ℝ) : EReal) := by
  have e : Ideal.ofBits .f32 0x7F800000#32 = (⊤ : EReal) := by simp [Ideal.ofBits, Ideal.ieee]
  have h' : max x (-x) < ⊤ := by
    rw [e] at h
    by_contra hn
    rw [decide_eq_false hn] at h
    exact absurd h (by decide)
  refine (EReal.coe_toReal (fun hx => ?_) (fun hx => ?_)).symm
  · rw [hx] at h'; simp at h'
  · rw [hx] at h'; simp at h'

section
variable [Cert.Pre_finite_with_ones.Facts]
variable {A : FVec Ideal S4x64 .f32} {G : FVec Ideal S128x1 .f32} {X : FVec Ideal S1x49152x2048 .bf16} {W : FVec Ideal S8x96x144x512 .bf16}

theorem lam_real (h : (fn A G X W).1 = fun _ => 1#1) (i : Fin 4) (j : Fin 64) :
    (A (ix2 i j) : EReal) = ((EReal.toReal (A (ix2 i j)) : ℝ) : EReal) := by
  have := congrFun h (ix2 i j)
  unfold fn at this
  pointwise at this
  exact coe_of_abs_lt this

theorem qk_real (h : (fn A G X W).2.1 = fun _ => 1#1) (p : Fin 49152) (d : Fin 2048) (hp : p.val < 32768) :
    (X (ix3 (0 : Fin 1) p d) : EReal) = ((EReal.toReal (X (ix3 (0 : Fin 1) p d)) : ℝ) : EReal) := by
  have := congrFun h (ix3 (0 : Fin 1) (⟨p.val, hp⟩ : Fin 32768) d)
  unfold fn at this
  pointwise at this
  exact coe_of_abs_lt this

theorem v_real (h : (fn A G X W).2.2.1 = fun _ => 1#1) (a : Fin 8) (n : Fin 96) (r : Fin 144) (j : Fin 512) (hn : n.val < 64) (hr : r.val < 128) :
    (W (ix4 a n r j) : EReal) = ((EReal.toReal (W (ix4 a n r j)) : ℝ) : EReal) := by
  have := congrFun h (ix4 a (⟨n.val, hn⟩ : Fin 64) (⟨r.val, hr⟩ : Fin 128) j)
  unfold fn at this
  pointwise at this
  exact coe_of_abs_lt this

theorem v_one (h : (fn A G X W).2.2.2 = fun _ => 1#1) (a : Fin 8) (n : Fin 96) (r : Fin 144) (j : Fin 512) (hn : n.val < 64) (hr : r.val = 128) :
    (W (ix4 a n r j) : EReal) = ((1 : ℝ) : EReal) := by
  have := congrFun h (ix3 a (⟨n.val, hn⟩ : Fin 64) j)
  unfold fn at this
  pointwise at this
  rw [show r = 128 from Fin.ext hr]
  by_contra hn
  exact absurd (decide_eq_false hn ▸ this) (by decide)

end

end Cert.Proof.Pre

end
-- ==== Proof.V.Main.lean ====
/-
  The equation of the two results under the precondition.
-/
module

public import proofs.«01_k».proof.Proof.V.Arr
public import proofs.«01_k».proof.Proof.V.Pre

@[expose] public section

set_option maxRecDepth 16384

noncomputable section

namespace Cert.Proof.KernelIdeal

open Cert.KernelIdeal Cert.KernelIdeal.Gen
open Idealize.ShloMosaic Idealize.ShloMosaic.TcCoe Cert.Proof.Real
open Finset

/-- The factor of the second map is real where the vectors it is made of are. -/
theorem lam_coe (L : FVec Ideal S4x64 .f32) (hL : ∀ i j, (L (ix2 i j) : EReal) = ((EReal.toReal (L (ix2 i j)) : ℝ) : EReal)) :
    ∃ l : ℝ, Ref.lam L ix0 = (l : EReal) := by
  obtain ⟨r, hr⟩ := ofBits_02
  have e : ∀ a b : Fin 4, ∃ s : ℝ, Ideal.exp (∑ x : Fin 64, (L (ix2 a x) * L (ix2 b x) : EReal)) = (s : EReal) := fun a b => by
    rw [Finset.sum_congr rfl fun x _ => show (L (ix2 a x) * L (ix2 b x) : EReal)
      = ((EReal.toReal (L (ix2 a x)) * EReal.toReal (L (ix2 b x)) : ℝ) : EReal) by rw [EReal.coe_mul, ← hL, ← hL], coe_sum, Ideal.exp_coe]
    exact ⟨_, rfl⟩
  obtain ⟨s, hs⟩ := e 0 1
  obtain ⟨u, hu⟩ := e 2 3
  exact ⟨s - u + r, by rw [Ref.lam_at, hs, hu, hr, ← EReal.coe_sub, ← EReal.coe_add]⟩

/-- Under the precondition the result array holds the reference's result. -/
theorem arr_pre [Cert.Pre_finite_with_ones.Facts] (m : (ℓ : Loc nD τ sig) → Buf (Elt Ideal) ℓ) (c : Dev nD)
    (h0 : (Cert.Pre_finite_with_ones.fn (F := Ideal) (m ((c.tc : Thread nD τ).loc main_arg0)) (m ((c.tc : Thread nD τ).loc main_arg1))
      (m ((c.tc : Thread nD τ).loc main_arg2)) (m ((c.tc : Thread nD τ).loc main_arg3))).1 = fun _ => 1#1)
    (h1 : (Cert.Pre_finite_with_ones.fn (F := Ideal) (m ((c.tc : Thread nD τ).loc main_arg0)) (m ((c.tc : Thread nD τ).loc main_arg1))
      (m ((c.tc : Thread nD τ).loc main_arg2)) (m ((c.tc : Thread nD τ).loc main_arg3))).2.1 = fun _ => 1#1)
    (h2 : (Cert.Pre_finite_with_ones.fn (F := Ideal) (m ((c.tc : Thread nD τ).loc main_arg0)) (m ((c.tc : Thread nD τ).loc main_arg1))
      (m ((c.tc : Thread nD τ).loc main_arg2)) (m ((c.tc : Thread nD τ).loc main_arg3))).2.2.1 = fun _ => 1#1)
    (h3 : (Cert.Pre_finite_with_ones.fn (F := Ideal) (m ((c.tc : Thread nD τ).loc main_arg0)) (m ((c.tc : Thread nD τ).loc main_arg1))
      (m ((c.tc : Thread nD τ).loc main_arg2)) (m ((c.tc : Thread nD τ).loc main_arg3))).2.2.2 = fun _ => 1#1) :
    (dats m 0 c).arrAt 5 cfg0.N = G m c := by
  obtain ⟨l, hl⟩ := lam_coe (m ((c.tc : Thread nD τ).loc main_arg0)) fun i j => Pre.lam_real h0 i j
  refine arr_eq (l := l)
    (Xr := fun p d => if h : p < 49152 ∧ d < 2048 then
      EReal.toReal ((m ((c.tc : Thread nD τ).loc main_arg2) : Vec Ideal S1x49152x2048 .bf16) (ix3 (0 : Fin 1) (⟨p, h.1⟩ : Fin 49152) (⟨d, h.2⟩ : Fin 2048))) else 0)
    (Wr := fun a n r j => if h : r < 128 ∧ a < 8 ∧ n < 96 ∧ j < 512 then
      EReal.toReal ((m ((c.tc : Thread nD τ).loc main_arg3) : Vec Ideal S8x96x144x512 .bf16) (ix4 (⟨a, h.2.1⟩ : Fin 8) (⟨n, h.2.2.1⟩ : Fin 96) (⟨r, by omega⟩ : Fin 144) (⟨j, h.2.2.2⟩ : Fin 512))) else 1)
    hl (fun p d hp => ?_) (fun a n r j hn hr => ?_) fun a n j _ _ _ => ?_
  · rw [dif_pos ⟨p.isLt, d.isLt⟩]
    exact Pre.qk_real h1 p d hp
  · by_cases h : r.val < 128
    · rw [dif_pos ⟨h, a.isLt, n.isLt, j.isLt⟩]
      exact Pre.v_real h2 a n r j hn h
    · rw [dif_neg fun h' => h h'.1]
      exact Pre.v_one h3 a n r j hn (by omega)
  · rw [dif_neg fun h => absurd h.1 (by decide)]

end Cert.Proof.KernelIdeal

end
-- ==== Proof.EI.Slots.lean ====
/-
  The two slots of the row buffer: the memrefs of a slot, of one of its rows and of a row of the gathered array, the
  semaphore of a slot, and which elements of the buffer each row holds.
-/
module

public import proofs.«01_k».proof.Proof.Gen.Kernel2Ideal.Loops
public import proofs.«01_k».proof.Proof.Gen.Kernel2Ideal.Launch
public import Idealize.ShloMosaic.Lib.Batch
public import Idealize.ShloMosaic.Lib.Ring
public import Idealize.ShloMosaic.Lib.Pipeline.Frame
public import Idealize.ShloMosaic.Lib.Tactic

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The gathered array, and the buffer of two slots. -/
abbrev xM : Memref sig .tc .hbm S49152x1152 .f32 := Memref.whole main_arg0
abbrev bufM : Memref sig .tc .vmem S2x512x1152 .f32 := Memref.whole cc0_scratch0

/-- The slot at offsets `o` of the buffer. -/
def slotM (o : Fin 3 → Nat) (h : ∀ a, o a + S1x512x1152.size a ≤ S2x512x1152.size a) : Memref sig .tc .vmem S512x1152 .f32 :=
  (bufM.slice (Rect.unit (s := S2x512x1152) o S1x512x1152.size h) (fun _ => rfl)).squeeze S512x1152 squeezes_S1x512x1152_S512x1152

/-- The row at offsets `p` of that slot. -/
def rowM (o : Fin 3 → Nat) (h : ∀ a, o a + S1x512x1152.size a ≤ S2x512x1152.size a)
    (p : Fin 2 → Nat) (hp : ∀ a, p a + S1x1152.size a ≤ S512x1152.size a) : Memref sig .tc .vmem S1x1152 .f32 :=
  (slotM o h).slice (Rect.unit (s := S512x1152) p S1x1152.size hp) (fun _ => rfl)

/-- The row at offsets `p` of the gathered array. -/
def srcM (p : Fin 2 → Nat) (hp : ∀ a, p a + S1x1152.size a ≤ S49152x1152.size a) : Memref sig .tc .hbm S1x1152 .f32 :=
  xM.slice (Rect.unit (s := S49152x1152) p S1x1152.size hp) (fun _ => rfl)

/-- The semaphore at offsets `o`. -/
def semM (o : Fin 1 → Nat) (h : ∀ a, o a + S1.size a ≤ S2.size a) : DmaSem sig :=
  ((cc0_scratch1.slice (Rect.unit (s := S2) o S1.size h)).squeeze S_ squeezes_S1_S_).sem

theorem slotB (s : Fin 2) : ∀ a, (![s.val, 0, 0] : Fin 3 → Nat) a + S1x512x1152.size a ≤ S2x512x1152.size a := by
  revert s; decide
theorem semB (s : Fin 2) : ∀ a, (![s.val] : Fin 1 → Nat) a + S1.size a ≤ S2.size a := by
  revert s; decide
theorem rowB (r : Fin 512) : ∀ a, (![r.val, 0] : Fin 2 → Nat) a + S1x1152.size a ≤ S512x1152.size a := by
  have := r.isLt
  intro a; fin_cases a
  · show r.val + 1 ≤ 512; omega
  · show 0 + 1152 ≤ 1152; omega
theorem srcB (w : Fin 49152) : ∀ a, (![w.val, 0] : Fin 2 → Nat) a + S1x1152.size a ≤ S49152x1152.size a := by
  have := w.isLt
  intro a; fin_cases a
  · show w.val + 1 ≤ 49152; omega
  · show 0 + 1152 ≤ 1152; omega

/-- Row `r` of slot `s`, row `w` of the gathered array, the semaphore of slot `s`. -/
abbrev row (s : Fin 2) (r : Fin 512) : Memref sig .tc .vmem S1x1152 .f32 := rowM ![s.val, 0, 0] (slotB s) ![r.val, 0] (rowB r)
abbrev src (w : Fin 49152) : Memref sig .tc .hbm S1x1152 .f32 := srcM ![w.val, 0] (srcB w)
abbrev sem (s : Fin 2) : DmaSem sig := semM ![s.val] (semB s)

theorem rowM_congr {o o' : Fin 3 → Nat} {h h'} {p p' : Fin 2 → Nat} {hp hp'} (e : o = o') (e' : p = p') :
    rowM o h p hp = rowM o' h' p' hp' := by subst e; subst e'; rfl
theorem srcM_congr {p p' : Fin 2 → Nat} {hp hp'} (e' : p = p') : srcM p hp = srcM p' hp' := by subst e'; rfl
theorem semM_congr {o o' : Fin 1 → Nat} {h h'} (e : o = o') : semM o h = semM o' h' := by subst e; rfl

/-- Where row `r` of slot `s` places its element `x`: at `(s, r, x 1)`. -/
theorem row_emb (s : Fin 2) (r : Fin 512) (x : S1x1152.Idx) :
    (row s r).view.emb x = (fun a => match a with | ⟨0, _⟩ => s | ⟨1, _⟩ => r | ⟨2, _⟩ => x 1 : S2x512x1152.Idx) := by
  have h0 : (x 0).val = 0 := by have : (x 0).val < 1 := (x 0).isLt; omega
  show (Rect.unit (s := S2x512x1152) ![s.val, 0, 0] S1x512x1152.size (slotB s)).emb
    (Shape.reshapeEquiv squeezes_S1x512x1152_S512x1152.numel_eq ((Rect.unit (s := S512x1152) ![r.val, 0] S1x1152.size (rowB r)).emb x)) = _
  rw [show Shape.reshapeEquiv squeezes_S1x512x1152_S512x1152.numel_eq ((Rect.unit (s := S512x1152) ![r.val, 0] S1x1152.size (rowB r)).emb x)
    = (Fin.cons (⟨0, Nat.one_pos⟩ : Fin 1) ((Rect.unit (s := S512x1152) ![r.val, 0] S1x1152.size (rowB r)).emb x) : S1x512x1152.Idx) from
    Shape.reshapeEquiv_cons_one (d := S512x1152.size) _ _]
  funext a
  apply Fin.ext
  match a with
  | ⟨0, _⟩ => show s.val + 1 * 0 = s.val; omega
  | ⟨1, _⟩ => show 0 + 1 * (r.val + 1 * (x 0).val) = r.val; omega
  | ⟨2, _⟩ => show 0 + 1 * (0 + 1 * (x 1).val) = (x 1).val; omega

/-- Where row `w` of the gathered array lies. -/
theorem src_emb (w : Fin 49152) (x : S1x1152.Idx) :
    (src w).view.emb x = (fun a => match a with | ⟨0, _⟩ => w | ⟨1, _⟩ => x 1 : S49152x1152.Idx) := by
  have h0 : (x 0).val = 0 := by have : (x 0).val < 1 := (x 0).isLt; omega
  show (Rect.unit (s := S49152x1152) ![w.val, 0] S1x1152.size (srcB w)).emb x = _
  funext a
  apply Fin.ext
  match a with
  | ⟨0, _⟩ => show w.val + 1 * (x 0).val = w.val; omega
  | ⟨1, _⟩ => show 0 + 1 * (x 1).val = (x 1).val; omega

/-- The elements of the buffer in row `r` of slot `s`, and in slot `s`. -/
def rset (s : Fin 2) (r : Fin 512) : Finset S2x512x1152.Idx := Finset.univ.filter fun y => (y 0).val = s.val ∧ (y 1).val = r.val
def sset (s : Fin 2) : Finset S2x512x1152.Idx := Finset.univ.filter fun y => (y 0).val = s.val

theorem mem_rset (s : Fin 2) (r : Fin 512) (y : S2x512x1152.Idx) : y ∈ rset s r ↔ (y 0).val = s.val ∧ (y 1).val = r.val := by simp [rset]
theorem mem_sset (s : Fin 2) (y : S2x512x1152.Idx) : y ∈ sset s ↔ (y 0).val = s.val := by simp [sset]

theorem row_set (s : Fin 2) (r : Fin 512) : (row s r).view.set = rset s r := by
  ext y
  refine Iff.trans ?_ (mem_rset s r y).symm
  constructor
  · intro hy
    obtain ⟨x, -, rfl⟩ := Finset.mem_map.mp hy
    rw [row_emb]; exact ⟨rfl, rfl⟩
  · rintro ⟨h0, h1⟩
    refine Finset.mem_map.mpr ⟨(fun a => match a with | ⟨0, _⟩ => (0 : Fin 1) | ⟨1, _⟩ => (show S2x512x1152.Idx from y) 2 : S1x1152.Idx), Finset.mem_univ _, ?_⟩
    rw [row_emb]
    funext a
    match a with
    | ⟨0, _⟩ => exact Fin.ext h0.symm
    | ⟨1, _⟩ => exact Fin.ext h1.symm
    | ⟨2, _⟩ => rfl

theorem rset_disjoint (s : Fin 2) : ∀ r r' : Fin 512, r ≠ r' → Disjoint (rset s r) (rset s r') := fun r r' hne => by
  rw [Finset.disjoint_left]; intro y hy hy'; rw [mem_rset] at hy hy'; exact hne (Fin.ext (hy.2.symm.trans hy'.2))
theorem rset_cover (s : Fin 2) : Finset.univ.biUnion (rset s) = sset s := by
  ext y
  simp only [Finset.mem_biUnion, Finset.mem_univ, true_and, mem_rset, mem_sset]
  exact ⟨fun ⟨r, h, _⟩ => h, fun h => ⟨y 1, h, rfl⟩⟩
theorem sset_disjoint : ∀ s s' : Fin 2, s ≠ s' → Disjoint (sset s) (sset s') := fun s s' hne => by
  rw [Finset.disjoint_left]; intro y hy hy'; rw [mem_sset] at hy hy'; exact hne (Fin.ext (hy.symm.trans hy'))
theorem sset_cover : Finset.univ.biUnion sset = Finset.univ := by
  ext y
  simp only [Finset.mem_biUnion, Finset.mem_univ, true_and, mem_sset, iff_true]
  exact ⟨y 0, rfl⟩

/-- The contents of a slot when its row `r` is row `w r` of `X`. -/
def rowsOf (X : S49152x1152.Idx → Elt F .f32) (w : Fin 512 → Fin 49152) : S2x512x1152.Idx → Elt F .f32 :=
  fun y => X (fun a => match a with | ⟨0, _⟩ => w (y 1) | ⟨1, _⟩ => y 2)

/-- What a copy of row `w r` into row `r` of slot `s` leaves there. -/
theorem landed_eq (X : S49152x1152.Idx → Elt F .f32) (w : Fin 512 → Fin 49152) (s : Fin 2) (r : Fin 512)
    (f : S2x512x1152.Idx → Elt F .f32) (y : S2x512x1152.Idx) (hy : y ∈ rset s r) :
    (row s r).view.write (Elt F) f (ReadAs.same.apply ((src (w r)).view.read (Elt F) X)) Finset.univ y = rowsOf X w y := by
  rw [← row_set] at hy
  obtain ⟨x, -, rfl⟩ := Finset.mem_map.mp hy
  refine (View.write_emb_of_mem (v := (row s r).view) f _ (Finset.mem_univ x)).trans ?_
  show X ((src (w r)).view.emb x) = rowsOf X w ((row s r).view.emb x)
  rw [src_emb, row_emb]
  rfl

end Cert.Proof.Kernel2Ideal

end
-- ==== Proof.EI.Flight.lean ====
/-
  The copies of a slot: 512 rows of the gathered array started on the slot's semaphore, then waited for one by one.
  A slot is idle (its buffer at some contents, its semaphore at zero, its share of the gathered array whole) or in
  flight (the copies started and none waited for); the steps below start the copies, wait for them, and put the slot
  back together, its buffer then at the gathered rows.
-/
module

public import proofs.«01_k».proof.Proof.EI.Slots

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The proof's resource algebra. -/
local notation "𝕄" => MT nD τ sig Unit (Elt F) ℕ (UD sig nD τ) ℕ

variable (c : Dev nD) (X : S49152x1152.Idx → Elt F .f32)

/-- The share of the gathered array that the copies of slot `s` read. -/
def qs (s : Fin 2) : PosShare TreeShare := if s = 0 then fullShare.left else fullShare.right

/-- The buffer's elements `K` at contents `f`, and the gathered array at share `q`. -/
abbrev bufAt (K : Finset S2x512x1152.Idx) (f : S2x512x1152.Idx → Elt F .f32) : sProp 𝕄 := bufM.view.loc (c : Thread nD τ) ↦[K]{fullShare} f
abbrev xAt (q : PosShare TreeShare) : sProp 𝕄 := xM.view.loc (c : Thread nD τ) ↦{q} X

/-- Token `r` of slot `s`'s share, at the row its copy reads and at the other rows. -/
abbrev tokRow (s : Fin 2) (w : Fin 512 → Fin 49152) (r : Fin 512) : sProp 𝕄 :=
  (src (w r)).view.loc (c : Thread nD τ) ↦[(src (w r)).view.set]{Transfers.shareTok (qs s) 512 r} X
abbrev tokRest (s : Fin 2) (w : Fin 512 → Fin 49152) (r : Fin 512) : sProp 𝕄 :=
  (src (w r)).view.loc (c : Thread nD τ) ↦[Finset.univ \ (src (w r)).view.set]{Transfers.shareTok (qs s) 512 r} X

/-- What the copy of row `r` delivers: the row of the slot at the row gathered, and the token it read with. -/
def land (s : Fin 2) (w : Fin 512 → Fin 49152) (r : Fin 512) : sProp 𝕄 :=
  iprop(bufAt c (rset s r) (rowsOf X w) ∗ tokRow c X s w r)

theorem pt_storable (ℓ : Loc nD τ sig) (K : Finset (Idx ℓ)) (q : PosShare TreeShare) (f : Buf (Elt F) ℓ) :
    BI.Storable (upEmb : UEmb _ 𝕄) (ℓ ↦[K]{q} f : sProp 𝕄) := inferInstance

instance land_storable (s : Fin 2) (w : Fin 512 → Fin 49152) (r : Fin 512) : BI.Storable (upEmb : UEmb _ 𝕄) (land c X s w r) := by
  have h1 := pt_storable (F := F) (bufM.view.loc (c : Thread nD τ)) (rset s r) fullShare (rowsOf X w)
  have h2 := pt_storable (F := F) ((src (w r)).view.loc (c : Thread nD τ)) (src (w r)).view.set (Transfers.shareTok (qs s) 512 r) X
  exact @BI.Storable.sep _ _ _ _ _ _ _ _ h1 h2

/-- One copy's credit. -/
def credit : ℕ := (row 0 0).view.dmaCredit

theorem credit_pos : 0 < credit := (row 0 0).view.dmaCredit_pos (by decide)

/-- `j` copies started on slot `s`'s semaphore, `u` units of them waited for. -/
abbrev batch (s : Fin 2) (w : Fin 512 → Fin 49152) (j u : ℕ) : sProp 𝕄 :=
  Transfers.Batch (countersEmb (U := UD sig nD τ)) (c : Thread nD τ) (.dma (sem s)) () credit (land c X s w) j u

/-- What copy `r` takes: the row of the slot at some contents, and its token. -/
abbrev give (s : Fin 2) (r : Fin 512) : sProp 𝕄 :=
  iprop((∃ f, bufAt c (rset s r) f) ∗ xAt c X (Transfers.shareTok (qs s) 512 r))

/-- After `k` copies started. -/
def issueAt (s : Fin 2) (w : Fin 512 → Fin 49152) (k : ℕ) : sProp 𝕄 :=
  iprop(batch c X s w k 0 ∗ bigSep (Ring.rangeSet 512 k 512) (give c X s) ∗ bigSep (Ring.rangeSet 512 0 k) (tokRest c X s w)
    ∗ xAt c X (Transfers.shareDrop (qs s) 512))

/-- The slot idle, and in flight. -/
def idle (s : Fin 2) : sProp 𝕄 :=
  iprop((∃ f, bufAt c (sset s) f) ∗ semVal ((c : Thread nD τ), SemLoc.dma (sem s)) 0 ∗ xAt c X (qs s))
def flying (s : Fin 2) (w : Fin 512 → Fin 49152) : sProp 𝕄 :=
  iprop(batch c X s w 512 0 ∗ bigSep Finset.univ (tokRest c X s w) ∗ xAt c X (Transfers.shareDrop (qs s) 512))
/-- The slot with its copies landed. -/
def landed (s : Fin 2) (w : Fin 512 → Fin 49152) : sProp 𝕄 :=
  iprop(bufAt c (sset s) (rowsOf X w) ∗ semVal ((c : Thread nD τ), SemLoc.dma (sem s)) 0 ∗ xAt c X (qs s))

/-- A slot landed is idle again. -/
theorem idle_of_landed (s : Fin 2) (w : Fin 512 → Fin 49152) : landed c X s w ⊢ (idle c X s : sProp 𝕄) := by
  unfold landed idle
  iintro ⟨Hb, Hs, Hx⟩
  isplitl [Hb]; · iexists _; iexact Hb
  isplitl [Hs] <;> iassumption

/-- An idle slot is ready to start its copies. -/
theorem issueAt_of_idle (s : Fin 2) (w : Fin 512 → Fin 49152) : idle c X s ⊢ (|={Set.univ}=> issueAt c X s w 0 : sProp 𝕄) := by
  unfold idle issueAt
  iintro ⟨⟨%f, Hb⟩, Hs, Hx⟩
  ihave Hx' := (Transfers.pointsTo_toks_split (qs s) 512) $$ Hx
  icases Hx' with ⟨Hd, Ht⟩
  ihave Hb' := (Entails.of_eq (Ring.pointsTo_sub_blocks (ℓ := bufM.view.loc (c : Thread nD τ)) (rset s) (rset_disjoint s) (sset s) (rset_cover s) (q := fullShare) f)) $$ Hb
  imod (Transfers.batch_alloc' (Lvl := ℕ) (countersEmb (U := UD sig nD τ)) (c : Thread nD τ) () credit (land c X s w) (sm := .dma (sem s)) (E := Set.univ)) $$ Hs with HB
  imodintro
  isplitl [HB]; · iexact HB
  rw [Ring.rangeSet_univ, Ring.bigSep_rangeSet_empty (le_refl 0)]
  isplitl [Hb' Ht]
  · iapply (show iprop(bigSep Finset.univ (fun r : Fin 512 => iprop(∃ f, bufAt c (rset s r) f)) ∗ bigSep Finset.univ (fun r : Fin 512 => xAt c X (Transfers.shareTok (qs s) 512 r)))
        ⊢ bigSep Finset.univ (give c X s) from Entails.of_eq (BI.bigSep_sep (M := 𝕄) _ _ _).symm)
    isplitl [Hb']
    · iapply (show (bigSep Finset.univ (fun r : Fin 512 => bufAt c (rset s r) f) : sProp 𝕄) ⊢ bigSep Finset.univ (fun r : Fin 512 => iprop(∃ f, bufAt c (rset s r) f)) from
        BI.bigSep_mono fun r _ => (show (bufAt c (rset s r) f : sProp 𝕄) ⊢ iprop(∃ f, bufAt c (rset s r) f) from by iintro H; iexists f; iexact H))
      iexact Hb'
    iexact Ht
  isplitr; · iempintro
  iexact Hd

/-- All copies started: the slot is in flight. -/
theorem flying_of_issueAt (s : Fin 2) (w : Fin 512 → Fin 49152) : issueAt c X s w 512 ⊢ (flying c X s w : sProp 𝕄) := by
  unfold issueAt flying
  rw [Ring.rangeSet_univ]
  iintro ⟨HB, -, Hr, Hd⟩
  isplitl [HB]; · iexact HB
  isplitl [Hr] <;> iassumption

/-- Every delivery back: the slot holds the gathered rows, its share of the array is whole. -/
theorem landed_of_all (s : Fin 2) (w : Fin 512 → Fin 49152) :
    iprop(bigSep Finset.univ (land c X s w) ∗ semVal ((c : Thread nD τ), SemLoc.dma (sem s)) 0 ∗ bigSep Finset.univ (tokRest c X s w)
      ∗ xAt c X (Transfers.shareDrop (qs s) 512)) ⊢ (landed c X s w : sProp 𝕄) := by
  unfold landed
  iintro ⟨HA, Hs, Hr, Hd⟩
  ihave HA' := (show bigSep Finset.univ (land c X s w) ⊢ iprop(bigSep Finset.univ (fun r => bufAt c (rset s r) (rowsOf X w)) ∗ bigSep Finset.univ (tokRow c X s w))
    from Entails.of_eq (BI.bigSep_sep (M := 𝕄) _ _ _)) $$ HA
  icases HA' with ⟨Hb, Ht⟩
  isplitl [Hb]
  · iapply (Entails.of_eq (Ring.pointsTo_sub_blocks (ℓ := bufM.view.loc (c : Thread nD τ)) (rset s) (rset_disjoint s) (sset s) (rset_cover s) (q := fullShare) (rowsOf X w)).symm)
    iexact Hb
  isplitl [Hs]; · iexact Hs
  iapply (Transfers.pointsTo_toks_join (qs s) 512)
  isplitl [Hd]; · iexact Hd
  iapply (show iprop(bigSep Finset.univ (tokRow c X s w) ∗ bigSep Finset.univ (tokRest c X s w)) ⊢ bigSep Finset.univ (fun r : Fin 512 => xAt c X (Transfers.shareTok (qs s) 512 r)) from
    (Entails.of_eq (BI.bigSep_sep (M := 𝕄) _ _ _).symm).trans (BI.bigSep_mono fun r _ =>
      (pointsTo_split_subset (ℓ := (src (w r)).view.loc (c : Thread nD τ)) (S := Finset.univ) (Finset.subset_univ _)).2))
  isplitl [Ht] <;> iassumption

/-! ## The steps -/

section Steps

variable {α : Type}

/-- One copy started, at a program that begins with it. -/
theorem wp_issue (s : Fin 2) (w : Fin 512 → Fin 49152) (k : Fin 512)
    {o h p hp p' hp'} {o6 h6} (eo : o = ![s.val, 0, 0]) (ep : p = ![k.val, 0]) (ep' : p' = ![(w k).val, 0]) (e6 : o6 = ![s.val])
    {hs : (srcM p' hp').view.WordExact} {hd : (rowM o h p hp).view.WordExact}
    {ht : DmaTarget.Typed (nD := nD) (τ := τ) (sig := sig) (p := .tc) .hbm (.dma (semM o6 h6)) (.here (rowM o h p hp))}
    {K : PUnit → Prog (TpuEff nD τ sig (Elt F) Λ₀ .tc) α} {Q : α → sProp 𝕄} :
    issueAt c X s w k.val ⊢ iprop((issueAt c X s w (k.val + 1) -∗ wp frame (wpE defs₀ Variants.none (c : Thread nD τ) none) Set.univ (K ⟨⟩) Q)
      -∗ wp frame (wpE defs₀ Variants.none (c : Thread nD τ) none) Set.univ
          (.op (.enqueueDma (srcM p' hp') (.here (rowM o h p hp)) (.dma (semM o6 h6)) hs hd ht) K) Q) := by
  subst eo; subst ep; subst ep'; subst e6
  unfold issueAt
  rw [Ring.bigSep_rangeSet_head (Φ := give c X s) k.isLt k.isLt,
    Ring.bigSep_rangeSet_last (Φ := tokRest c X s w) (lo := 0) (hi := k.val + 1) (Nat.succ_pos _) k.isLt]
  iintro ⟨HB, ⟨⟨⟨%f, Hb⟩, Ht⟩, Hg⟩, Hr, Hd⟩ HK
  ihave Ht' := (show xAt c X (Transfers.shareTok (qs s) 512 k) ⊢ iprop(tokRow c X s w k ∗ tokRest c X s w k) from
    (pointsTo_split_subset (ℓ := (src (w k)).view.loc (c : Thread nD τ)) (S := Finset.univ) (Finset.subset_univ _)).1) $$ Ht
  icases Ht' with ⟨Ht, Htr⟩
  iapply (Transfers.wp_dmaBatch (countersEmb (U := UD sig nD τ)) Variants.none (c : Thread nD τ) none (src := src (w k)) (dst := row s k)
    (D := land c X s w) () credit rfl (Sd := rset s k) (row_set s k).subset k.isLt (Nat.zero_le _) (by
      unfold land
      iintro ⟨Hb, Ht⟩
      isplitl [Hb]
      · iapply (Entails.of_eq (pointsTo_congr (ℓ := bufM.view.loc (c : Thread nD τ)) fun y hy => landed_eq X w s k f y hy))
        iexact Hb
      iexact Ht)) $$ [Ht Hb HB]
  · isplitl [Ht]; · iexact Ht
    isplitl [Hb]; · iexact Hb
    iexact HB
  iintro HB
  iapply HK
  isplitl [HB]; · iexact HB
  isplitl [Hg]; · iexact Hg
  isplitr [Hd]
  · isplitl [Htr]; · iexact Htr
    iexact Hr
  iexact Hd

/-- What is held after `k` of the waits. -/
def drainAt (s : Fin 2) (w : Fin 512 → Fin 49152) (k : ℕ) : sProp 𝕄 :=
  iprop((∃ W, owes (c : Thread nD τ) 0 W)
    ∗ (if k < 512 then batch c X s w 512 (k * credit)
       else iprop(bigSep Finset.univ (land c X s w) ∗ semVal ((c : Thread nD τ), SemLoc.dma (sem s)) 0))
    ∗ bigSep Finset.univ (tokRest c X s w) ∗ xAt c X (Transfers.shareDrop (qs s) 512))

theorem drainAt_zero (s : Fin 2) (w : Fin 512 → Fin 49152) :
    iprop((∃ W, owes (c : Thread nD τ) 0 W) ∗ flying c X s w) ⊢ (drainAt c X s w 0 : sProp 𝕄) := by
  unfold flying drainAt
  rw [if_pos (by decide), Nat.zero_mul]

theorem drainAt_last (s : Fin 2) (w : Fin 512 → Fin 49152) :
    drainAt c X s w 512 ⊢ (iprop((∃ W, owes (c : Thread nD τ) 0 W) ∗ landed c X s w) : sProp 𝕄) := by
  unfold drainAt
  rw [if_neg (by decide)]
  iintro ⟨HO, ⟨HA, Hs⟩, Hr, Hd⟩
  isplitl [HO]; · iexact HO
  iapply (landed_of_all c X s w)
  isplitl [HA]; · iexact HA
  isplitl [Hs]; · iexact Hs
  isplitl [Hr] <;> iassumption

/-- One wait, at a program that begins with it. -/
theorem wp_drain (s : Fin 2) (w : Fin 512 → Fin 49152) (k : Fin 512)
    {o h p hp p' hp'} {o6 h6} (e6 : o6 = ![s.val])
    {hs : (srcM p' hp').view.WordExact} {hd : (rowM o h p hp).view.WordExact}
    {K : PUnit → Prog (TpuEff nD τ sig (Elt F) Λ₀ .tc) α} {Q : α → sProp 𝕄} :
    drainAt c X s w k.val ⊢ iprop((drainAt c X s w (k.val + 1) -∗ wp frame (wpE defs₀ Variants.none (c : Thread nD τ) none) Set.univ (K ⟨⟩) Q)
      -∗ wp frame (wpE defs₀ Variants.none (c : Thread nD τ) none) Set.univ
          (.op (.waitDma2 (semM o6 h6) (srcM p' hp') (rowM o h p hp) hs hd) K) Q) := by
  subst e6
  have hk := k.isLt
  have hc := credit_pos
  unfold drainAt
  rw [if_pos hk]
  iintro ⟨⟨%W, HO⟩, HB, Hr, Hd⟩ HK
  rcases Nat.lt_or_ge (k.val + 1) 512 with h1 | h1
  · rw [if_pos h1]
    iapply (Transfers.wp_waitBatch (countersEmb (U := UD sig nD τ)) Variants.none (c : Thread nD τ) none (srcw := srcM p' hp') (dstw := rowM o h p hp) (D := land c X s w) () (N := credit) rfl
      (u := k.val * credit) (by rw [← Nat.succ_mul, Nat.mul_comm credit]; exact Nat.mul_lt_mul_of_pos_right h1 hc)) $$ [HB HO]
    · isplitl [HB]; · iexact HB
      iexact HO
    iintro ⟨HB, HO⟩
    iapply HK
    isplitl [HO]; · iexists _; iexact HO
    isplitl [HB]
    · rw [Nat.succ_mul]; iexact HB
    isplitl [Hr] <;> iassumption
  · rw [if_neg (Nat.not_lt.mpr h1)]
    iapply (Transfers.wp_waitBatchLast (countersEmb (U := UD sig nD τ)) Variants.none (c : Thread nD τ) none (srcw := srcM p' hp') (dstw := rowM o h p hp) (D := land c X s w) () (N := credit) rfl hc
      (u := k.val * credit) (by rw [← Nat.succ_mul, Nat.mul_comm credit, show k.val.succ = 512 by omega])) $$ [HB HO]
    · isplitl [HB]; · iexact HB
      iexact HO
    iintro ⟨HA, Hs, HO⟩
    iapply HK
    isplitl [HO]; · iexists _; iexact HO
    isplitl [HA Hs]
    · isplitl [HA] <;> iassumption
    isplitl [Hr] <;> iassumption

end Steps

end Cert.Proof.Kernel2Ideal

end
-- ==== Proof.EI.Loops.lean ====
/-
  The three counted loops of the body: the two that start a slot's copies, and the one that waits for them.
-/
module

public import proofs.«01_k».proof.Proof.EI.Flight

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The proof's resource algebra. -/
local notation "𝕄" => MT nD τ sig Unit (Elt F) ℕ (UD sig nD τ) ℕ

variable (c : Dev nD) (X : S49152x1152.Idx → Elt F .f32)

theorem trips1 : k0_t1_loop.trips = 512 := by decide +kernel
theorem trips2 : k0_t2_loop.trips = 512 := by decide +kernel
theorem trips3 : k0_t3_loop.trips = 512 := by decide +kernel

/-- The slot whose copies point `i` waits for, and the one it fills. -/
def cur (i : grid0.Coords) : Fin 2 := ⟨(i 0).val % 2, Nat.mod_lt _ (by decide)⟩
def nxt (i : grid0.Coords) : Fin 2 := ⟨1 - (i 0).val % 2, by omega⟩

theorem off6_eq : ∀ i : grid0.Coords, k0_off6 i = ![(nxt i).val] := by decide +kernel
theorem off7_eq : ∀ i : grid0.Coords, k0_off7 i = ![(nxt i).val, 0, 0] := by decide +kernel
theorem off10_eq : ∀ i : grid0.Coords, k0_off10 i = ![(cur i).val] := by decide +kernel
theorem off11_eq : ∀ i : grid0.Coords, k0_off11 i = ![(cur i).val, 0, 0] := by decide +kernel
theorem off13_eq : ∀ i : grid0.Coords, k0_off13 i = ![(cur i).val, 0, 0] := by decide +kernel
theorem off14_eq : ∀ i : grid0.Coords, k0_off14 i = ![(cur i).val, 0, 1024] := by decide +kernel

/-- Word `k` of a table of 512. -/
def wordAt (M : Memref sig .tc .smem S1x1x512 .i32) (f : Buf (Elt F) (M.view.loc (c : Thread nD τ))) (k : Fin 512) : BitVec 32 :=
  M.view.read (Elt F) f (fun a => match a with | ⟨0, _⟩ => (0 : Fin 1) | ⟨1, _⟩ => (0 : Fin 1) | ⟨2, _⟩ => k)

/-- A one-word load reads it. -/
theorem word_read (M : Memref sig .tc .smem S1x1x512 .i32) (f : Buf (Elt F) (M.view.loc (c : Thread nD τ))) (k : Fin 512)
    {off : Fin 3 → Nat} (hoff : off = ![0, 0, k.val]) (h : ∀ a, off a + S1x1x1.size a ≤ S1x1x512.size a) (x : S1x1x1.Idx) :
    M.view.readAt (Elt F) (Rect.unit (s := S1x1x512) off S1x1x1.size h).toLoadRect f x = wordAt c M f k := by
  subst hoff
  rw [View.readAt_apply]
  refine congrArg (M.view.read (Elt F) f) (funext fun a => Fin.ext ?_)
  match a with
  | ⟨0, _⟩ => have : (x 0).val < 1 := (x 0).isLt; show 0 + 1 * (x 0).val = 0; omega
  | ⟨1, _⟩ => have : (x 1).val < 1 := (x 1).isLt; show 0 + 1 * (x 1).val = 0; omega
  | ⟨2, _⟩ => have : (x 2).val < 1 := (x 2).isLt; show k.val + 1 * (x 2).val = k.val; omega

/-- A row number in range is a row of the gathered array. -/
theorem inb_of_word {v : BitVec 32} {w : Fin 49152} (h : v.toNat = w.val) :
    ∀ a, (![v.toNat, 0] : Fin 2 → Nat) a + S1x1152.size a ≤ S49152x1152.size a := by rw [h]; exact srcB w

section Body

variable (i : grid0.Coords) (arg1 : Memref sig .tc .smem S100 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (harg5 : xM.IsWhole) (arg6 : Memref sig .tc .vmem S1x4x1024x512 .bf16) (harg6 : arg6.IsWhole)
  (arg7 : Memref sig .tc .vmem S1x4x1024x512 .bf16) (harg7 : arg7.IsWhole) (arg8 : Memref sig .tc .vmem S1x4x512x1024 .bf16) (harg8 : arg8.IsWhole)
  (arg9 : Memref sig .tc .vmem S512x1024 .f32) (harg9 : arg9.IsWhole) (harg10 : bufM.IsWhole)

/-- One trip of the loop that fills slot 0 at the first point. -/
theorem trip1 (h1 : k0_cond1 i = 1#1) (w : Fin 512 → Fin 49152) (f3 : Buf (Elt F) (arg3.view.loc (c : Thread nD τ)))
    (hw : ∀ k, (wordAt c arg3 f3 k).toNat = (w k).val) (k : Fin k0_t1_loop.trips) (acc : Unit) :
    iprop((arg3.view.loc (c : Thread nD τ) ↦{fullShare} f3) ∗ issueAt c X 0 w k.val)
      ⊢ wp frame (wpE defs₀ Variants.none (c : Thread nD τ) none) Set.univ
          (k0_t1_body (F := F) i arg1 harg1 arg2 harg2 arg3 harg3 arg4 harg4 xM harg5 arg6 harg6 arg7 harg7 arg8 harg8 arg9 harg9 bufM harg10 cc0_scratch1 h1 k acc)
          (fun _ => iprop((arg3.view.loc (c : Thread nD τ) ↦{fullShare} f3) ∗ issueAt c X 0 w (k.val + 1))) := by
  have hk : k.val < 512 := trips1 ▸ k.isLt
  iintro ⟨H3, HI⟩
  sl_unfold [k0_t1_body]
  sl_exec
  have hv : (trip1.sl.r c i arg3 h1 f3 k).toNat = (w ⟨k.val, hk⟩).val := by
    unfold trip1.sl.r
    exact (congrArg BitVec.toNat (word_read c arg3 f3 ⟨k.val, hk⟩ (k0_off2_eq k) _ _)).trans (hw _)
  have hc : k0_chk1 i (trip1.sl.r c i arg3 h1 f3 k) := fun _ => inb_of_word hv
  iapply (wp_assume _ _ _ _ hc)
  iapply (wp_issue c X 0 w ⟨k.val, hk⟩ rfl (k0_off3_eq k) (by show (![_, 0] : Fin 2 → Nat) = _; rw [hv]) rfl) $$ HI
  iintro HI
  dsimp only [Prog.bind]
  sl_step
  isplitl [H3] <;> iassumption

/-- One trip of the loop that fills the other slot for the next point. -/
theorem trip2 (v : Elt F .i32) (h2 : k0_cond2 i v = 1#1) (w : Fin 512 → Fin 49152) (f4 : Buf (Elt F) (arg4.view.loc (c : Thread nD τ)))
    (hw : ∀ k, (wordAt c arg4 f4 k).toNat = (w k).val) (k : Fin k0_t2_loop.trips) (acc : Unit) :
    iprop((arg4.view.loc (c : Thread nD τ) ↦{fullShare} f4) ∗ issueAt c X (nxt i) w k.val)
      ⊢ wp frame (wpE defs₀ Variants.none (c : Thread nD τ) none) Set.univ
          (k0_t2_body (F := F) i arg1 harg1 arg2 harg2 arg3 harg3 arg4 harg4 xM harg5 arg6 harg6 arg7 harg7 arg8 harg8 arg9 harg9 bufM harg10 cc0_scratch1 v h2 k acc)
          (fun _ => iprop((arg4.view.loc (c : Thread nD τ) ↦{fullShare} f4) ∗ issueAt c X (nxt i) w (k.val + 1))) := by
  have hk : k.val < 512 := trips2 ▸ k.isLt
  iintro ⟨H3, HI⟩
  sl_unfold [k0_t2_body]
  sl_exec
  have hv : (trip2.sl.r c arg4 f4 k).toNat = (w ⟨k.val, hk⟩).val := by
    unfold trip2.sl.r
    exact (congrArg BitVec.toNat (word_read c arg4 f4 ⟨k.val, hk⟩ (k0_off5_eq k) _ _)).trans (hw _)
  have hc : k0_chk2 i v (trip2.sl.r c arg4 f4 k) := fun _ => inb_of_word hv
  iapply (wp_assume _ _ _ _ hc)
  iapply (wp_issue c X (nxt i) w ⟨k.val, hk⟩ (off7_eq i) (k0_off8_eq k) (by show (![_, 0] : Fin 2 → Nat) = _; rw [hv]) (off6_eq i)) $$ HI
  iintro HI
  dsimp only [Prog.bind]
  sl_step
  isplitl [H3] <;> iassumption

/-- One trip of the loop that waits for the point's slot. -/
theorem trip3 (a0 v9 : BitVec 32) (w : Fin 512 → Fin 49152) (k : Fin k0_t3_loop.trips) (acc : Unit) :
    drainAt c X (cur i) w k.val
      ⊢ wp frame (wpE defs₀ Variants.none (c : Thread nD τ) none) Set.univ
          (k0_t3_body (F := F) i arg1 harg1 arg2 harg2 arg3 harg3 arg4 harg4 xM harg5 arg6 harg6 arg7 harg7 arg8 harg8 arg9 harg9 bufM harg10 cc0_scratch1 a0 v9 k acc)
          (fun _ => drainAt c X (cur i) w (k.val + 1)) := by
  have hk : k.val < 512 := trips3 ▸ k.isLt
  iintro HI
  sl_unfold [k0_t3_body]
  iapply (wp_drain c X (cur i) w ⟨k.val, hk⟩ (off10_eq i)) $$ HI
  iintro HI
  dsimp only [Prog.bind]
  sl_step
  iexact HI

end Body

end Cert.Proof.Kernel2Ideal

end
-- ==== Proof.EI.Body.lean ====
/-
  One grid point of the kernel, by stages: the copies of the first tile started at the first point, the copies of the
  next tile started, the current tile's copies waited for and its rows multiplied through the four experts of its group
  (or, past the last valid tile, zeros stored).
-/
module

public import proofs.«01_k».proof.Proof.EI.Loops
public import proofs.«01_k».proof.Proof.Gen.Kernel2Ideal.Skeleton
public import Idealize.ShloMosaic.Lib.WritesUnit

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The proof's resource algebra. -/
local notation "𝕄" => MT nD τ sig Unit (Elt F) ℕ (UD sig nD τ) ℕ

variable (c : Dev nD) (X : S49152x1152.Idx → Elt F .f32)

/-! ## What a point computes -/

/-- A memref's buffer held whole, at contents that read `Y`; at some contents. -/
abbrev hold {sp : Space} {S : Shape} {e : EltTy} (M : Memref sig .tc sp S e) (Y : S.Idx → Elt F e) : sProp 𝕄 :=
  iprop(∃ f : Buf (Elt F) (M.view.loc (c : Thread nD τ)), (M.view.loc (c : Thread nD τ) ↦{fullShare} f) ∗ ⌜M.view.read (Elt F) f = Y⌝)
abbrev some' {sp : Space} {S : Shape} {e : EltTy} (M : Memref sig .tc sp S e) : sProp 𝕄 :=
  iprop(∃ f : Buf (Elt F) (M.view.loc (c : Thread nD τ)), (M.view.loc (c : Thread nD τ) ↦{fullShare} f))

/-- The rows gathered for a tile, and their coefficient lanes. -/
def rowsX (w : Fin 512 → Fin 49152) : Vec F S1x512x1024 .f32 := fun y =>
  X (fun a => match a with | ⟨0, _⟩ => w (y 1) | ⟨1, _⟩ => (⟨(y 2).val, by have : (y 2).val < 1024 := (y 2).isLt; omega⟩ : Fin 1152))
def rowsC (w : Fin 512 → Fin 49152) : Vec F S1x512x128 .f32 := fun y =>
  X (fun a => match a with | ⟨0, _⟩ => w (y 1) | ⟨1, _⟩ => (⟨1024 + (y 2).val, by have : (y 2).val < 128 := (y 2).isLt; omega⟩ : Fin 1152))
/-- Expert `e`'s matrix of a group's four. -/
def exU (e : Fin 4) (Y : Vec F S1x4x1024x512 .bf16) : Vec F S1x1x1024x512 .bf16 := fun y =>
  Y (fun a => match a with | ⟨0, _⟩ => (0 : Fin 1) | ⟨1, _⟩ => e | ⟨2, _⟩ => y 2 | ⟨3, _⟩ => y 3)
def exD (e : Fin 4) (Y : Vec F S1x4x512x1024 .bf16) : Vec F S1x1x512x1024 .bf16 := fun y =>
  Y (fun a => match a with | ⟨0, _⟩ => (0 : Fin 1) | ⟨1, _⟩ => e | ⟨2, _⟩ => y 2 | ⟨3, _⟩ => y 3)

/-- A valid tile's result, from its rows, their coefficients, its group and the group's weights. -/
def tileB (v26 : Vec F S1x512x1024 .f32) (v30 : Vec F S1x512x128 .f32) (g : BitVec 32) (Y6 Y7 : Vec F S1x4x1024x512 .bf16) (Y8 : Vec F S1x4x512x1024 .bf16) :
    Vec F S512x1024 .f32 :=
  k0_pay1
    (k0_pay8 (k0_pay3 v26)
      (k0_pay6 (k0_pay3 v26) (k0_pay4 v30) (iota .tc S512x128 32 [1] iota_S512x128_d1_w32) (Scalar.addi 4#32 (Scalar.muli 4#32 g))
        (k0_pay5 v26 v30 g (exU 0 Y6) (exU 0 Y7)) (exD 0 Y8) (exU 1 Y6) (exU 1 Y7) (exD 1 Y8))
      (k0_pay7 (k0_pay4 v30) (iota .tc S512x128 32 [1] iota_S512x128_d1_w32) (Scalar.addi 4#32 (Scalar.muli 4#32 g)))
      (exU 2 Y6) (exU 2 Y7) (exD 2 Y8))
    (k0_pay9 (k0_pay3 v26) (k0_pay4 v30) (iota .tc S512x128 32 [1] iota_S512x128_d1_w32) (Scalar.addi 4#32 (Scalar.muli 4#32 g)) (exU 3 Y6) (exU 3 Y7))
    (exD 3 Y8)

theorem read_exU (M : Memref sig .tc .vmem S1x4x1024x512 .bf16) (f : Buf (Elt F) (M.view.loc (c : Thread nD τ))) (e : Fin 4)
    {off : Fin 4 → Nat} (hoff : off = ![0, e.val, 0, 0]) (h : ∀ a, off a + S1x1x1024x512.size a ≤ S1x4x1024x512.size a) :
    M.view.readAt (Elt F) (Rect.unit (s := S1x4x1024x512) off S1x1x1024x512.size h).toLoadRect f = exU e (M.view.read (Elt F) f) := by
  subst hoff
  funext x
  rw [View.readAt_apply]
  refine congrArg (M.view.read (Elt F) f) (funext fun a => Fin.ext ?_)
  match a with
  | ⟨0, _⟩ => have : (x 0).val < 1 := (x 0).isLt; show 0 + 1 * (x 0).val = 0; omega
  | ⟨1, _⟩ => have : (x 1).val < 1 := (x 1).isLt; show e.val + 1 * (x 1).val = e.val; omega
  | ⟨2, _⟩ => show 0 + 1 * (x 2).val = (x 2).val; omega
  | ⟨3, _⟩ => show 0 + 1 * (x 3).val = (x 3).val; omega

theorem read_exD (M : Memref sig .tc .vmem S1x4x512x1024 .bf16) (f : Buf (Elt F) (M.view.loc (c : Thread nD τ))) (e : Fin 4)
    {off : Fin 4 → Nat} (hoff : off = ![0, e.val, 0, 0]) (h : ∀ a, off a + S1x1x512x1024.size a ≤ S1x4x512x1024.size a) :
    M.view.readAt (Elt F) (Rect.unit (s := S1x4x512x1024) off S1x1x512x1024.size h).toLoadRect f = exD e (M.view.read (Elt F) f) := by
  subst hoff
  funext x
  rw [View.readAt_apply]
  refine congrArg (M.view.read (Elt F) f) (funext fun a => Fin.ext ?_)
  match a with
  | ⟨0, _⟩ => have : (x 0).val < 1 := (x 0).isLt; show 0 + 1 * (x 0).val = 0; omega
  | ⟨1, _⟩ => have : (x 1).val < 1 := (x 1).isLt; show e.val + 1 * (x 1).val = e.val; omega
  | ⟨2, _⟩ => show 0 + 1 * (x 2).val = (x 2).val; omega
  | ⟨3, _⟩ => show 0 + 1 * (x 3).val = (x 3).val; omega

/-- A load of a landed slot's first 1024 lanes is the gathered rows, of its last 128 their coefficients. -/
theorem read_rowsX (s : Fin 2) (w : Fin 512 → Fin 49152) {off : Fin 3 → Nat} (hoff : off = ![s.val, 0, 0])
    (h : ∀ a, off a + S1x512x1024.size a ≤ S2x512x1152.size a) :
    (bufM.access (Rect.unit (s := S2x512x1152) off S1x512x1024.size h)).read (Elt F) (rowsOf X w) = rowsX X w := by
  subst hoff
  funext x
  show rowsOf X w ((Rect.unit (s := S2x512x1152) ![s.val, 0, 0] S1x512x1024.size h).emb x) = _
  unfold rowsOf rowsX
  refine congrArg X (funext fun a => ?_)
  match a with
  | ⟨0, _⟩ => exact congrArg w (Fin.ext (show 0 + 1 * (x 1).val = (x 1).val by omega))
  | ⟨1, _⟩ => exact Fin.ext (show 0 + 1 * (x 2).val = (x 2).val by omega)
theorem read_rowsC (s : Fin 2) (w : Fin 512 → Fin 49152) {off : Fin 3 → Nat} (hoff : off = ![s.val, 0, 1024])
    (h : ∀ a, off a + S1x512x128.size a ≤ S2x512x1152.size a) :
    (bufM.access (Rect.unit (s := S2x512x1152) off S1x512x128.size h)).read (Elt F) (rowsOf X w) = rowsC X w := by
  subst hoff
  funext x
  show rowsOf X w ((Rect.unit (s := S2x512x1152) ![s.val, 0, 1024] S1x512x128.size h).emb x) = _
  unfold rowsOf rowsC
  refine congrArg X (funext fun a => ?_)
  match a with
  | ⟨0, _⟩ => exact congrArg w (Fin.ext (show 0 + 1 * (x 1).val = (x 1).val by omega))
  | ⟨1, _⟩ => exact Fin.ext (show 1024 + 1 * (x 2).val = 1024 + (x 2).val by omega)
/-- Both loads lie in the slot. -/
theorem in_slot (s : Fin 2) {sz : Fin 3 → Nat} {off : Fin 3 → Nat} (hoff : off 0 = s.val) (hsz : sz 0 = 1)
    (h : ∀ a, off a + sz a ≤ S2x512x1152.size a) :
    (bufM.access (Rect.unit (s := S2x512x1152) off sz h)).set ⊆ sset s := by
  intro y hy
  obtain ⟨x, -, rfl⟩ := Finset.mem_map.mp hy
  refine (mem_sset s _).mpr ?_
  have hx : (x 0).val < 1 := lt_of_lt_of_eq (x 0).isLt hsz
  show off 0 + 1 * (x 0).val = s.val
  omega

/-- A store over the whole block reads back. -/
theorem read_full (M : Memref sig .tc .vmem S512x1024 .f32) (f : Buf (Elt F) (M.view.loc (c : Thread nD τ)))
    (h : ∀ a, (![0, 0] : Fin 2 → Nat) a + S512x1024.size a ≤ S512x1024.size a) (Y : S512x1024.Idx → Elt F .f32) :
    M.view.read (Elt F) (M.view.writes (Elt F) f [⟨Rect.unit (s := S512x1024) ![0, 0] S512x1024.size h, Y⟩]) = Y := by
  funext y
  refine View.read_writes_cons_unit_of_mem M.view f h Y [] y y rfl fun a => ?_
  match a with
  | ⟨0, _⟩ => exact (Nat.zero_add _).symm
  | ⟨1, _⟩ => exact (Nat.zero_add _).symm

section Body

variable (i : grid0.Coords) (arg1 : Memref sig .tc .smem S100 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (harg5 : xM.IsWhole) (arg6 : Memref sig .tc .vmem S1x4x1024x512 .bf16) (harg6 : arg6.IsWhole)
  (arg7 : Memref sig .tc .vmem S1x4x1024x512 .bf16) (harg7 : arg7.IsWhole) (arg8 : Memref sig .tc .vmem S1x4x512x1024 .bf16) (harg8 : arg8.IsWhole)
  (arg9 : Memref sig .tc .vmem S512x1024 .f32) (harg9 : arg9.IsWhole) (harg10 : bufM.IsWhole)

/-! ## The body as stages -/

/-- The slot the point reads, as the body computes it. -/
def slotW : BitVec 32 :=
  let arg0 : BitVec 32 := BitVec.ofNat 32 (i 0).val
  let v1 : BitVec 32 := Scalar.select (Scalar.cmpi .eq 2#32 0#32) 1#32 2#32
  let v2 : BitVec 32 := Scalar.remsi arg0 v1
  Scalar.select (Scalar.andi (Scalar.xori (Scalar.cmpi .slt v2 0#32) (Scalar.cmpi .slt v1 0#32)) (Scalar.cmpi .ne v2 0#32)) (Scalar.addi v2 v1) v2

/-- The last stage: past the last valid tile, zeros. -/
def stage4 (n : BitVec 32) : Prog (TpuEff nD τ sig (Elt F) Λ₀ .tc) PUnit :=
  if k0_h4 : k0_cond4 i n = 1#1 then do
    let _ : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (k0_pay2 (F := F)) Finset.univ (View.stores_vmem_bits_univ h_S512x1024 rfl) (.inl rfl))
    pure ⟨⟩
  else pure ⟨⟩

/-- The third: a valid tile's rows waited for and multiplied. -/
def stage3 (n : BitVec 32) : Prog (TpuEff nD τ sig (Elt F) Λ₀ .tc) PUnit :=
  if k0_h3 : k0_cond3 i n = 1#1 then do
    let ⟨v28, v31, v32, v36, v55⟩ ← k0_part1 (F := F) i arg1 harg1 arg2 harg2 arg3 harg3 arg4 harg4 xM harg5 arg6 harg6 arg7 harg7 arg8 harg8 arg9 harg9 bufM harg10 cc0_scratch1 (BitVec.ofNat 32 (i 0).val) (slotW i)
    let ⟨v81, v88, v89⟩ ← k0_part2 (F := F) i arg1 harg1 arg2 harg2 arg3 harg3 arg4 harg4 xM harg5 arg6 harg6 arg7 harg7 arg8 harg8 arg9 harg9 bufM harg10 cc0_scratch1 v28 v31 v32 v36 v55
    let ⟨v104, v123⟩ ← k0_part3 (F := F) i arg1 harg1 arg2 harg2 arg3 harg3 arg4 harg4 xM harg5 arg6 harg6 arg7 harg7 arg8 harg8 arg9 harg9 bufM harg10 cc0_scratch1 v28 v31 v32 v36 v81 v88 v89
    let v124 : Vec F S1x1x512x1024 .bf16 ← Prog.lift (.load arg8 (Rect.unit (s := S1x4x512x1024) ![0, 3, 0, 0] S1x1x512x1024.size inb_S1x4x512x1024_S1x1x512x1024_0_3_0_0).toLoadRect (View.loadsAt_vmem h_S1x1x512x1024))
    let _ : Vec F S512x1024 .f32 ← Prog.lift (.load arg9 (Rect.unit (s := S512x1024) ![0, 0] S512x1024.size inb_S512x1024_S512x1024_0_0).toLoadRect (View.loadsAt_vmem h_S512x1024))
    Prog.lift (.store arg9 (Rect.unit (s := S512x1024) ![0, 0] S512x1024.size inb_S512x1024_S512x1024_0_0) (k0_pay1 v104 v123 v124) Finset.univ (View.stores_vmem_bits_univ h_S512x1024 rfl) (.inl rfl))
    stage4 i arg9 n
  else stage4 i arg9 n

/-- The second: the next tile's copies started, when there is one. -/
def stage2 (n : BitVec 32) : Prog (TpuEff nD τ sig (Elt F) Λ₀ .tc) PUnit :=
  if k0_h2 : k0_cond2 i n = 1#1 then do
    Scf.Loop.for k0_t2_loop k0_t2_ok ⟨⟩ (k0_t2_body (F := F) i arg1 harg1 arg2 harg2 arg3 harg3 arg4 harg4 xM harg5 arg6 harg6 arg7 harg7 arg8 harg8 arg9 harg9 bufM harg10 cc0_scratch1 n k0_h2)
    stage3 i arg1 harg1 arg2 harg2 arg3 harg3 arg4 harg4 harg5 arg6 harg6 arg7 harg7 arg8 harg8 arg9 harg9 harg10 n
  else stage3 i arg1 harg1 arg2 harg2 arg3 harg3 arg4 harg4 harg5 arg6 harg6 arg7 harg7 arg8 harg8 arg9 harg9 harg10 n

/-- The first: the first tile's copies started, at the first point. -/
def stage1 (n : BitVec 32) : Prog (TpuEff nD τ sig (Elt F) Λ₀ .tc) PUnit :=
  if k0_h1 : k0_cond1 i = 1#1 then do
    Scf.Loop.for k0_t1_loop (k0_t1_ok i k0_h1) ⟨⟩ (k0_t1_body (F := F) i arg1 harg1 arg2 harg2 arg3 harg3 arg4 harg4 xM harg5 arg6 harg6 arg7 harg7 arg8 harg8 arg9 harg9 bufM harg10 cc0_scratch1 k0_h1)
    stage2 i arg1 harg1 arg2 harg2 arg3 harg3 arg4 harg4 harg5 arg6 harg6 arg7 harg7 arg8 harg8 arg9 harg9 harg10 n
  else stage2 i arg1 harg1 arg2 harg2 arg3 harg3 arg4 harg4 harg5 arg6 harg6 arg7 harg7 arg8 harg8 arg9 harg9 harg10 n

theorem body_eq_stages : cc0_moe_ffn (F := F) i arg1 harg1 arg2 harg2 arg3 harg3 arg4 harg4 xM harg5 arg6 harg6 arg7 harg7 arg8 harg8 arg9 harg9 bufM harg10 cc0_scratch1 = (do
    let n : Elt F .i32 ← smemLoad arg2 (Rect.unit (s := S1) ![0] S1.size inb_S1_S1_0) numel1_S1 rfl
    stage1 i arg1 harg1 arg2 harg2 arg3 harg3 arg4 harg4 harg5 arg6 harg6 arg7 harg7 arg8 harg8 arg9 harg9 harg10 n) := rfl

/-! ## The loops -/

/-- The first loop: the continuation from every copy of the first tile started. -/
theorem run1 (h1 : k0_cond1 i = 1#1) (w : Fin 512 → Fin 49152) (f3 : Buf (Elt F) (arg3.view.loc (c : Thread nD τ)))
    (hw : ∀ k, (wordAt c arg3 f3 k).toNat = (w k).val) {kk : Unit → Prog (TpuEff nD τ sig (Elt F) Λ₀ .tc) PUnit} {Q : PUnit → sProp 𝕄} :
    iprop((arg3.view.loc (c : Thread nD τ) ↦{fullShare} f3) ∗ issueAt c X 0 w 0)
      ⊢ iprop((iprop((arg3.view.loc (c : Thread nD τ) ↦{fullShare} f3) ∗ issueAt c X 0 w 512) -∗ wp frame (wpE defs₀ Variants.none (c : Thread nD τ) none) Set.univ (kk ()) Q)
        -∗ wp frame (wpE defs₀ Variants.none (c : Thread nD τ) none) Set.univ (Scf.Loop.for k0_t1_loop (k0_t1_ok i h1) ⟨⟩ (k0_t1_body (F := F) i arg1 harg1 arg2 harg2 arg3 harg3 arg4 harg4 xM harg5 arg6 harg6 arg7 harg7 arg8 harg8 arg9 harg9 bufM harg10 cc0_scratch1 h1) >>= kk) Q) := by
  have hrun : iprop((arg3.view.loc (c : Thread nD τ) ↦{fullShare} f3) ∗ issueAt c X 0 w 0)
      ⊢ iprop((∀ acc : Unit, iprop((arg3.view.loc (c : Thread nD τ) ↦{fullShare} f3) ∗ issueAt c X 0 w (Scf.trips k0_t1_loop.lb k0_t1_loop.ub k0_t1_loop.st)) -∗ wp frame (wpE defs₀ Variants.none (c : Thread nD τ) none) Set.univ (kk acc) Q)
        -∗ wp frame (wpE defs₀ Variants.none (c : Thread nD τ) none) Set.univ (Scf.Loop.for k0_t1_loop (k0_t1_ok i h1) ⟨⟩ (k0_t1_body (F := F) i arg1 harg1 arg2 harg2 arg3 harg3 arg4 harg4 xM harg5 arg6 harg6 arg7 harg7 arg8 harg8 arg9 harg9 bufM harg10 cc0_scratch1 h1) >>= kk) Q) :=
    Scf.wp_for_bind _ _ _ _ _ _ _ _ _ (fun k _ => iprop((arg3.view.loc (c : Thread nD τ) ↦{fullShare} f3) ∗ issueAt c X 0 w k))
      (fun k _ => trip1 c X i arg1 harg1 arg2 harg2 arg3 harg3 arg4 harg4 harg5 arg6 harg6 arg7 harg7 arg8 harg8 arg9 harg9 harg10 h1 w f3 hw k ())
  rw [show Scf.trips k0_t1_loop.lb k0_t1_loop.ub k0_t1_loop.st = 512 from trips1] at hrun
  iintro H Hk
  iapply hrun $$ H
  iintro %acc Hl
  iapply Hk
  iexact Hl

/-- The second loop: the continuation from every copy of the next tile started. -/
theorem run2 (n : Elt F .i32) (h2 : k0_cond2 i n = 1#1) (w : Fin 512 → Fin 49152) (f4 : Buf (Elt F) (arg4.view.loc (c : Thread nD τ)))
    (hw : ∀ k, (wordAt c arg4 f4 k).toNat = (w k).val) {kk : Unit → Prog (TpuEff nD τ sig (Elt F) Λ₀ .tc) PUnit} {Q : PUnit → sProp 𝕄} :
    iprop((arg4.view.loc (c : Thread nD τ) ↦{fullShare} f4) ∗ issueAt c X (nxt i) w 0)
      ⊢ iprop((iprop((arg4.view.loc (c : Thread nD τ) ↦{fullShare} f4) ∗ issueAt c X (nxt i) w 512) -∗ wp frame (wpE defs₀ Variants.none (c : Thread nD τ) none) Set.univ (kk ()) Q)
        -∗ wp frame (wpE defs₀ Variants.none (c : Thread nD τ) none) Set.univ (Scf.Loop.for k0_t2_loop k0_t2_ok ⟨⟩ (k0_t2_body (F := F) i arg1 harg1 arg2 harg2 arg3 harg3 arg4 harg4 xM harg5 arg6 harg6 arg7 harg7 arg8 harg8 arg9 harg9 bufM harg10 cc0_scratch1 n h2) >>= kk) Q) := by
  have hrun : iprop((arg4.view.loc (c : Thread nD τ) ↦{fullShare} f4) ∗ issueAt c X (nxt i) w 0)
      ⊢ iprop((∀ acc : Unit, iprop((arg4.view.loc (c : Thread nD τ) ↦{fullShare} f4) ∗ issueAt c X (nxt i) w (Scf.trips k0_t2_loop.lb k0_t2_loop.ub k0_t2_loop.st)) -∗ wp frame (wpE defs₀ Variants.none (c : Thread nD τ) none) Set.univ (kk acc) Q)
        -∗ wp frame (wpE defs₀ Variants.none (c : Thread nD τ) none) Set.univ (Scf.Loop.for k0_t2_loop k0_t2_ok ⟨⟩ (k0_t2_body (F := F) i arg1 harg1 arg2 harg2 arg3 harg3 arg4 harg4 xM harg5 arg6 harg6 arg7 harg7 arg8 harg8 arg9 harg9 bufM harg10 cc0_scratch1 n h2) >>= kk) Q) :=
    Scf.wp_for_bind _ _ _ _ _ _ _ _ _ (fun k _ => iprop((arg4.view.loc (c : Thread nD τ) ↦{fullShare} f4) ∗ issueAt c X (nxt i) w k))
      (fun k _ => trip2 c X i arg1 harg1 arg2 harg2 arg3 harg3 arg4 harg4 harg5 arg6 harg6 arg7 harg7 arg8 harg8 arg9 harg9 harg10 n h2 w f4 hw k ())
  rw [show Scf.trips k0_t2_loop.lb k0_t2_loop.ub k0_t2_loop.st = 512 from trips2] at hrun
  iintro H Hk
  iapply hrun $$ H
  iintro %acc Hl
  iapply Hk
  iexact Hl

/-- The third loop: the continuation from every copy of the current tile waited for. -/
theorem run3 (a0 v9 : BitVec 32) (w : Fin 512 → Fin 49152) {β : Type} {kk : Unit → Prog (TpuEff nD τ sig (Elt F) Λ₀ .tc) β} {Q : β → sProp 𝕄} :
    drainAt c X (cur i) w 0
      ⊢ iprop((drainAt c X (cur i) w 512 -∗ wp frame (wpE defs₀ Variants.none (c : Thread nD τ) none) Set.univ (kk ()) Q)
        -∗ wp frame (wpE defs₀ Variants.none (c : Thread nD τ) none) Set.univ (Scf.Loop.for k0_t3_loop k0_t3_ok ⟨⟩ (k0_t3_body (F := F) i arg1 harg1 arg2 harg2 arg3 harg3 arg4 harg4 xM harg5 arg6 harg6 arg7 harg7 arg8 harg8 arg9 harg9 bufM harg10 cc0_scratch1 a0 v9) >>= kk) Q) := by
  have hrun : drainAt c X (cur i) w 0
      ⊢ iprop((∀ acc : Unit, drainAt c X (cur i) w (Scf.trips k0_t3_loop.lb k0_t3_loop.ub k0_t3_loop.st) -∗ wp frame (wpE defs₀ Variants.none (c : Thread nD τ) none) Set.univ (kk acc) Q)
        -∗ wp frame (wpE defs₀ Variants.none (c : Thread nD τ) none) Set.univ (Scf.Loop.for k0_t3_loop k0_t3_ok ⟨⟩ (k0_t3_body (F := F) i arg1 harg1 arg2 harg2 arg3 harg3 arg4 harg4 xM harg5 arg6 harg6 arg7 harg7 arg8 harg8 arg9 harg9 bufM harg10 cc0_scratch1 a0 v9) >>= kk) Q) :=
    Scf.wp_for_bind _ _ _ _ _ _ _ _ _ (fun k _ => drainAt c X (cur i) w k)
      (fun k _ => trip3 c X i arg1 harg1 arg2 harg2 arg3 harg3 arg4 harg4 harg5 arg6 harg6 arg7 harg7 arg8 harg8 arg9 harg9 harg10 a0 v9 w k ())
  rw [show Scf.trips k0_t3_loop.lb k0_t3_loop.ub k0_t3_loop.st = 512 from trips3] at hrun
  iintro H Hk
  iapply hrun $$ H
  iintro %acc Hl
  iapply Hk
  iexact Hl

/-! ## The stages -/

theorem stage4_run (n : BitVec 32) (h4 : k0_cond4 i n = 1#1) {Q : PUnit → sProp 𝕄} :
    iprop(some' (F := F) c arg9 ∗ (hold c arg9 (k0_pay2 (F := F)) -∗ Q ⟨⟩)) ⊢ wp frame (wpE defs₀ Variants.none (c : Thread nD τ) none) Set.univ (stage4 (F := F) i arg9 n) Q := by
  iintro ⟨⟨%f9, H9⟩, Hk⟩
  unfold stage4
  rw [dif_pos h4]
  sl_exec
  sl_step
  iapply Hk
  iexists _; isplitl [H9]; · iexact H9
  ipureintro
  exact read_full c arg9 f9 _ (k0_pay2 (F := F))

theorem stage4_skip (n : BitVec 32) (h4 : ¬k0_cond4 i n = 1#1) {Q : PUnit → sProp 𝕄} :
    Q ⟨⟩ ⊢ wp frame (wpE defs₀ Variants.none (c : Thread nD τ) none) Set.univ (stage4 (F := F) i arg9 n) Q := by
  iintro Hk
  unfold stage4
  rw [dif_neg h4]
  sl_step
  iexact Hk

theorem stage3_run (n : BitVec 32) (h3 : k0_cond3 i n = 1#1) (h4 : ¬k0_cond4 i n = 1#1) (w : Fin 512 → Fin 49152)
    (q1 : PosShare TreeShare) (f1 : Buf (Elt F) (arg1.view.loc (c : Thread nD τ))) (g : BitVec 32)
    (hg : ∀ x, arg1.view.readAt (Elt F) (Rect.unit (s := S100) (k0_off15 i) S1.size (k0_off15_inb i)).toLoadRect f1 x = g)
    (Y6 Y7 : Vec F S1x4x1024x512 .bf16) (Y8 : Vec F S1x4x512x1024 .bf16) {Q : PUnit → sProp 𝕄} :
    iprop((∃ W, owes (c : Thread nD τ) 0 W) ∗ flying c X (cur i) w ∗ (arg1.view.loc (c : Thread nD τ) ↦{q1} f1)
      ∗ hold c arg6 Y6 ∗ hold c arg7 Y7 ∗ hold c arg8 Y8 ∗ some' (F := F) c arg9
      ∗ (iprop((∃ W, owes (c : Thread nD τ) 0 W) ∗ idle c X (cur i) ∗ (arg1.view.loc (c : Thread nD τ) ↦{q1} f1)
        ∗ hold c arg6 Y6 ∗ hold c arg7 Y7 ∗ hold c arg8 Y8 ∗ hold c arg9 (tileB (rowsX X w) (rowsC X w) g Y6 Y7 Y8)) -∗ Q ⟨⟩))
      ⊢ wp frame (wpE defs₀ Variants.none (c : Thread nD τ) none) Set.univ (stage3 (F := F) i arg1 harg1 arg2 harg2 arg3 harg3 arg4 harg4 harg5 arg6 harg6 arg7 harg7 arg8 harg8 arg9 harg9 harg10 n) Q := by
  iintro ⟨Ho, Hf, H1, ⟨%f6, H6, %h6⟩, ⟨%f7, H7, %h7⟩, ⟨%f8, H8, %h8⟩, ⟨%f9, H9⟩, Hk⟩
  ihave Hd := (drainAt_zero c X (cur i) w) $$ [Ho Hf]
  · isplitl [Ho] <;> iassumption
  unfold stage3
  rw [dif_pos h3, k0_part1_eq_skeleton, k0_part2_eq_skeleton, k0_part3_eq_skeleton]
  sl_unfold [k0_part1_skel]
  simp only [Prog.bind_assoc, bind_assoc]
  iapply (run3 c X i arg1 harg1 arg2 harg2 arg3 harg3 arg4 harg4 harg5 arg6 harg6 arg7 harg7 arg8 harg8 arg9 harg9 harg10 _ _ w) $$ Hd
  iintro Hd
  ihave Hl := (drainAt_last c X (cur i) w) $$ Hd
  icases Hl with ⟨Ho, Hl⟩
  unfold landed
  icases Hl with ⟨Hb, Hs, Hx⟩
  iapply (wp_load_rect Variants.none (c : Thread nD τ) none Set.univ (m := bufM) (r := Rect.unit (s := S2x512x1152) (k0_off13 i) S1x512x1024.size (k0_off13_inb i)) (S := sset (cur i)) (f := rowsOf X w)
    (in_slot (cur i) (congrFun (off13_eq i) 0) rfl _)) $$ Hb
  iintro Hb
  rw [read_rowsX X (cur i) w (off13_eq i)]
  iapply (wp_load_rect Variants.none (c : Thread nD τ) none Set.univ (m := bufM) (r := Rect.unit (s := S2x512x1152) (k0_off14 i) S1x512x128.size (k0_off14_inb i)) (S := sset (cur i)) (f := rowsOf X w)
    (in_slot (cur i) (congrFun (off14_eq i) 0) rfl _)) $$ Hb
  iintro Hb
  rw [read_rowsC X (cur i) w (off14_eq i)]
  dsimp only [Prog.bind]
  unfold k0_part2_skel k0_part3_skel stage4
  rw [dif_neg h4]
  sl_exec
  sl_step
  iapply Hk
  isplitl [Ho]; · iexact Ho
  isplitl [Hb Hs Hx]
  · iapply (idle_of_landed c X (cur i) w)
    unfold landed
    isplitl [Hb]; · iexact Hb
    isplitl [Hs] <;> iassumption
  isplitl [H1]; · iexact H1
  isplitl [H6]
  · iexists _; isplitl [H6]; · iexact H6
    ipureintro; exact h6
  isplitl [H7]
  · iexists _; isplitl [H7]; · iexact H7
    ipureintro; exact h7
  isplitl [H8]
  · iexists _; isplitl [H8]; · iexact H8
    ipureintro; exact h8
  iexists _; isplitl [H9]; · iexact H9
  ipureintro
  have hr : stage3_run.sl.r c i arg1 f1 = g := hg _
  refine (read_full c arg9 f9 _ _).trans ?_
  rw [hr]
  unfold tileB
  rw [← h6, ← h7, ← h8, ← read_exU c arg6 f6 0 rfl inb_S1x4x1024x512_S1x1x1024x512_0_0_0_0,
    ← read_exU c arg6 f6 1 rfl inb_S1x4x1024x512_S1x1x1024x512_0_1_0_0,
    ← read_exU c arg6 f6 2 rfl inb_S1x4x1024x512_S1x1x1024x512_0_2_0_0,
    ← read_exU c arg6 f6 3 rfl inb_S1x4x1024x512_S1x1x1024x512_0_3_0_0,
    ← read_exU c arg7 f7 0 rfl inb_S1x4x1024x512_S1x1x1024x512_0_0_0_0,
    ← read_exU c arg7 f7 1 rfl inb_S1x4x1024x512_S1x1x1024x512_0_1_0_0,
    ← read_exU c arg7 f7 2 rfl inb_S1x4x1024x512_S1x1x1024x512_0_2_0_0,
    ← read_exU c arg7 f7 3 rfl inb_S1x4x1024x512_S1x1x1024x512_0_3_0_0,
    ← read_exD c arg8 f8 0 rfl inb_S1x4x512x1024_S1x1x512x1024_0_0_0_0,
    ← read_exD c arg8 f8 1 rfl inb_S1x4x512x1024_S1x1x512x1024_0_1_0_0,
    ← read_exD c arg8 f8 2 rfl inb_S1x4x512x1024_S1x1x512x1024_0_2_0_0,
    ← read_exD c arg8 f8 3 rfl inb_S1x4x512x1024_S1x1x512x1024_0_3_0_0]
  rfl

theorem stage3_skip (n : BitVec 32) (h3 : ¬k0_cond3 i n = 1#1) {Q : PUnit → sProp 𝕄} :
    wp frame (wpE defs₀ Variants.none (c : Thread nD τ) none) Set.univ (stage4 (F := F) i arg9 n) Q ⊢ wp frame (wpE defs₀ Variants.none (c : Thread nD τ) none) Set.univ (stage3 (F := F) i arg1 harg1 arg2 harg2 arg3 harg3 arg4 harg4 harg5 arg6 harg6 arg7 harg7 arg8 harg8 arg9 harg9 harg10 n) Q := by
  unfold stage3
  rw [dif_neg h3]

/-- The next tile's copies. -/
theorem stage2_run (n : BitVec 32) (h2 : k0_cond2 i n = 1#1) (w : Fin 512 → Fin 49152) (f4 : Buf (Elt F) (arg4.view.loc (c : Thread nD τ)))
    (hw : ∀ k, (wordAt c arg4 f4 k).toNat = (w k).val) {Q : PUnit → sProp 𝕄} :
    iprop(idle c X (nxt i) ∗ (arg4.view.loc (c : Thread nD τ) ↦{fullShare} f4)
      ∗ (iprop(flying c X (nxt i) w ∗ (arg4.view.loc (c : Thread nD τ) ↦{fullShare} f4)) -∗ wp frame (wpE defs₀ Variants.none (c : Thread nD τ) none) Set.univ (stage3 (F := F) i arg1 harg1 arg2 harg2 arg3 harg3 arg4 harg4 harg5 arg6 harg6 arg7 harg7 arg8 harg8 arg9 harg9 harg10 n) Q))
      ⊢ wp frame (wpE defs₀ Variants.none (c : Thread nD τ) none) Set.univ (stage2 (F := F) i arg1 harg1 arg2 harg2 arg3 harg3 arg4 harg4 harg5 arg6 harg6 arg7 harg7 arg8 harg8 arg9 harg9 harg10 n) Q := by
  iintro ⟨Hi, H4, Hk⟩
  unfold stage2
  rw [dif_pos h2]
  imod (issueAt_of_idle c X (nxt i) w) $$ Hi with Hi
  ihave HH := (show iprop((arg4.view.loc (c : Thread nD τ) ↦{fullShare} f4) ∗ issueAt c X (nxt i) w 0)
    ⊢ iprop((arg4.view.loc (c : Thread nD τ) ↦{fullShare} f4) ∗ issueAt c X (nxt i) w 0) from .rfl) $$ [H4 Hi]
  · isplitl [H4] <;> iassumption
  iapply (run2 c X i arg1 harg1 arg2 harg2 arg3 harg3 arg4 harg4 harg5 arg6 harg6 arg7 harg7 arg8 harg8 arg9 harg9 harg10 n h2 w f4 hw) $$ HH
  iintro ⟨H4, Hi⟩
  iapply Hk
  isplitl [Hi]
  · iapply (flying_of_issueAt c X (nxt i) w); iexact Hi
  · iexact H4

theorem stage2_skip (n : BitVec 32) (h2 : ¬k0_cond2 i n = 1#1) {Q : PUnit → sProp 𝕄} :
    wp frame (wpE defs₀ Variants.none (c : Thread nD τ) none) Set.univ (stage3 (F := F) i arg1 harg1 arg2 harg2 arg3 harg3 arg4 harg4 harg5 arg6 harg6 arg7 harg7 arg8 harg8 arg9 harg9 harg10 n) Q ⊢ wp frame (wpE defs₀ Variants.none (c : Thread nD τ) none) Set.univ (stage2 (F := F) i arg1 harg1 arg2 harg2 arg3 harg3 arg4 harg4 harg5 arg6 harg6 arg7 harg7 arg8 harg8 arg9 harg9 harg10 n) Q := by
  unfold stage2
  rw [dif_neg h2]

/-- The first tile's copies. -/
theorem stage1_run (n : BitVec 32) (h1 : k0_cond1 i = 1#1) (w : Fin 512 → Fin 49152) (f3 : Buf (Elt F) (arg3.view.loc (c : Thread nD τ)))
    (hw : ∀ k, (wordAt c arg3 f3 k).toNat = (w k).val) {Q : PUnit → sProp 𝕄} :
    iprop(idle c X 0 ∗ (arg3.view.loc (c : Thread nD τ) ↦{fullShare} f3)
      ∗ (iprop(flying c X 0 w ∗ (arg3.view.loc (c : Thread nD τ) ↦{fullShare} f3)) -∗ wp frame (wpE defs₀ Variants.none (c : Thread nD τ) none) Set.univ (stage2 (F := F) i arg1 harg1 arg2 harg2 arg3 harg3 arg4 harg4 harg5 arg6 harg6 arg7 harg7 arg8 harg8 arg9 harg9 harg10 n) Q))
      ⊢ wp frame (wpE defs₀ Variants.none (c : Thread nD τ) none) Set.univ (stage1 (F := F) i arg1 harg1 arg2 harg2 arg3 harg3 arg4 harg4 harg5 arg6 harg6 arg7 harg7 arg8 harg8 arg9 harg9 harg10 n) Q := by
  iintro ⟨Hi, H3, Hk⟩
  unfold stage1
  rw [dif_pos h1]
  imod (issueAt_of_idle c X 0 w) $$ Hi with Hi
  ihave HH := (show iprop((arg3.view.loc (c : Thread nD τ) ↦{fullShare} f3) ∗ issueAt c X 0 w 0)
    ⊢ iprop((arg3.view.loc (c : Thread nD τ) ↦{fullShare} f3) ∗ issueAt c X 0 w 0) from .rfl) $$ [H3 Hi]
  · isplitl [H3] <;> iassumption
  iapply (run1 c X i arg1 harg1 arg2 harg2 arg3 harg3 arg4 harg4 harg5 arg6 harg6 arg7 harg7 arg8 harg8 arg9 harg9 harg10 h1 w f3 hw) $$ HH
  iintro ⟨H3, Hi⟩
  iapply Hk
  isplitl [Hi]
  · iapply (flying_of_issueAt c X 0 w); iexact Hi
  · iexact H3

theorem stage1_skip (n : BitVec 32) (h1 : ¬k0_cond1 i = 1#1) {Q : PUnit → sProp 𝕄} :
    wp frame (wpE defs₀ Variants.none (c : Thread nD τ) none) Set.univ (stage2 (F := F) i arg1 harg1 arg2 harg2 arg3 harg3 arg4 harg4 harg5 arg6 harg6 arg7 harg7 arg8 harg8 arg9 harg9 harg10 n) Q ⊢ wp frame (wpE defs₀ Variants.none (c : Thread nD τ) none) Set.univ (stage1 (F := F) i arg1 harg1 arg2 harg2 arg3 harg3 arg4 harg4 harg5 arg6 harg6 arg7 harg7 arg8 harg8 arg9 harg9 harg10 n) Q := by
  unfold stage1
  rw [dif_neg h1]

/-- The point's whole body, from the count of valid tiles it reads. -/
theorem body_of_stages (q2 : PosShare TreeShare) (f2 : Buf (Elt F) (arg2.view.loc (c : Thread nD τ))) (n : BitVec 32)
    (hn : ∀ x, arg2.view.readAt (Elt F) (Rect.unit (s := S1) ![0] S1.size inb_S1_S1_0).toLoadRect f2 x = n) {Q : PUnit → sProp 𝕄} :
    iprop((arg2.view.loc (c : Thread nD τ) ↦{q2} f2) ∗ ((arg2.view.loc (c : Thread nD τ) ↦{q2} f2) -∗ wp frame (wpE defs₀ Variants.none (c : Thread nD τ) none) Set.univ (stage1 (F := F) i arg1 harg1 arg2 harg2 arg3 harg3 arg4 harg4 harg5 arg6 harg6 arg7 harg7 arg8 harg8 arg9 harg9 harg10 n) Q))
      ⊢ wp frame (wpE defs₀ Variants.none (c : Thread nD τ) none) Set.univ (cc0_moe_ffn (F := F) i arg1 harg1 arg2 harg2 arg3 harg3 arg4 harg4 xM harg5 arg6 harg6 arg7 harg7 arg8 harg8 arg9 harg9 bufM harg10 cc0_scratch1) Q := by
  iintro ⟨H2, Hk⟩
  rw [body_eq_stages]
  sl_exec
  have hr : body_of_stages.sl.r c arg2 f2 = n := hn _
  rw [hr]
  iapply Hk
  iexact H2

end Body

end Cert.Proof.Kernel2Ideal

end
-- ==== Proof.EI.Tab.lean ====
/-
  The two tables, and the pipeline at their contents: what is asked of the launch's contents, the grid's conditions at
  the number of valid tiles, the memory after the reshape, and the blocks of the windows.
-/
module

public import proofs.«01_k».proof.Proof.EI.Body
public import Idealize.ShloMosaic.Lib.Pipeline.FrameBody
public import Idealize.ShloMosaic.Lib.StableHlo.Run
public import Idealize.ShloMosaic.Lib.Pipeline.ValueKit

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The contents of the tables at launch. -/
def pf : pre0.Contents (Elt F) := fun k => m (((0 : Dev nD) : Thread nD τ).loc (pre0.ref k))

/-- The rows to gather, the weights of each tile and the number of valid tiles, as launched. -/
def srcW : S51200.Idx → BitVec 32 := fun x => m (((0 : Dev nD) : Thread nD τ).loc main_arg1) x
def tgW : S100.Idx → BitVec 32 := fun x => m (((0 : Dev nD) : Thread nD τ).loc main_arg2) x
def nvW : BitVec 32 := (show S1.Idx → BitVec 32 from m (((0 : Dev nD) : Thread nD τ).loc main_arg3)) (fun a => match a with | ⟨0, _⟩ => (0 : Fin 1))

/-- What the run asks of them. -/
structure Ok : Prop where
  src : ∀ x, (srcW m x).toNat < 49152
  tg : ∀ x, (tgW m x).toNat < 4
  lo : 1 ≤ (nvW m).toNat
  hi : (nvW m).toNat ≤ 100

/-! ## The conditions on the grid point -/

theorem coords_val : ∀ t : Fin grid0.N, (grid0.coords t 0).val = t.val := by decide +kernel

theorem cond1_iff : ∀ i : grid0.Coords, k0_cond1 i = 1#1 ↔ (i 0).val = 0 := by decide +kernel
theorem cond2_fin : ∀ (i : grid0.Coords) (k : Fin 101), k0_cond2 i (BitVec.ofNat 32 k.val) = 1#1 ↔ (i 0).val + 1 < k.val := by decide +kernel
theorem cond3_fin : ∀ (i : grid0.Coords) (k : Fin 101), k0_cond3 i (BitVec.ofNat 32 k.val) = 1#1 ↔ (i 0).val < k.val := by decide +kernel
theorem cond4_fin : ∀ (i : grid0.Coords) (k : Fin 101), k0_cond4 i (BitVec.ofNat 32 k.val) = 1#1 ↔ ¬(i 0).val < k.val := by decide +kernel

theorem ofNat_toNat' (n : BitVec 32) : BitVec.ofNat 32 n.toNat = n := by simp
theorem cond2_iff (i : grid0.Coords) (n : BitVec 32) (h : n.toNat ≤ 100) : k0_cond2 i n = 1#1 ↔ (i 0).val + 1 < n.toNat := by
  have := cond2_fin i ⟨n.toNat, by omega⟩; rwa [ofNat_toNat'] at this
theorem cond3_iff (i : grid0.Coords) (n : BitVec 32) (h : n.toNat ≤ 100) : k0_cond3 i n = 1#1 ↔ (i 0).val < n.toNat := by
  have := cond3_fin i ⟨n.toNat, by omega⟩; rwa [ofNat_toNat'] at this
theorem cond4_iff (i : grid0.Coords) (n : BitVec 32) (h : n.toNat ≤ 100) : k0_cond4 i n = 1#1 ↔ ¬(i 0).val < n.toNat := by
  have := cond4_fin i ⟨n.toNat, by omega⟩; rwa [ofNat_toNat'] at this

/-- Every point stores its block: one of the last two conditions holds whatever the number of valid tiles. -/
theorem stores (i : grid0.Coords) (n : BitVec 32) : (!(k0_cond3 i n == 1#1) && !(k0_cond4 i n == 1#1)) = false := by
  unfold k0_cond3 k0_cond4
  simp only [Scalar.cmpi, IntOp.cmpi, BitVec.sle_eq_not_slt]
  cases (BitVec.ofNat 32 (i 0).val).slt n <;> decide

/-! ## The admissible tables -/

theorem ok_pf (ho : Ok m) : ok0 (pf m) := by
  have aux : ∀ v : BitVec 32, v.toNat < 4 →
      (∀ a : Fin 4, ((![v.toNat, (0#32).toNat, (0#32).toNat, (0#32).toNat] : Fin 4 → Nat) a + 1) * S1x4x1024x512.size a ≤ S4x4x1024x512.size a)
      ∧ (∀ a : Fin 4, ((![v.toNat, (0#32).toNat, (0#32).toNat, (0#32).toNat] : Fin 4 → Nat) a + 1) * S1x4x512x1024.size a ≤ S4x4x512x1024.size a) := by
    intro v hv
    refine ⟨fun a => ?_, fun a => ?_⟩
    · match a with
      | ⟨0, _⟩ => show (v.toNat + 1) * 1 ≤ 4; omega
      | ⟨1, _⟩ => exact (by decide : (0 + 1) * 4 ≤ 4)
      | ⟨2, _⟩ => exact (by decide : (0 + 1) * 1024 ≤ 1024)
      | ⟨3, _⟩ => exact (by decide : (0 + 1) * 512 ≤ 512)
    · match a with
      | ⟨0, _⟩ => show (v.toNat + 1) * 1 ≤ 4; omega
      | ⟨1, _⟩ => exact (by decide : (0 + 1) * 4 ≤ 4)
      | ⟨2, _⟩ => exact (by decide : (0 + 1) * 512 ≤ 512)
      | ⟨3, _⟩ => exact (by decide : (0 + 1) * 1024 ≤ 1024)
  unfold ok0
  exact ⟨fun i => ⟨(aux _ (ho.tg _)).1, .inr (.inr ⟨(by decide : 2 ≤ 4), rfl, rfl, rfl⟩)⟩,
    fun i => ⟨(aux _ (ho.tg _)).1, .inr (.inr ⟨(by decide : 2 ≤ 4), rfl, rfl, rfl⟩)⟩,
    fun i => ⟨(aux _ (ho.tg _)).2, .inr (.inr ⟨(by decide : 2 ≤ 4), rfl, rfl, rfl⟩)⟩⟩

variable (ho : Ok m)

/-- The tables as admissible contents, and the pipeline at them. -/
def adm (_ : Fin 1) : (pcfg0 (F := F)).Adm := ⟨pf m, ok_pf m ho⟩
abbrev cfgA : Pipeline.Cfg sig Λ₀ := Pipeline.pin pcfgs (adm m ho) 0

/-- No window is ever idle. -/
theorem live (w : Fin 6) (i : grid0.Coords) : (cfgA m ho).idle w i = false := by
  match w with
  | ⟨0, _⟩ => rfl
  | ⟨1, _⟩ => rfl
  | ⟨2, _⟩ => rfl
  | ⟨3, _⟩ => rfl
  | ⟨4, _⟩ => rfl
  | ⟨5, _⟩ => exact stores i _

/-! ## The memory after the reshape -/

/-- The memory as the pipeline finds it. -/
abbrev V (c : Dev nD) (b : Ref sig .tc) : Buf (Elt F) ((c : Thread nD τ).loc b) := StableHlo.after hostOps0 (fun b => m (c, b)) b

theorem V_ne (c : Dev nD) (b : Ref sig .tc) (h : b ≠ main_v0) : V m c b = m ((c : Thread nD τ).loc b) := by
  show StableHlo.after hostOps0 _ (Proc.devRef .tc b) = _
  rw [StableHlo.after_cons, StableHlo.after_nil]
  exact StableHlo.reshape_result_ne _ _ _ _ _ _ _ h

/-- Row `r` of tile `t` of the rows to gather. -/
def wt (t : ℕ) (r : Fin 512) : Fin 49152 :=
  ⟨(srcW m (fun a => match a with | ⟨0, _⟩ => (⟨(512 * t + r.val) % 51200, Nat.mod_lt _ (by decide)⟩ : Fin 51200))).toNat % 49152, Nat.mod_lt _ (by decide)⟩

theorem V_rows (y : S100x1x512.Idx) : (show S100x1x512.Idx → BitVec 32 from V m 0 main_v0) y
    = srcW m (fun a => match a with | ⟨0, _⟩ => (⟨512 * (y 0).val + (y 2).val, by have : (y 0).val < 100 := (y 0).isLt; have : (y 2).val < 512 := (y 2).isLt; omega⟩ : Fin 51200)) := by
  have e : V m 0 main_v0 = shapeCast S100x1x512 (srcW m) shapeCasts_S51200_S100x1x512 := by
    show StableHlo.after hostOps0 _ (Proc.devRef .tc main_v0) = _
    after_results
    rfl
  refine (congrFun e y).trans ?_
  pointwise
  refine congrArg (srcW m) (funext fun a => ?_)
  match a with
  | ⟨0, _⟩ => exact Fin.ext (by show (y 0).val * 512 + (y 2).val = 512 * (y 0).val + (y 2).val; omega)

/-- Window `w`'s block at point `t`. -/
def iblk (c : Dev nD) (w : Fin 6) (t : Fin (cfgA m ho).N) : (((cfgA m ho).win w).xblock ((cfgA m ho).grid.coords t)).Idx → Elt F ((cfgA m ho).win w).elt :=
  (((cfgA m ho).win w).blk t).view.read (Elt F) (V m c (Pipeline.arrRef spec0 w))

end Cert.Proof.Kernel2Ideal

end
-- ==== Proof.EI.Point.lean ====
/-
  One grid point run whole: from the two slots as the points before left them to the two slots as the next point finds
  them, the point's block stored.
-/
module

public import proofs.«01_k».proof.Proof.EI.Tab

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

/-- The proof's resource algebra. -/
local notation "𝕄" => MT nD τ sig Unit (Elt F) ℕ (UD sig nD τ) ℕ

variable (c : Dev nD) (X : S49152x1152.Idx → Elt F .f32)

/-- A slot in flight if `p`, else idle. -/
def slotIf (p : Prop) [Decidable p] (s : Fin 2) (w : Fin 512 → Fin 49152) : sProp 𝕄 := if p then flying c X s w else idle c X s

theorem slotIf_true {p : Prop} [Decidable p] (h : p) (s : Fin 2) (w : Fin 512 → Fin 49152) : slotIf c X p s w = (flying c X s w : sProp 𝕄) := if_pos h
theorem slotIf_false {p : Prop} [Decidable p] (h : ¬p) (s : Fin 2) (w : Fin 512 → Fin 49152) : slotIf c X p s w = (idle c X s : sProp 𝕄) := if_neg h
theorem slotIf_congr {p q : Prop} [Decidable p] [Decidable q] (h : p ↔ q) (s : Fin 2) (w : Fin 512 → Fin 49152) :
    slotIf c X p s w = (slotIf c X q s w : sProp 𝕄) := by
  by_cases hp : p
  · rw [slotIf_true c X hp, slotIf_true c X (h.mp hp)]
  · rw [slotIf_false c X hp, slotIf_false c X (fun hq => hp (h.mpr hq))]

/-- Slot `s` before point `t`: in flight if it is the point's and the point is a valid tile's but not the first. -/
def slotAt (N : ℕ) (W : ℕ → Fin 512 → Fin 49152) (s : Fin 2) (t : ℕ) : sProp 𝕄 := slotIf c X (t % 2 = s.val ∧ 1 ≤ t ∧ t < N) s (W t)

/-- The two slots, the point's first. -/
theorem slots_cur (i : grid0.Coords) (N : ℕ) (W : ℕ → Fin 512 → Fin 49152) (t : ℕ) :
    iprop(slotAt c X N W 0 t ∗ slotAt c X N W 1 t) = (iprop(slotAt c X N W (cur i) t ∗ slotAt c X N W (nxt i) t) : sProp 𝕄) := by
  have hc := (cur i).isLt
  rcases Nat.mod_two_eq_zero_or_one (i 0).val with h | h
  · rw [show cur i = 0 from Fin.ext h, show nxt i = 1 from Fin.ext (by show 1 - (i 0).val % 2 = 1; omega)]
  · rw [show cur i = 1 from Fin.ext h, show nxt i = 0 from Fin.ext (by show 1 - (i 0).val % 2 = 0; omega)]
    exact BI.Entails.antisymm BI.sep_comm BI.sep_comm

section Point

variable (i : grid0.Coords) (arg1 : Memref sig .tc .smem S100 .i32) (harg1 : arg1.IsWhole) (arg2 : Memref sig .tc .smem S1 .i32) (harg2 : arg2.IsWhole)
  (arg3 : Memref sig .tc .smem S1x1x512 .i32) (harg3 : arg3.IsWhole) (arg4 : Memref sig .tc .smem S1x1x512 .i32) (harg4 : arg4.IsWhole)
  (harg5 : xM.IsWhole) (arg6 : Memref sig .tc .vmem S1x4x1024x512 .bf16) (harg6 : arg6.IsWhole)
  (arg7 : Memref sig .tc .vmem S1x4x1024x512 .bf16) (harg7 : arg7.IsWhole) (arg8 : Memref sig .tc .vmem S1x4x512x1024 .bf16) (harg8 : arg8.IsWhole)
  (arg9 : Memref sig .tc .vmem S512x1024 .f32) (harg9 : arg9.IsWhole) (harg10 : bufM.IsWhole)

/-- What the point stores. -/
def outB (N : ℕ) (w : Fin 512 → Fin 49152) (g : BitVec 32) (Y6 Y7 : Vec F S1x4x1024x512 .bf16) (Y8 : Vec F S1x4x512x1024 .bf16) (t : ℕ) :
    Vec F S512x1024 .f32 := if t < N then tileB (rowsX X w) (rowsC X w) g Y6 Y7 Y8 else k0_pay2

/-- The last two stages: a valid tile's rows multiplied, or zeros. -/
theorem tail_run (n : BitVec 32) (hn : n.toNat ≤ 100) (w : Fin 512 → Fin 49152)
    (q1 : PosShare TreeShare) (f1 : Buf (Elt F) (arg1.view.loc (c : Thread nD τ))) (g : BitVec 32)
    (hg : ∀ x, arg1.view.readAt (Elt F) (Rect.unit (s := S100) (k0_off15 i) S1.size (k0_off15_inb i)).toLoadRect f1 x = g)
    (Y6 Y7 : Vec F S1x4x1024x512 .bf16) (Y8 : Vec F S1x4x512x1024 .bf16) {Q : PUnit → sProp 𝕄} :
    iprop((∃ W, owes (c : Thread nD τ) 0 W) ∗ slotIf c X ((i 0).val < n.toNat) (cur i) w ∗ (arg1.view.loc (c : Thread nD τ) ↦{q1} f1)
      ∗ hold c arg6 Y6 ∗ hold c arg7 Y7 ∗ hold c arg8 Y8 ∗ some' (F := F) c arg9
      ∗ (iprop((∃ W, owes (c : Thread nD τ) 0 W) ∗ idle c X (cur i) ∗ (arg1.view.loc (c : Thread nD τ) ↦{q1} f1)
        ∗ hold c arg6 Y6 ∗ hold c arg7 Y7 ∗ hold c arg8 Y8 ∗ hold c arg9 (outB X n.toNat w g Y6 Y7 Y8 (i 0).val)) -∗ Q ⟨⟩))
      ⊢ wp frame (wpE defs₀ Variants.none (c : Thread nD τ) none) Set.univ (stage3 (F := F) i arg1 harg1 arg2 harg2 arg3 harg3 arg4 harg4 harg5 arg6 harg6 arg7 harg7 arg8 harg8 arg9 harg9 harg10 n) Q := by
  by_cases h : (i 0).val < n.toNat
  · rw [slotIf_true c X h]
    unfold outB
    rw [if_pos h]
    exact stage3_run c X i arg1 harg1 arg2 harg2 arg3 harg3 arg4 harg4 harg5 arg6 harg6 arg7 harg7 arg8 harg8 arg9 harg9 harg10 n ((cond3_iff i n hn).mpr h) (fun h4 => (cond4_iff i n hn).mp h4 h) w q1 f1 g hg Y6 Y7 Y8
  · rw [slotIf_false c X h]
    unfold outB
    rw [if_neg h]
    iintro ⟨Ho, Hi, H1, H6, H7, H8, H9, Hk⟩
    iapply (stage3_skip c i arg1 harg1 arg2 harg2 arg3 harg3 arg4 harg4 harg5 arg6 harg6 arg7 harg7 arg8 harg8 arg9 harg9 harg10 n (fun h3 => h ((cond3_iff i n hn).mp h3)))
    iapply (stage4_run c i arg9 n ((cond4_iff i n hn).mpr h))
    isplitl [H9]; · iexact H9
    iintro H9
    iapply Hk
    isplitl [Ho]; · iexact Ho
    isplitl [Hi]; · iexact Hi
    isplitl [H1]; · iexact H1
    isplitl [H6]; · iexact H6
    isplitl [H7]; · iexact H7
    isplitl [H8]; · iexact H8
    iexact H9

/-- The second stage: the next tile's copies started if it is valid. -/
theorem next_run (n : BitVec 32) (hn : n.toNat ≤ 100) (w : Fin 512 → Fin 49152) (Y4 : S1x1x512.Idx → Elt F .i32)
    (hw : (i 0).val + 1 < n.toNat → ∀ k, (show BitVec 32 from Y4 (fun a => match a with | ⟨0, _⟩ => (0 : Fin 1) | ⟨1, _⟩ => (0 : Fin 1) | ⟨2, _⟩ => k)).toNat = (w k).val)
    {Q : PUnit → sProp 𝕄} :
    iprop(idle c X (nxt i) ∗ hold c arg4 Y4
      ∗ (iprop(slotIf c X ((i 0).val + 1 < n.toNat) (nxt i) w ∗ hold c arg4 Y4) -∗ wp frame (wpE defs₀ Variants.none (c : Thread nD τ) none) Set.univ (stage3 (F := F) i arg1 harg1 arg2 harg2 arg3 harg3 arg4 harg4 harg5 arg6 harg6 arg7 harg7 arg8 harg8 arg9 harg9 harg10 n) Q))
      ⊢ wp frame (wpE defs₀ Variants.none (c : Thread nD τ) none) Set.univ (stage2 (F := F) i arg1 harg1 arg2 harg2 arg3 harg3 arg4 harg4 harg5 arg6 harg6 arg7 harg7 arg8 harg8 arg9 harg9 harg10 n) Q := by
  by_cases h : (i 0).val + 1 < n.toNat
  · rw [slotIf_true c X h]
    iintro ⟨Hi, ⟨%f4, H4, %h4⟩, Hk⟩
    iapply (stage2_run c X i arg1 harg1 arg2 harg2 arg3 harg3 arg4 harg4 harg5 arg6 harg6 arg7 harg7 arg8 harg8 arg9 harg9 harg10 n ((cond2_iff i n hn).mpr h) w f4 (fun k => by unfold wordAt; rw [h4]; exact hw h k))
    isplitl [Hi]; · iexact Hi
    isplitl [H4]; · iexact H4
    iintro ⟨Hi, H4⟩
    iapply Hk
    isplitl [Hi]; · iexact Hi
    iexists f4
    isplitl [H4]; · iexact H4
    ipureintro; exact h4
  · rw [slotIf_false c X h]
    iintro ⟨Hi, H4, Hk⟩
    iapply (stage2_skip c i arg1 harg1 arg2 harg2 arg3 harg3 arg4 harg4 harg5 arg6 harg6 arg7 harg7 arg8 harg8 arg9 harg9 harg10 n (fun h2 => h ((cond2_iff i n hn).mp h2)))
    iapply Hk
    isplitl [Hi] <;> iassumption

/-- The first stage: the first tile's copies started at the first point. -/
theorem first_run (n : BitVec 32) (hn : n.toNat ≤ 100) (hn1 : 1 ≤ n.toNat) (w : Fin 512 → Fin 49152) (Y3 : S1x1x512.Idx → Elt F .i32)
    (hw : (i 0).val = 0 → ∀ k, (show BitVec 32 from Y3 (fun a => match a with | ⟨0, _⟩ => (0 : Fin 1) | ⟨1, _⟩ => (0 : Fin 1) | ⟨2, _⟩ => k)).toNat = (w k).val)
    {Q : PUnit → sProp 𝕄} :
    iprop(slotIf c X (1 ≤ (i 0).val ∧ (i 0).val < n.toNat) (cur i) w ∗ hold c arg3 Y3
      ∗ (iprop(slotIf c X ((i 0).val < n.toNat) (cur i) w ∗ hold c arg3 Y3) -∗ wp frame (wpE defs₀ Variants.none (c : Thread nD τ) none) Set.univ (stage2 (F := F) i arg1 harg1 arg2 harg2 arg3 harg3 arg4 harg4 harg5 arg6 harg6 arg7 harg7 arg8 harg8 arg9 harg9 harg10 n) Q))
      ⊢ wp frame (wpE defs₀ Variants.none (c : Thread nD τ) none) Set.univ (stage1 (F := F) i arg1 harg1 arg2 harg2 arg3 harg3 arg4 harg4 harg5 arg6 harg6 arg7 harg7 arg8 harg8 arg9 harg9 harg10 n) Q := by
  by_cases h : (i 0).val = 0
  · rw [slotIf_true c X (show (i 0).val < n.toNat by omega), slotIf_false c X (by omega),
      show cur i = 0 from Fin.ext (by show (i 0).val % 2 = 0; omega)]
    iintro ⟨Hi, ⟨%f3, H3, %h3⟩, Hk⟩
    iapply (stage1_run c X i arg1 harg1 arg2 harg2 arg3 harg3 arg4 harg4 harg5 arg6 harg6 arg7 harg7 arg8 harg8 arg9 harg9 harg10 n ((cond1_iff i).mpr h) w f3 (fun k => by unfold wordAt; rw [h3]; exact hw h k))
    isplitl [Hi]; · iexact Hi
    isplitl [H3]; · iexact H3
    iintro ⟨Hi, H3⟩
    iapply Hk
    isplitl [Hi]; · iexact Hi
    iexists f3
    isplitl [H3]; · iexact H3
    ipureintro; exact h3
  · rw [slotIf_congr c X (show (1 ≤ (i 0).val ∧ (i 0).val < n.toNat) ↔ (i 0).val < n.toNat by omega)]
    iintro ⟨Hi, H3, Hk⟩
    iapply (stage1_skip c i arg1 harg1 arg2 harg2 arg3 harg3 arg4 harg4 harg5 arg6 harg6 arg7 harg7 arg8 harg8 arg9 harg9 harg10 n (fun h1 => h ((cond1_iff i).mp h1)))
    iapply Hk
    isplitl [Hi] <;> iassumption

/-- The whole point. -/
theorem point_run (n : BitVec 32) (hn : n.toNat ≤ 100) (hn1 : 1 ≤ n.toNat) (W : ℕ → Fin 512 → Fin 49152)
    (q1 q2 : PosShare TreeShare) (f1 : Buf (Elt F) (arg1.view.loc (c : Thread nD τ))) (f2 : Buf (Elt F) (arg2.view.loc (c : Thread nD τ))) (g : BitVec 32)
    (hg : ∀ x, arg1.view.readAt (Elt F) (Rect.unit (s := S100) (k0_off15 i) S1.size (k0_off15_inb i)).toLoadRect f1 x = g)
    (hnw : ∀ x, arg2.view.readAt (Elt F) (Rect.unit (s := S1) ![0] S1.size inb_S1_S1_0).toLoadRect f2 x = n)
    (Y3 Y4 : S1x1x512.Idx → Elt F .i32)
    (hw3 : (i 0).val = 0 → ∀ k, (show BitVec 32 from Y3 (fun a => match a with | ⟨0, _⟩ => (0 : Fin 1) | ⟨1, _⟩ => (0 : Fin 1) | ⟨2, _⟩ => k)).toNat = (W (i 0).val k).val)
    (hw4 : (i 0).val + 1 < n.toNat → ∀ k, (show BitVec 32 from Y4 (fun a => match a with | ⟨0, _⟩ => (0 : Fin 1) | ⟨1, _⟩ => (0 : Fin 1) | ⟨2, _⟩ => k)).toNat = (W ((i 0).val + 1) k).val)
    (Y6 Y7 : Vec F S1x4x1024x512 .bf16) (Y8 : Vec F S1x4x512x1024 .bf16) {Q : PUnit → sProp 𝕄} :
    iprop((∃ W, owes (c : Thread nD τ) 0 W) ∗ (slotAt c X n.toNat W 0 (i 0).val ∗ slotAt c X n.toNat W 1 (i 0).val)
      ∗ (arg1.view.loc (c : Thread nD τ) ↦{q1} f1) ∗ (arg2.view.loc (c : Thread nD τ) ↦{q2} f2)
      ∗ hold c arg3 Y3 ∗ hold c arg4 Y4 ∗ hold c arg6 Y6 ∗ hold c arg7 Y7 ∗ hold c arg8 Y8 ∗ some' (F := F) c arg9
      ∗ (iprop((∃ W, owes (c : Thread nD τ) 0 W) ∗ (slotAt c X n.toNat W 0 ((i 0).val + 1) ∗ slotAt c X n.toNat W 1 ((i 0).val + 1))
        ∗ (arg1.view.loc (c : Thread nD τ) ↦{q1} f1) ∗ (arg2.view.loc (c : Thread nD τ) ↦{q2} f2)
        ∗ hold c arg3 Y3 ∗ hold c arg4 Y4 ∗ hold c arg6 Y6 ∗ hold c arg7 Y7 ∗ hold c arg8 Y8
        ∗ hold c arg9 (outB X n.toNat (W (i 0).val) g Y6 Y7 Y8 (i 0).val)) -∗ Q ⟨⟩))
      ⊢ wp frame (wpE defs₀ Variants.none (c : Thread nD τ) none) Set.univ (cc0_moe_ffn (F := F) i arg1 harg1 arg2 harg2 arg3 harg3 arg4 harg4 xM harg5 arg6 harg6 arg7 harg7 arg8 harg8 arg9 harg9 bufM harg10 cc0_scratch1) Q := by
  have hcv : (cur i).val = (i 0).val % 2 := rfl
  have hnv : (nxt i).val = 1 - (i 0).val % 2 := rfl
  rw [slots_cur c X i n.toNat W (i 0).val, slots_cur c X i n.toNat W ((i 0).val + 1)]
  unfold slotAt
  rw [slotIf_congr c X (show ((i 0).val % 2 = (cur i).val ∧ 1 ≤ (i 0).val ∧ (i 0).val < n.toNat) ↔ (1 ≤ (i 0).val ∧ (i 0).val < n.toNat) by omega),
    slotIf_false c X (show ¬((i 0).val % 2 = (nxt i).val ∧ 1 ≤ (i 0).val ∧ (i 0).val < n.toNat) by omega),
    slotIf_false c X (show ¬(((i 0).val + 1) % 2 = (cur i).val ∧ 1 ≤ (i 0).val + 1 ∧ (i 0).val + 1 < n.toNat) by omega),
    slotIf_congr c X (show (((i 0).val + 1) % 2 = (nxt i).val ∧ 1 ≤ (i 0).val + 1 ∧ (i 0).val + 1 < n.toNat) ↔ ((i 0).val + 1 < n.toNat) by omega)]
  iintro ⟨Ho, ⟨Hc, Hx⟩, H1, H2, H3, H4, H6, H7, H8, H9, Hk⟩
  iapply (body_of_stages c i arg1 harg1 arg2 harg2 arg3 harg3 arg4 harg4 harg5 arg6 harg6 arg7 harg7 arg8 harg8 arg9 harg9 harg10 q2 f2 n hnw)
  isplitl [H2]; · iexact H2
  iintro H2
  iapply (first_run c X i arg1 harg1 arg2 harg2 arg3 harg3 arg4 harg4 harg5 arg6 harg6 arg7 harg7 arg8 harg8 arg9 harg9 harg10 n hn hn1 (W (i 0).val) Y3 hw3)
  isplitl [Hc]; · iexact Hc
  isplitl [H3]; · iexact H3
  iintro ⟨Hc, H3⟩
  iapply (next_run c X i arg1 harg1 arg2 harg2 arg3 harg3 arg4 harg4 harg5 arg6 harg6 arg7 harg7 arg8 harg8 arg9 harg9 harg10 n hn (W ((i 0).val + 1)) Y4 hw4)
  isplitl [Hx]; · iexact Hx
  isplitl [H4]; · iexact H4
  iintro ⟨Hx, H4⟩
  iapply (tail_run c X i arg1 harg1 arg2 harg2 arg3 harg3 arg4 harg4 harg5 arg6 harg6 arg7 harg7 arg8 harg8 arg9 harg9 harg10 n hn (W (i 0).val) q1 f1 g hg Y6 Y7 Y8)
  isplitl [Ho]; · iexact Ho
  isplitl [Hc]; · iexact Hc
  isplitl [H1]; · iexact H1
  isplitl [H6]; · iexact H6
  isplitl [H7]; · iexact H7
  isplitl [H8]; · iexact H8
  isplitl [H9]; · iexact H9
  iintro ⟨Ho, Hc, H1, H6, H7, H8, H9⟩
  iapply Hk
  isplitl [Ho]; · iexact Ho
  isplitl [Hc Hx]
  · isplitl [Hc] <;> iassumption
  isplitl [H1]; · iexact H1
  isplitl [H2]; · iexact H2
  isplitl [H3]; · iexact H3
  isplitl [H4]; · iexact H4
  isplitl [H6]; · iexact H6
  isplitl [H7]; · iexact H7
  isplitl [H8]; · iexact H8
  iexact H9

end Point

end Cert.Proof.Kernel2Ideal

end
-- ==== Proof.EI.Blk.lean ====
/-
  What the windows on the rows to gather hold: the words of the point's tile, and of the tile after it.
-/
module

public import proofs.«01_k».proof.Proof.EI.Tab

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI

variable {F : FTy → Type} [FloatOps F]
variable (m : (ℓ : Loc nD τ sig) → Buf (Elt F) ℓ) (ho : Ok m)

theorem transform_0_eq : ∀ i : grid0.Coords, cc0_transform_0 i = ![(i 0).val, 0, 0] := by decide +kernel
theorem transform_1_eq : ∀ i : grid0.Coords, cc0_transform_1 i = ![min ((i 0).val + 1) 99, 0, 0] := by decide +kernel
theorem off15_eq : ∀ i : grid0.Coords, k0_off15 i = ![(i 0).val] := by decide +kernel
theorem off1_eq : ∀ i : grid0.Coords, k0_off1 i = ![(i 0).val] := by decide +kernel

/-- A word of a window on the rows, at the window's block `b`. -/
theorem rows_at (b : ℕ) (hb : b < 100) (ix : Fin 3 → ℕ) (hix : ix = ![b, 0, 0]) (h : ∀ a, (ix a + 1) * S1x1x512.size a ≤ S100x1x512.size a) (k : Fin 512) :
    (show S100x1x512.Idx → BitVec 32 from V m 0 main_v0) ((Rect.block (s := S100x1x512) S1x1x512.size ix h).emb
      (fun a => match a with | ⟨0, _⟩ => (0 : Fin 1) | ⟨1, _⟩ => (0 : Fin 1) | ⟨2, _⟩ => k)) = srcW m (fun a => match a with | ⟨0, _⟩ => (⟨512 * b + k.val, by omega⟩ : Fin 51200)) := by
  subst hix
  rw [V_rows]
  refine congrArg (srcW m) (funext fun a => ?_)
  match a with
  | ⟨0, _⟩ =>
    refine Fin.ext ?_
    show 512 * (b * 1 + 1 * 0) + (0 * 512 + 1 * k.val) = 512 * b + k.val
    omega

include ho in
theorem wt_val (t : ℕ) (ht : t < 100) (k : Fin 512) :
    (srcW m (fun a => match a with | ⟨0, _⟩ => (⟨512 * t + k.val, by omega⟩ : Fin 51200))).toNat = (wt m t k).val := by
  unfold wt
  show _ = _ % 49152
  have e : (⟨(512 * t + k.val) % 51200, Nat.mod_lt _ (by decide)⟩ : Fin 51200) = ⟨512 * t + k.val, by omega⟩ := Fin.ext (Nat.mod_eq_of_lt (by omega))
  rw [e]
  exact (Nat.mod_eq_of_lt (ho.src _)).symm

/-- Window 0 holds the words of the point's tile, -/
theorem word0 (c : Dev nD) (t : Fin (cfgA m ho).N) (k : Fin 512) :
    (show BitVec 32 from (show S1x1x512.Idx → Elt F .i32 from iblk m ho c 0 t) (fun a => match a with | ⟨0, _⟩ => (0 : Fin 1) | ⟨1, _⟩ => (0 : Fin 1) | ⟨2, _⟩ => k)).toNat = (wt m t.val k).val := by
  obtain rfl : c = 0 := Subsingleton.elim _ _
  have ht : t.val < 100 := t.isLt
  have e := transform_0_eq (grid0.coords t)
  rw [coords_val] at e
  exact (congrArg BitVec.toNat (rows_at m t.val ht _ e (hinb0_0 _) k)).trans (wt_val m ho t.val ht k)

/-- window 1 those of the next. -/
theorem word1 (c : Dev nD) (t : Fin (cfgA m ho).N) (ht : t.val + 1 < 100) (k : Fin 512) :
    (show BitVec 32 from (show S1x1x512.Idx → Elt F .i32 from iblk m ho c 1 t) (fun a => match a with | ⟨0, _⟩ => (0 : Fin 1) | ⟨1, _⟩ => (0 : Fin 1) | ⟨2, _⟩ => k)).toNat = (wt m (t.val + 1) k).val := by
  obtain rfl : c = 0 := Subsingleton.elim _ _
  have e := transform_1_eq (grid0.coords t)
  rw [coords_val, show min (t.val + 1) 99 = t.val + 1 by omega] at e
  exact (congrArg BitVec.toNat (rows_at m (t.val + 1) ht _ e (hinb0_1 _) k)).trans (wt_val m ho (t.val + 1) ht k)

/-- The two tables' buffers, and what the body reads of them. -/
def tgB (c : Dev nD) : Buf (Elt F) ((Memref.whole main_arg2).view.loc (c : Thread nD τ)) := pf m 0
def nvB (c : Dev nD) : Buf (Elt F) ((Memref.whole main_arg3).view.loc (c : Thread nD τ)) := pf m 1

theorem tg_read (c : Dev nD) (t : Fin (cfgA m ho).N) (x) :
    (Memref.whole main_arg2).view.readAt (Elt F) (Rect.unit (s := S100) (k0_off15 (grid0.coords t)) S1.size (k0_off15_inb (grid0.coords t))).toLoadRect (tgB m c) x
      = tgW m (fun a => match a with | ⟨0, _⟩ => (⟨t.val, t.isLt⟩ : Fin 100)) := by
  have e : k0_off15 (grid0.coords t) 0 = t.val := by
    have e := congrFun (off15_eq (grid0.coords t)) 0
    rw [coords_val] at e
    exact e
  refine congrArg (tgW m) (funext fun a => Fin.ext ?_)
  match a with
  | ⟨0, _⟩ =>
    have hx : (x 0).val < 1 := (x 0).isLt
    show k0_off15 (grid0.coords t) 0 + 1 * (x 0).val = t.val
    omega

theorem nv_read (c : Dev nD) (x) : (Memref.whole main_arg3).view.readAt (Elt F) (Rect.unit (s := S1) ![0] S1.size inb_S1_S1_0).toLoadRect (nvB m c) x = nvW m := by
  refine congrArg (show S1.Idx → BitVec 32 from m (((0 : Dev nD) : Thread nD τ).loc main_arg3)) (funext fun a => Fin.ext ?_)
  match a with
  | ⟨0, _⟩ =>
    have hx : (x 0).val < 1 := (x 0).isLt
    show 0 + 1 * (x 0).val = 0
    omega

end Cert.Proof.Kernel2Ideal

end
-- ==== Proof.EI.Run.lean ====
/-
  The run: the pipeline's proof data — each input window at its block, the result's block as the point stores it, the
  invariant the two slots and the two tables — the body's obligation at every grid point, the run of the whole program,
  and the frame.
-/
module

public import proofs.«01_k».proof.Proof.EI.Point
public import proofs.«01_k».proof.Proof.EI.Blk
public import Idealize.ShloMosaic.Lib.Claim

@[expose] public section

set_option maxRecDepth 16384

noncomputable section

namespace Cert.Proof.Kernel2Ideal

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD Dat Cfg Window BodyObligation)

variable {F : FTy → Type} [FloatOps F]

/-- The proof's resource algebra. -/
local notation "𝕄" => MT nD τ sig Unit (Elt F) ℕ (UD sig nD τ) ℕ

variable (m : (ℓ : Loc nD τ sig) → Buf (Elt F) ℓ) (ρ : Dev nD → PrngReg) (ho : Ok m)

/-! ## Ownership of a whole memref, the two spellings -/

theorem hold_of_owns (c : Dev nD) {sp : Space} {sh : Shape} {e : EltTy} (M : Memref sig .tc sp sh e) (h : M.IsWhole) (X : sh.Idx → Elt F e) :
    (owns (c : Thread nD τ) M fullShare X : sProp 𝕄) ⊢ hold c M X := by
  unfold owns hold
  rw [h.set_eq_univ]
  iintro ⟨%f, %hf, H⟩
  iexists f; isplitl [H]; · iexact H
  ipureintro; exact hf

theorem owns_of_hold (c : Dev nD) {sp : Space} {sh : Shape} {e : EltTy} (M : Memref sig .tc sp sh e) (h : M.IsWhole) (X : sh.Idx → Elt F e) :
    (hold c M X : sProp 𝕄) ⊢ owns (c : Thread nD τ) M fullShare X := by
  unfold owns hold
  rw [h.set_eq_univ]
  iintro ⟨%f, H, %hf⟩
  iexists f; isplitr; · ipureintro; exact hf
  iexact H

theorem some_of_owns (c : Dev nD) {sp : Space} {sh : Shape} {e : EltTy} (M : Memref sig .tc sp sh e) (h : M.IsWhole) (X : sh.Idx → Elt F e) :
    (owns (c : Thread nD τ) M fullShare X : sProp 𝕄) ⊢ some' (F := F) c M := by
  unfold owns some'
  rw [h.set_eq_univ]
  iintro ⟨%f, -, H⟩
  iexists f; iexact H

/-! ## The pipeline's proof data -/

/-- The gathered array as the region finds it. -/
def xc (c : Dev nD) : S49152x1152.Idx → Elt F .f32 := V m c main_arg0

/-- What the body leaves in the result's buffer at point `t`. -/
def outsAt (c : Dev nD) (t : Fin (cfgA m ho).N) : Vec F S512x1024 .f32 :=
  outB (xc m c) (nvW m).toNat (wt m t.val) (tgW m (fun a => match a with | ⟨0, _⟩ => (⟨t.val, t.isLt⟩ : Fin 100)))
    (iblk m ho c 2 t) (iblk m ho c 3 t) (iblk m ho c 4 t) t.val

/-- The two tables at half their shares, and the two slots. -/
def tabs (c : Dev nD) : sProp 𝕄 :=
  iprop(((Memref.whole main_arg2).view.loc (c : Thread nD τ) ↦{fullShare.right} tgB m c)
    ∗ ((Memref.whole main_arg3).view.loc (c : Thread nD τ) ↦{fullShare.right} nvB m c))
def slots (c : Dev nD) (t : ℕ) : sProp 𝕄 :=
  iprop(slotAt c (xc m c) (nvW m).toNat (wt m) 0 t ∗ slotAt c (xc m c) (nvW m).toNat (wt m) 1 t)

/-- The invariant before point `t`. -/
def PhiAt (c : Dev nD) (t : ℕ) : sProp 𝕄 := iprop((∃ r, prngReg c r) ∗ tabs m c ∗ slots m c t)

/-- The arrays as the region finds them; after the body each input's buffer at its block and the result's at `outsAt`. -/
def dats (_ : Fin 1) (c : Dev nD) : Dat τ (Elt F) Unit ℕ (UD sig nD τ) ℕ (cfgA m ho) c where
  A w := V m c (Pipeline.arrRef spec0 w)
  after w t := match w with
    | ⟨0, _⟩ => iblk m ho c 0 t
    | ⟨1, _⟩ => iblk m ho c 1 t
    | ⟨2, _⟩ => iblk m ho c 2 t
    | ⟨3, _⟩ => iblk m ho c 3 t
    | ⟨4, _⟩ => iblk m ho c 4 t
    | ⟨5, _⟩ => outsAt m ho c t
  Φ t := PhiAt m c t.val
  q w := Pipeline.shareOf spec0 w
  owed _ := 0

theorem A_eq (c : Dev nD) (w : Fin 6) : (dats m ho 0 c).A w = V m c (Pipeline.arrRef spec0 w) := by dsimp only [dats]
theorem after0_0 (c : Dev nD) (t : Fin (cfgA m ho).N) : (dats m ho 0 c).after (0 : Fin 6) t = iblk m ho c 0 t := by dsimp only [dats]
theorem after0_1 (c : Dev nD) (t : Fin (cfgA m ho).N) : (dats m ho 0 c).after (1 : Fin 6) t = iblk m ho c 1 t := by dsimp only [dats]
theorem after0_2 (c : Dev nD) (t : Fin (cfgA m ho).N) : (dats m ho 0 c).after (2 : Fin 6) t = iblk m ho c 2 t := by dsimp only [dats]
theorem after0_3 (c : Dev nD) (t : Fin (cfgA m ho).N) : (dats m ho 0 c).after (3 : Fin 6) t = iblk m ho c 3 t := by dsimp only [dats]
theorem after0_4 (c : Dev nD) (t : Fin (cfgA m ho).N) : (dats m ho 0 c).after (4 : Fin 6) t = iblk m ho c 4 t := by dsimp only [dats]
theorem after0_5 (c : Dev nD) (t : Fin (cfgA m ho).N) : (dats m ho 0 c).after (5 : Fin 6) t = outsAt m ho c t := by dsimp only [dats]
theorem Phi_eq (c : Dev nD) (t) : (dats m ho 0 c).Φ t = PhiAt m c t.val := by dsimp only [dats]

theorem before0_0 (c : Dev nD) (t : Fin (cfgA m ho).N) (d) : (dats m ho 0 c).before (0 : Fin 6) t d = iblk m ho c 0 t :=
  ((dats m ho 0 c).before_in_eq_fetched (0 : Fin 6) rfl (fun _ => rfl) (fun _ _ _ => rfl)
    (fun t => by rw [after0_0]; unfold Dat.blockOf iblk; rw [A_eq]; try rfl) t d).trans
      (by unfold Dat.fetched Dat.blockOf iblk; rw [A_eq]; try rfl)
theorem before0_1 (c : Dev nD) (t : Fin (cfgA m ho).N) (d) : (dats m ho 0 c).before (1 : Fin 6) t d = iblk m ho c 1 t :=
  ((dats m ho 0 c).before_in_eq_fetched (1 : Fin 6) rfl (fun _ => rfl) (fun _ _ _ => rfl)
    (fun t => by rw [after0_1]; unfold Dat.blockOf iblk; rw [A_eq]; try rfl) t d).trans
      (by unfold Dat.fetched Dat.blockOf iblk; rw [A_eq]; try rfl)
theorem before0_2 (c : Dev nD) (t : Fin (cfgA m ho).N) (d) : (dats m ho 0 c).before (2 : Fin 6) t d = iblk m ho c 2 t :=
  ((dats m ho 0 c).before_in_eq_fetched (2 : Fin 6) rfl (fun _ => rfl) (fun _ _ _ => rfl)
    (fun t => by rw [after0_2]; unfold Dat.blockOf iblk; rw [A_eq]; try rfl) t d).trans
      (by unfold Dat.fetched Dat.blockOf iblk; rw [A_eq]; try rfl)
theorem before0_3 (c : Dev nD) (t : Fin (cfgA m ho).N) (d) : (dats m ho 0 c).before (3 : Fin 6) t d = iblk m ho c 3 t :=
  ((dats m ho 0 c).before_in_eq_fetched (3 : Fin 6) rfl (fun _ => rfl) (fun _ _ _ => rfl)
    (fun t => by rw [after0_3]; unfold Dat.blockOf iblk; rw [A_eq]; try rfl) t d).trans
      (by unfold Dat.fetched Dat.blockOf iblk; rw [A_eq]; try rfl)
theorem before0_4 (c : Dev nD) (t : Fin (cfgA m ho).N) (d) : (dats m ho 0 c).before (4 : Fin 6) t d = iblk m ho c 4 t :=
  ((dats m ho 0 c).before_in_eq_fetched (4 : Fin 6) rfl (fun _ => rfl) (fun _ _ _ => rfl)
    (fun t => by rw [after0_4]; unfold Dat.blockOf iblk; rw [A_eq]; try rfl) t d).trans
      (by unfold Dat.fetched Dat.blockOf iblk; rw [A_eq]; try rfl)

/-! ## The body obligation -/

/-- The current staging memrefs at point `t`. -/
abbrev st0 (t : Fin (cfgA m ho).N) : Memref sig .tc .smem S1x1x512 .i32 := spec0_0.stage ((cfgA m ho).slots t 0)
abbrev st1 (t : Fin (cfgA m ho).N) : Memref sig .tc .smem S1x1x512 .i32 := spec0_1.stage ((cfgA m ho).slots t 1)
abbrev st2 (t : Fin (cfgA m ho).N) : Memref sig .tc .vmem S1x4x1024x512 .bf16 := spec0_2.stage ((cfgA m ho).slots t 2)
abbrev st3 (t : Fin (cfgA m ho).N) : Memref sig .tc .vmem S1x4x1024x512 .bf16 := spec0_3.stage ((cfgA m ho).slots t 3)
abbrev st4 (t : Fin (cfgA m ho).N) : Memref sig .tc .vmem S1x4x512x1024 .bf16 := spec0_4.stage ((cfgA m ho).slots t 4)
abbrev st5 (t : Fin (cfgA m ho).N) : Memref sig .tc .vmem S512x1024 .f32 := spec0_5.stage ((cfgA m ho).slots t 5)

theorem hst0 (t : Fin (cfgA m ho).N) : (st0 m ho t).IsWhole := hstage0_0 (((cfgA m ho).slots t 0).cast nbuf0_0)
theorem hst1 (t : Fin (cfgA m ho).N) : (st1 m ho t).IsWhole := hstage0_1 (((cfgA m ho).slots t 1).cast nbuf0_1)
theorem hst2 (t : Fin (cfgA m ho).N) : (st2 m ho t).IsWhole := hstage0_2 (((cfgA m ho).slots t 2).cast nbuf0_2)
theorem hst3 (t : Fin (cfgA m ho).N) : (st3 m ho t).IsWhole := hstage0_3 (((cfgA m ho).slots t 3).cast nbuf0_3)
theorem hst4 (t : Fin (cfgA m ho).N) : (st4 m ho t).IsWhole := hstage0_4 (((cfgA m ho).slots t 4).cast nbuf0_4)
theorem hst5 (t : Fin (cfgA m ho).N) : (st5 m ho t).IsWhole := hstage0_5 (((cfgA m ho).slots t 5).cast nbuf0_5)

/-- The body at point `t`. -/
def bodyAt (t : Fin (cfgA m ho).N) : Prog (TpuEff nD τ sig (Elt F) Λ₀ .tc) PUnit :=
  cc0_moe_ffn (F := F) (grid0.coords t) (Memref.whole main_arg2) (Memref.isWhole_whole _) (Memref.whole main_arg3) (Memref.isWhole_whole _)
    (st0 m ho t) (hst0 m ho t) (st1 m ho t) (hst1 m ho t)
    (Memref.whole main_arg0) (Memref.isWhole_whole _)
    (st2 m ho t) (hst2 m ho t) (st3 m ho t) (hst3 m ho t)
    (st4 m ho t) (hst4 m ho t) (st5 m ho t) (hst5 m ho t)
    (Memref.whole cc0_scratch0) (Memref.isWhole_whole _) cc0_scratch1

/-- What the body is called with at point `t`, -/
def bodyPre (c : Dev nD) (t : Fin (cfgA m ho).N) : sProp 𝕄 :=
  iprop((dats m ho 0 c).Φ t.castSucc ∗ (dats m ho 0 c).owesAt () t.castSucc
    ∗ (∃ d, owns (c : Thread nD τ) (st0 m ho t) fullShare ((dats m ho 0 c).before (0 : Fin 6) t d))
    ∗ (∃ d, owns (c : Thread nD τ) (st1 m ho t) fullShare ((dats m ho 0 c).before (1 : Fin 6) t d))
    ∗ (∃ d, owns (c : Thread nD τ) (st2 m ho t) fullShare ((dats m ho 0 c).before (2 : Fin 6) t d))
    ∗ (∃ d, owns (c : Thread nD τ) (st3 m ho t) fullShare ((dats m ho 0 c).before (3 : Fin 6) t d))
    ∗ (∃ d, owns (c : Thread nD τ) (st4 m ho t) fullShare ((dats m ho 0 c).before (4 : Fin 6) t d))
    ∗ (∃ d, owns (c : Thread nD τ) (st5 m ho t) fullShare ((dats m ho 0 c).before (5 : Fin 6) t d)))

/-- and what it returns. -/
def bodyPost (c : Dev nD) (t : Fin (cfgA m ho).N) : sProp 𝕄 :=
  iprop((dats m ho 0 c).Φ t.succ ∗ (dats m ho 0 c).owesAt () t.succ
    ∗ owns (c : Thread nD τ) (st0 m ho t) fullShare ((dats m ho 0 c).after (0 : Fin 6) t)
    ∗ owns (c : Thread nD τ) (st1 m ho t) fullShare ((dats m ho 0 c).after (1 : Fin 6) t)
    ∗ owns (c : Thread nD τ) (st2 m ho t) fullShare ((dats m ho 0 c).after (2 : Fin 6) t)
    ∗ owns (c : Thread nD τ) (st3 m ho t) fullShare ((dats m ho 0 c).after (3 : Fin 6) t)
    ∗ owns (c : Thread nD τ) (st4 m ho t) fullShare ((dats m ho 0 c).after (4 : Fin 6) t)
    ∗ owns (c : Thread nD τ) (st5 m ho t) fullShare ((dats m ho 0 c).after (5 : Fin 6) t))

/-- The core's `owes`, the recorded waits forgotten and any waits recorded. -/
theorem owes_out (c : Dev nD) (t) : ((dats m ho 0 c).owesAt () t : sProp 𝕄) ⊢ iprop(∃ W, owes (c : Thread nD τ) 0 W) := by
  unfold Dat.owesAt Pipeline.owesWithin
  rw [show (dats m ho 0 c).owed t = 0 from rfl]
  iintro ⟨%W, -, H⟩
  iexists W; iexact H
theorem owes_in (c : Dev nD) (t) : (iprop(∃ W, owes (c : Thread nD τ) 0 W) : sProp 𝕄) ⊢ (dats m ho 0 c).owesAt () t := by
  unfold Dat.owesAt Pipeline.owesWithin
  rw [show (dats m ho 0 c).owed t = 0 from rfl]
  iintro ⟨%W, H⟩
  iexists W; isplitr; · ipureintro; exact fun _ _ => Or.inl trivial
  iexact H

/-- The body at any point. -/
theorem sound_body (c : Dev nD) (t : Fin (cfgA m ho).N) :
    bodyPre m ho c t ⊢ wp frame (wpE (defs₀ (F := F)) Variants.none (c : Thread nD τ) none) Set.univ (bodyAt m ho t) (fun _ => bodyPost m ho c t) := by
  have hv : (grid0.coords t 0).val = t.val := coords_val t
  unfold bodyPre bodyPost bodyAt
  simp only [before0_0, before0_1, before0_2, before0_3, before0_4]
  rw [Phi_eq, Phi_eq, after0_0, after0_1, after0_2, after0_3, after0_4, after0_5,
    show (t.succ).val = t.val + 1 from rfl, show (t.castSucc).val = t.val from rfl]
  unfold PhiAt tabs slots outsAt
  iintro ⟨⟨Hr, ⟨HT, HN⟩, HS⟩, Ho, ⟨%d0, H0⟩, ⟨%d1, H1⟩, ⟨%d2, H2⟩, ⟨%d3, H3⟩, ⟨%d4, H4⟩, ⟨%d5, H5⟩⟩
  ihave Ho := (owes_out m ho c _) $$ Ho
  ihave H0 := (hold_of_owns c (st0 m ho t) (hst0 m ho t) _) $$ H0
  ihave H1 := (hold_of_owns c (st1 m ho t) (hst1 m ho t) _) $$ H1
  ihave H2 := (hold_of_owns c (st2 m ho t) (hst2 m ho t) _) $$ H2
  ihave H3 := (hold_of_owns c (st3 m ho t) (hst3 m ho t) _) $$ H3
  ihave H4 := (hold_of_owns c (st4 m ho t) (hst4 m ho t) _) $$ H4
  ihave H5 := (some_of_owns c (st5 m ho t) (hst5 m ho t) _) $$ H5
  have key := @point_run F _ c (xc m c) (grid0.coords t) (Memref.whole main_arg2) (Memref.isWhole_whole _) (Memref.whole main_arg3) (Memref.isWhole_whole _)
    (st0 m ho t) (hst0 m ho t) (st1 m ho t) (hst1 m ho t)
    (Memref.isWhole_whole _)
    (st2 m ho t) (hst2 m ho t) (st3 m ho t) (hst3 m ho t)
    (st4 m ho t) (hst4 m ho t) (st5 m ho t) (hst5 m ho t)
    (Memref.isWhole_whole _) (nvW m) ho.hi ho.lo (wt m) fullShare.right fullShare.right (tgB m c) (nvB m c)
    (tgW m (fun a => match a with | ⟨0, _⟩ => (⟨t.val, t.isLt⟩ : Fin 100))) (tg_read m ho c t) (nv_read m c)
    (iblk m ho c 0 t) (iblk m ho c 1 t)
    (by rw [hv]; exact fun _ k => word0 m ho c t k)
    (by rw [hv]; exact fun h k => word1 m ho c t (by have := ho.hi; omega) k)
    (iblk m ho c 2 t) (iblk m ho c 3 t) (iblk m ho c 4 t)
  rw [hv] at key
  iapply key
  isplitl [Ho]; · iexact Ho
  isplitl [HS]; · iexact HS
  isplitl [HT]; · iexact HT
  isplitl [HN]; · iexact HN
  isplitl [H0]; · iexact H0
  isplitl [H1]; · iexact H1
  isplitl [H2]; · iexact H2
  isplitl [H3]; · iexact H3
  isplitl [H4]; · iexact H4
  isplitl [H5]; · iexact H5
  iintro ⟨Ho, HS, HT, HN, H0, H1, H2, H3, H4, H5⟩
  isplitl [Hr HT HN HS]
  · isplitl [Hr]; · iexact Hr
    isplitl [HT HN]
    · isplitl [HT] <;> iassumption
    iexact HS
  isplitl [Ho]; · iapply (owes_in m ho c _) $$ Ho
  isplitl [H0]; · iapply (owns_of_hold c (st0 m ho t) (hst0 m ho t) _) $$ H0
  isplitl [H1]; · iapply (owns_of_hold c (st1 m ho t) (hst1 m ho t) _) $$ H1
  isplitl [H2]; · iapply (owns_of_hold c (st2 m ho t) (hst2 m ho t) _) $$ H2
  isplitl [H3]; · iapply (owns_of_hold c (st3 m ho t) (hst3 m ho t) _) $$ H3
  isplitl [H4]; · iapply (owns_of_hold c (st4 m ho t) (hst4 m ho t) _) $$ H4
  iapply (owns_of_hold c (st5 m ho t) (hst5 m ho t) _) $$ H5

/-- The body table's row at point `t`'s slots is the body as `bodyAt` spells it. -/
theorem defs₀_row (t : Fin (cfgA m ho).N) :
    defs₀ (F := F) .tc (cfgA m ho).body ((cfgA m ho).bodyArgs t ((cfgA m ho).slots t)) = bodyAt m ho t := by
  unfold defs₀; rw [Defs.onTc_tc]; rfl

/-- The library's body obligation at every point. -/
theorem body_obligation (c : Dev nD) : BodyObligation (dats (F := F) m ho 0 c) (defs₀ (F := F)) Variants.none () Set.univ := fun t => by
  rw [bigSep_W0, bigSep_W0, defs₀_row]
  refine triple_restated (sound_body m ho c t) rfl .rfl fun _ => ?_
  have h5 : (cfgA m ho).idle (5 : Fin 6) ((cfgA m ho).grid.coords t) = false := live m ho 5 _
  rw [h5]
  exact .rfl

/-! ## Entry and exit -/

/-- The kernel's own semaphores. -/
def osem (s : Fin 2) : SemLoc sig := .dma (sem s)

theorem ownSem : Pipeline.OwnSemFacts spec0 osem := by decide

theorem ownSems_eq (c : Dev nD) : (Pipeline.ownSems0 (Ix := Unit) (Name := ℕ) (U := UD sig nD τ) (Lvl := ℕ) (Val := Elt F) (τ := τ) osem c : sProp 𝕄)
    = iprop(semVal ((c : Thread nD τ), osem 0) 0 ∗ semVal ((c : Thread nD τ), osem 1) 0) :=
  bigSep_univ_eq_bigSepL [(0 : Fin 2), (1 : Fin 2)] (by decide) (by decide) _

theorem tabs_eq (c : Dev nD) : (Pipeline.ΦT pre0 (adm m ho 0).1 c : sProp 𝕄) = tabs m c :=
  bigSep_univ_eq_bigSepL [(0 : Fin 2), (1 : Fin 2)] (by decide) (by decide) _

theorem bufs_split (c : Dev nD) (f : S2x512x1152.Idx → Elt F .f32) :
    (bufM.view.loc (c : Thread nD τ) ↦{fullShare} f : sProp 𝕄) = iprop(bufAt c (sset 0) f ∗ bufAt c (sset 1) f) :=
  (Ring.pointsTo_blocks (ℓ := bufM.view.loc (c : Thread nD τ)) sset sset_disjoint sset_cover f).trans
    (bigSep_univ_eq_bigSepL [(0 : Fin 2), (1 : Fin 2)] (by decide) (by decide) _)

theorem bufs_join (c : Dev nD) (f₀ : S2x512x1152.Idx → Elt F .f32) :
    iprop((∃ f, bufAt c (sset 0) f) ∗ (∃ f, bufAt c (sset 1) f)) ⊢ (iprop(∃ f, bufM.view.loc (c : Thread nD τ) ↦{fullShare} f) : sProp 𝕄) :=
  (Entails.of_eq (bigSep_univ_eq_bigSepL [(0 : Fin 2), (1 : Fin 2)] (by decide) (by decide) (fun s : Fin 2 => (iprop(∃ f, bufAt c (sset s) f) : sProp 𝕄))).symm).trans
    (Ring.pointsTo_blocks_join_exists (ℓ := bufM.view.loc (c : Thread nD τ)) sset sset_disjoint sset_cover f₀)

theorem slot_idle (c : Dev nD) (s : Fin 2) (t : ℕ) (h : ¬(1 ≤ t ∧ t < (nvW m).toNat)) :
    slotAt c (xc m c) (nvW m).toNat (wt m) s t = (idle c (xc m c) s : sProp 𝕄) := by
  unfold slotAt
  exact slotIf_false c _ (fun h' => h h'.2) s _

/-- What the region is entered with, conjunct by conjunct. -/
theorem PhiD_eq (c : Dev nD) : (Pipeline.ΦD osem spec0 {main_arg0} (V m) c : sProp 𝕄)
    = iprop((∃ f : Buf (Elt F) ((c : Thread nD τ).loc cc0_scratch0), ((c : Thread nD τ).loc cc0_scratch0) ↦{fullShare} f) ∗ (∃ r, prngReg c r)
      ∗ (semVal ((c : Thread nD τ), osem 0) 0 ∗ semVal ((c : Thread nD τ), osem 1) 0)
      ∗ (((c : Thread nD τ).loc main_arg0) ↦{fullShare} V m c main_arg0)) := by
  rw [Pipeline.ΦD_eq, scopedRest0_eq, ownSems_eq, bigSep_singleton]

/-- Both slots are idle at the first point, -/
theorem phi_in (c : Dev nD) : iprop(Pipeline.ΦD osem spec0 {main_arg0} (V m) c ∗ Pipeline.ΦT pre0 (adm m ho 0).1 c) ⊢ (dats m ho 0 c).Φ 0 := by
  rw [PhiD_eq, tabs_eq, Phi_eq, show (0 : Fin ((cfgA m ho).N + 1)).val = 0 from rfl]
  unfold PhiAt slots
  rw [slot_idle m c 0 0 (by omega), slot_idle m c 1 0 (by omega)]
  unfold idle
  iintro ⟨⟨⟨%f, Hb⟩, Hr, ⟨Hs0, Hs1⟩, Hx⟩, HT⟩
  ihave Hb := (Entails.of_eq (bufs_split c f)) $$ Hb
  icases Hb with ⟨Hb0, Hb1⟩
  ihave Hx := (show ((((c : Thread nD τ).loc main_arg0) ↦{fullShare} V m c main_arg0) : sProp 𝕄) ⊢ iprop(xAt c (xc m c) fullShare.left ∗ xAt c (xc m c) fullShare.right)
    from (pointsTo_share (PosShare.mem_left_op_right fullShare)).1) $$ Hx
  icases Hx with ⟨Hx0, Hx1⟩
  isplitl [Hr]; · iexact Hr
  isplitl [HT]; · iexact HT
  isplitl [Hb0 Hs0 Hx0]
  · isplitl [Hb0]; · iexists f; iexact Hb0
    isplitl [Hs0]; · iexact Hs0
    iexact Hx0
  · isplitl [Hb1]; · iexists f; iexact Hb1
    isplitl [Hs1]; · iexact Hs1
    iexact Hx1

/-- and after the last. -/
theorem phi_out (c : Dev nD) : (dats m ho 0 c).Φ (Fin.last (cfgA m ho).N) ⊢ (Pipeline.ΦD osem spec0 {main_arg0} (V m) c : sProp 𝕄) := by
  have hi := ho.hi
  rw [PhiD_eq, Phi_eq, show (Fin.last (cfgA m ho).N).val = 100 from N_0]
  unfold PhiAt slots
  rw [slot_idle m c 0 100 (by omega), slot_idle m c 1 100 (by omega)]
  unfold idle
  iintro ⟨Hr, -, ⟨⟨%f0, Hb0⟩, Hs0, Hx0⟩, ⟨%f1, Hb1⟩, Hs1, Hx1⟩
  isplitl [Hb0 Hb1]
  · iapply (bufs_join c f0)
    isplitl [Hb0]; · iexists f0; iexact Hb0
    iexists f1; iexact Hb1
  isplitl [Hr]; · iexact Hr
  isplitl [Hs0 Hs1]
  · isplitl [Hs0]; · iexact Hs0
    iexact Hs1
  iapply (show iprop(xAt c (xc m c) fullShare.left ∗ xAt c (xc m c) fullShare.right) ⊢ ((((c : Thread nD τ).loc main_arg0) ↦{fullShare} V m c main_arg0) : sProp 𝕄)
    from (pointsTo_share (PosShare.mem_left_op_right fullShare)).2)
  isplitl [Hx0]; · iexact Hx0
  iexact Hx1

/-! ## The run and the frame -/

theorem hmain : Pipeline.HMainP (Ix := Unit) (Name := ℕ) (U := UD sig nD τ) (Lvl := ℕ) (pcfgs (F := F)) 0 defs₀ Variants.none m main (V m) :=
  Pipeline.hmainP_prefix pcfgs 0 defs₀ Variants.none m main hostOps0 hostOps0_sub rfl main_chain

theorem tables_kept (c : Dev nD) (k : Fin 2) : V m c (pre0.ref k) = (adm m ho 0).1 k := by
  obtain rfl : c = 0 := Subsingleton.elim _ _
  match k with
  | ⟨0, _⟩ => exact V_ne m 0 main_arg2 (by decide)
  | ⟨1, _⟩ => exact V_ne m 0 main_arg3 (by decide)

theorem restH : ({main_arg0} : Finset (Ref sig .tc)) ⊆ Pipeline.restRefsP sig pre0 spec0 := by decide

set_option backward.isDefEq.respectTransparency.types false in
/-- At the compiled mesh, for any values, from any memory whose tables are as asked and whose counters are zero: every
    weakly fair execution of @main terminates, with every array of the pipeline at what the proof data say and every
    counter at zero. -/
theorem run_main : θ_run defs (onTc (τ := τ) (main (F := F))) (s₀ m ρ)
    (fun r => Pipeline.FramePost (Pipeline.pin pcfgs (adm m ho)) (dats m ho) 0 (V m) r ∧ r.2.sem = fun _ => 0) :=
  Pipeline.θ_run_frameP_dma_shared (Q' := _) pcfgs (adm m ho) (dats m ho) (0 : Fin 1) launch₀0 osem defs₀ Variants.none ownSem {main_arg0} restH m ρ main
    (hbody := fun c => (body_obligation m ho c).loose) (hq := fun _ _ _ => rfl)
    (howed := fun _ _ => rfl) (V := V m) (hmain := hmain m) (hA := A_eq m ho) (hpf := tables_kept m ho)
    (hin := phi_in m ho) (hout := phi_out m ho)

theorem rest0 : main_arg0 ∈ Pipeline.restRefs sig spec0 ∧ main_arg1 ∈ Pipeline.restRefs sig spec0 ∧ main_arg2 ∈ Pipeline.restRefs sig spec0
    ∧ main_arg3 ∈ Pipeline.restRefs sig spec0 := by decide

include ho in
/-- The frame: the program runs to its end and leaves its argument arrays as they were and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run_main m ρ ho)
  obtain ⟨hw, hr⟩ := h.1 c
  have win (w : Fin 6) (b : Ref sig .tc) (hb : Pipeline.arrRef spec0 w = b) (ho' : ((cfgA m ho).win w).isOut = false) (hne : b ≠ main_v0) :
      r.2.mem ((c.tc : Thread nD τ).loc b) = m ((c.tc : Thread nD τ).loc b) := by
    subst hb
    refine (hw w).trans (((dats m ho 0 c).arrAt_in w ho' _).trans ?_)
    rw [A_eq]
    exact V_ne m c _ hne
  exact ⟨(hr _ rest0.1).trans (V_ne m c _ (by decide)), (hr _ rest0.2.1).trans (V_ne m c _ (by decide)), (hr _ rest0.2.2.1).trans (V_ne m c _ (by decide)),
    (hr _ rest0.2.2.2).trans (V_ne m c _ (by decide)), win 2 _ rfl rfl (by decide), win 3 _ rfl rfl (by decide), win 4 _ rfl rfl (by decide)⟩

end Cert.Proof.Kernel2Ideal

end
-- ==== Proof.V2.Ref.lean ====
/-
  The reference of the expert layer over the reals, cut into its stages (gathered rows, one-hot groups, routing weights,
  gate, up and down products), each read at an index.
-/
module

public import proofs.«01_k».proof.Proof.Gen.Reference2Ideal.Run
public import Idealize.ShloMosaic.Lib.Pointwise
public import Idealize.ShloMosaic.Lib.Routing.Ops

@[expose] public section

set_option maxRecDepth 16384

noncomputable section

namespace Cert.Proof.Ref2

open Cert.Reference2Ideal Cert.Reference2Ideal.Gen
open Idealize.ShloMosaic Idealize.ShloMosaic.TcCoe

/-- The row indices, a negative one counted from the end. -/
def six (s : IVec S51200 32) : IVec S51200x1 32 :=
  broadcastInDim S51200x1 ![0] bcast_S51200_S51200x1_0 (select (cmpi .slt s (broadcastInDim S51200 ![] bcast_S_S51200 (constantI S_ 32 0#32)))
    (addi s (broadcastInDim S51200 ![] bcast_S_S51200 (constantI S_ 32 49152#32))) s)
/-- The rows of `X` taken at `s`. -/
def rws (X : FVec Ideal S49152x1152 .f32) (s : IVec S51200 32) : FVec Ideal S51200x1152 .f32 :=
  Host.gather gather_S49152x1152_S51200x1_S51200x1152_1_0_n_n_0_1_11152 X (six s)
/-- The features of the rows. -/
def tt (R : FVec Ideal S51200x1152 .f32) : FVec Ideal S51200x1024 .f32 :=
  extractStridedSlice S51200x1024 ![0, 0] R slices_S51200x1152_S51200x1024_0_0
/-- The routing weights of the rows, by group and expert. -/
def ew (R : FVec Ideal S51200x1152 .f32) : FVec Ideal S51200x4x4 .f32 :=
  shapeCast S51200x4x4 (extractStridedSlice S51200x16 ![0, 1028] R slices_S51200x1152_S51200x16_0_1028) shapeCasts_S51200x16_S51200x4x4
/-- A tile's group, one-hot on each of its rows. -/
def oh (T : IVec S100 32) : FVec Ideal S51200x4 .f32 :=
  uitofp .f32 (cmpi .eq (broadcastInDim S51200x4 ![0, 1] bcast_S51200x1_S51200x4_0_1 (broadcastInDim S51200x1 ![0] bcast_S51200_S51200x1_0
      (shapeCast S51200 (broadcastInDim S100x512 ![0] bcast_S100_S100x512_0 T) shapeCasts_S100x512_S51200)))
    (broadcastInDim S51200x4 ![0, 1] bcast_S1x4_S51200x4_0_1 (iotaInDim S1x4 32 1)))
/-- The routing weights where the group is the tile's. -/
def cmb (o : FVec Ideal S51200x4 .f32) (e : FVec Ideal S51200x4x4 .f32) : FVec Ideal S51200x4x4 .f32 :=
  mulf (broadcastInDim S51200x4x4 ![0, 1, 2] bcast_S51200x4x1_S51200x4x4_0_1_2 (broadcastInDim S51200x4x1 ![0, 1] bcast_S51200x4_S51200x4x1_0_1 o)) e
/-- One group's combining weights, along the hidden features. -/
def cb (g : ℕ) (h : S51200x4x4.Slices ![0, g, 0] S51200x1x4) (c : FVec Ideal S51200x4x4 .f32) : FVec Ideal S51200x4x512 .f32 :=
  broadcastInDim S51200x4x512 ![0, 1, 2] bcast_S51200x4x1_S51200x4x512_0_1_2 (broadcastInDim S51200x4x1 ![0, 1] bcast_S51200x4_S51200x4x1_0_1
    (shapeCast S51200x4 (extractStridedSlice S51200x1x4 ![0, g, 0] c h) shapeCasts_S51200x1x4_S51200x4))
/-- One group's gate (or up) weights. -/
def wq (g : ℕ) (h : S4x4x1024x512.Slices ![g, 0, 0, 0] S1x4x1024x512) (W : FVec Ideal S4x4x1024x512 .bf16) : FVec Ideal S4x1024x512 .f32 :=
  extf .f32 (shapeCast S4x1024x512 (extractStridedSlice S1x4x1024x512 ![g, 0, 0, 0] W h) shapeCasts_S1x4x1024x512_S4x1024x512) bitsLt_bf16_f32
/-- One group's down weights. -/
def wd (g : ℕ) (h : S4x4x512x1024.Slices ![g, 0, 0, 0] S1x4x512x1024) (W : FVec Ideal S4x4x512x1024 .bf16) : FVec Ideal S4x512x1024 .f32 :=
  extf .f32 (shapeCast S4x512x1024 (extractStridedSlice S1x4x512x1024 ![g, 0, 0, 0] W h) shapeCasts_S1x4x512x1024_S4x512x1024) bitsLt_bf16_f32
/-- Features `t` times gate (or up) weights `w`, by row, expert and hidden feature. -/
def gu (t : FVec Ideal S51200x1024 .f32) (w : FVec Ideal S4x1024x512 .f32) : FVec Ideal S51200x4x512 .f32 :=
  Host.dotGeneral dot_S51200x1024_S4x1024x512_S51200x4x512_1_1_0_02_n_n none t w
/-- The hidden features of gate `a`, up `b` and combining weights `c`. -/
def hid (a b c : FVec Ideal S51200x4x512 .f32) : FVec Ideal S51200x4x512 .f32 :=
  mulf (mulf (mulf a (Host.divf (broadcastInDim S51200x4x512 ![] bcast_S_S51200x4x512 (constant S_ .f32 0x3F800000#32))
    (addf (broadcastInDim S51200x4x512 ![] bcast_S_S51200x4x512 (constant S_ .f32 0x3F800000#32)) (Host.exp (Host.negf a))))) b) c
/-- Hidden features `h` times down weights `w`, summed over experts and hidden features. -/
def dn (h : FVec Ideal S51200x4x512 .f32) (w : FVec Ideal S4x512x1024 .f32) : FVec Ideal S51200x1024 .f32 :=
  Host.dotGeneral dot_S51200x4x512_S4x512x1024_S51200x1024_12_01_0_2_n_n none h w
/-- Zeros. -/
def z0 : FVec Ideal S51200x1024 .f32 := broadcastInDim S51200x1024 ![] bcast_S_S51200x1024 (constant S_ .f32 0x00000000#32)
/-- `y` on the rows of the tiles below the count, zero elsewhere. -/
def fin (n : IVec S1 32) (y : FVec Ideal S51200x1024 .f32) : FVec Ideal S51200x1024 .f32 :=
  select (broadcastInDim S51200x1024 ![0, 1] bcast_S51200x1_S51200x1024_0_1 (broadcastInDim S51200x1 ![0] bcast_S51200_S51200x1_0
    (shapeCast S51200 (broadcastInDim S100x512 ![0] bcast_S100_S100x512_0 (cmpi .slt (iotaInDim S100 32 0)
      (broadcastInDim S100 ![] bcast_S_S100 (shapeCast S_ n shapeCasts_S1_S_)))) shapeCasts_S100x512_S51200))) y
    (broadcastInDim S51200x1024 ![] bcast_S_S51200x1024 (id (constant S_ .f32 0x00000000#32)))
/-- One group's term, of the rows' features `t` and combining weights `c`. -/
def grp (g : ℕ) (h1 : S4x4x1024x512.Slices ![g, 0, 0, 0] S1x4x1024x512) (h2 : S51200x4x4.Slices ![0, g, 0] S51200x1x4)
    (h3 : S4x4x512x1024.Slices ![g, 0, 0, 0] S1x4x512x1024) (t : FVec Ideal S51200x1024 .f32) (c : FVec Ideal S51200x4x4 .f32)
    (WG WU : FVec Ideal S4x4x1024x512 .bf16) (WD : FVec Ideal S4x4x512x1024 .bf16) : FVec Ideal S51200x1024 .f32 :=
  dn (hid (gu t (wq g h1 WG)) (gu t (wq g h1 WU)) (cb g h2 c)) (wd g h3 WD)
/-- The four groups' terms, added in turn. -/
def yy (t : FVec Ideal S51200x1024 .f32) (c : FVec Ideal S51200x4x4 .f32)
    (WG WU : FVec Ideal S4x4x1024x512 .bf16) (WD : FVec Ideal S4x4x512x1024 .bf16) : FVec Ideal S51200x1024 .f32 :=
  addf (addf (addf (addf z0
    (grp 0 slices_S4x4x1024x512_S1x4x1024x512_0_0_0_0 slices_S51200x4x4_S51200x1x4_0_0_0 slices_S4x4x512x1024_S1x4x512x1024_0_0_0_0 t c WG WU WD))
    (grp 1 slices_S4x4x1024x512_S1x4x1024x512_1_0_0_0 slices_S51200x4x4_S51200x1x4_0_1_0 slices_S4x4x512x1024_S1x4x512x1024_1_0_0_0 t c WG WU WD))
    (grp 2 slices_S4x4x1024x512_S1x4x1024x512_2_0_0_0 slices_S51200x4x4_S51200x1x4_0_2_0 slices_S4x4x512x1024_S1x4x512x1024_2_0_0_0 t c WG WU WD))
    (grp 3 slices_S4x4x1024x512_S1x4x1024x512_3_0_0_0 slices_S51200x4x4_S51200x1x4_0_3_0 slices_S4x4x512x1024_S1x4x512x1024_3_0_0_0 t c WG WU WD)

set_option maxHeartbeats 4000000 in
/-- What the reference's run leaves is the stages put together. -/
theorem res_eq (m : (ℓ : Loc nD τ sig) → Buf (Elt Ideal) ℓ) (c : Dev nD) :
    Value.res_main_v104 (F := Ideal) m c = fin (m ((c.tc : Thread nD τ).loc main_arg3))
      (yy (tt (rws (m ((c.tc : Thread nD τ).loc main_arg0)) (m ((c.tc : Thread nD τ).loc main_arg1))))
        (cmb (oh (m ((c.tc : Thread nD τ).loc main_arg2))) (ew (rws (m ((c.tc : Thread nD τ).loc main_arg0)) (m ((c.tc : Thread nD τ).loc main_arg1)))))
        (m ((c.tc : Thread nD τ).loc main_arg4)) (m ((c.tc : Thread nD τ).loc main_arg5)) (m ((c.tc : Thread nD τ).loc main_arg6))) := by
  unfold Value.res_main_v104
  rfl

/-! ## The stages at an index -/

theorem six_at (s : IVec S51200 32) (r : Fin 51200) (h : (s (ix1 r)).toNat < 49152) : six s (ix2 r (0 : Fin 1)) = s (ix1 r) := by
  pointwise [six]
  have e : (s (ix1 r)).slt 0#32 = false := by
    simp only [BitVec.slt_eq_decide, BitVec.toInt_eq_toNat_cond, BitVec.toNat_ofNat, Nat.reducePow, Nat.reduceMod, decide_eq_false_iff_not]
    omega
  show Scalar.select (BitVec.ofBool ((s (ix1 r)).slt 0#32)) _ _ = _
  rw [e]
  rfl

theorem rws_at (X : FVec Ideal S49152x1152 .f32) (s : IVec S51200 32) (r : Fin 51200) (k : Fin 1152) (b : Fin 49152)
    (hb : six s (ix2 r (0 : Fin 1)) = BitVec.ofNat 32 b.val) : rws X s (ix2 r k) = X (ix2 b k) :=
  Idealize.ShloMosaic.Routing.gather_row _ rfl rfl rfl rfl rfl X (six s) r k b hb (by decide)

theorem tt_at (R : FVec Ideal S51200x1152 .f32) (r : Fin 51200) (k : Fin 1024) : tt R (ix2 r k) = R (ix2 r (⟨k.val, by omega⟩ : Fin 1152)) := by
  pointwise [tt]

theorem ew_at (R : FVec Ideal S51200x1152 .f32) (r : Fin 51200) (g e : Fin 4) :
    ew R (ix3 r g e) = R (ix2 r (⟨1028 + (g.val * 4 + e.val), by omega⟩ : Fin 1152)) := by
  pointwise [ew]

theorem oh_at (T : IVec S100 32) (r : Fin 51200) (g : Fin 4) :
    oh T (ix2 r g) = if T (ix1 (⟨r.val / 512, by omega⟩ : Fin 100)) = BitVec.ofNat 32 g.val then (1 : EReal) else 0 := by
  pointwise [oh]
  by_cases h : T (ix1 (⟨r.val / 512, by omega⟩ : Fin 100)) = BitVec.ofNat 32 g.val
  · rw [if_pos h, h]
    show ((((BitVec.ofBool (BitVec.ofNat 32 g.val == BitVec.ofNat 32 g.val)).toNat : ℝ)) : EReal) = 1
    rw [beq_self_eq_true]
    simp
  · rw [if_neg h]
    show ((((BitVec.ofBool (T (ix1 (⟨r.val / 512, by omega⟩ : Fin 100)) == BitVec.ofNat 32 g.val)).toNat : ℝ)) : EReal) = 0
    rw [beq_false_of_ne h]
    simp

theorem cmb_at (o : FVec Ideal S51200x4 .f32) (e : FVec Ideal S51200x4x4 .f32) (r : Fin 51200) (g j : Fin 4) :
    cmb o e (ix3 r g j) = o (ix2 r g) * e (ix3 r g j) := by
  pointwise [cmb]

theorem cb_at (g : ℕ) (hg : g < 4) (h) (c : FVec Ideal S51200x4x4 .f32) (r : Fin 51200) (j : Fin 4) (f : Fin 512) :
    cb g h c (ix3 r j f) = c (ix3 r (⟨g, hg⟩ : Fin 4) j) := by
  pointwise [cb]

theorem wq_at (g : ℕ) (hg : g < 4) (h) (W : FVec Ideal S4x4x1024x512 .bf16) (j : Fin 4) (k : Fin 1024) (f : Fin 512) :
    wq g h W (ix3 j k f) = W (ix4 (⟨g, hg⟩ : Fin 4) j k f) := by
  pointwise [wq]

theorem wd_at (g : ℕ) (hg : g < 4) (h) (W : FVec Ideal S4x4x512x1024 .bf16) (j : Fin 4) (f : Fin 512) (d : Fin 1024) :
    wd g h W (ix3 j f d) = W (ix4 (⟨g, hg⟩ : Fin 4) j f d) := by
  pointwise [wd]

theorem gu_at (t : FVec Ideal S51200x1024 .f32) (w : FVec Ideal S4x1024x512 .f32) (r : Fin 51200) (j : Fin 4) (f : Fin 512) :
    gu t w (ix3 r j f) = ∑ k : Fin 1024, t (ix2 r k) * w (ix3 j k f) := by
  pointwise [gu]

theorem hid_at (a b c : FVec Ideal S51200x4x512 .f32) (r : Fin 51200) (j : Fin 4) (f : Fin 512) :
    hid a b c (ix3 r j f) = a (ix3 r j f) * Ideal.logistic (a (ix3 r j f)) * b (ix3 r j f) * c (ix3 r j f) := by
  pointwise [hid]
  rfl

theorem dn_at (h : FVec Ideal S51200x4x512 .f32) (w : FVec Ideal S4x512x1024 .f32) (r : Fin 51200) (d : Fin 1024) :
    dn h w (ix2 r d) = ∑ j : Fin 4, ∑ f : Fin 512, h (ix3 r j f) * w (ix3 j f d) := by
  pointwise [dn]

theorem fin_at (n : IVec S1 32) (y : FVec Ideal S51200x1024 .f32) (r : Fin 51200) (d : Fin 1024) (hn : (n (ix1 (0 : Fin 1))).toNat ≤ 100) :
    fin n y (ix2 r d) = if r.val / 512 < (n (ix1 (0 : Fin 1))).toNat then (y (ix2 r d) : EReal) else 0 := by
  pointwise [fin]
  have hr : r.val / 512 < 100 := by omega
  have e : (BitVec.ofNat 32 (r.val / 512)).slt (n (ix1 (0 : Fin 1))) = decide (r.val / 512 < (n (ix1 (0 : Fin 1))).toNat) := by
    rw [BitVec.slt_eq_decide, decide_eq_decide]
    simp only [BitVec.toInt_eq_toNat_cond, BitVec.toNat_ofNat, Nat.reducePow]
    rw [Nat.mod_eq_of_lt (by omega : r.val / 512 < 4294967296)]
    split_ifs <;> omega
  show Scalar.select (BitVec.ofBool ((BitVec.ofNat 32 (r.val / 512)).slt (n (ix1 (0 : Fin 1))))) _ (Ideal.ofBits .f32 0#32) = _
  rw [e]
  by_cases h : r.val / 512 < (n (ix1 (0 : Fin 1))).toNat
  · rw [if_pos h, decide_eq_true h]; rfl
  · rw [if_neg h, decide_eq_false h]
    show Ideal.ofBits .f32 0#32 = 0
    simp [Ideal.ofBits, Ideal.ieee]

theorem z0_at (r : Fin 51200) (d : Fin 1024) : z0 (ix2 r d) = (0 : EReal) := by
  pointwise [z0]

/-! ## The layer's formula -/

/-- One hidden feature: the gate product times its logistic, times the up product, times the weight `c`. -/
def hv (x G U : Fin 1024 → EReal) (c : EReal) : EReal :=
  (∑ k, x k * G k) * Ideal.logistic (∑ k, x k * G k) * (∑ k, x k * U k) * c
/-- One feature of a row `x`: the four experts' hidden features times the down weights. -/
def ffn (x : Fin 1024 → EReal) (c : Fin 4 → EReal) (G U : Fin 4 → Fin 1024 → Fin 512 → EReal) (D : Fin 4 → Fin 512 → EReal) : EReal :=
  ∑ j, ∑ f, hv x (fun k => G j k f) (fun k => U j k f) (c j) * D j f

theorem grp_at (g : ℕ) (hg : g < 4) (h1 h2 h3) (t : FVec Ideal S51200x1024 .f32) (c : FVec Ideal S51200x4x4 .f32)
    (WG WU : FVec Ideal S4x4x1024x512 .bf16) (WD : FVec Ideal S4x4x512x1024 .bf16) (r : Fin 51200) (d : Fin 1024) :
    grp g h1 h2 h3 t c WG WU WD (ix2 r d) = ffn (fun k => t (ix2 r k)) (fun j => c (ix3 r (⟨g, hg⟩ : Fin 4) j))
      (fun j k f => WG (ix4 (⟨g, hg⟩ : Fin 4) j k f)) (fun j k f => WU (ix4 (⟨g, hg⟩ : Fin 4) j k f)) (fun j f => WD (ix4 (⟨g, hg⟩ : Fin 4) j f d)) := by
  unfold grp
  rw [dn_at]
  refine Finset.sum_congr rfl fun j _ => Finset.sum_congr rfl fun f _ => ?_
  rw [hid_at, gu_at, gu_at, cb_at g hg, wd_at g hg]
  simp only [wq_at g hg]
  rfl

/-- With no weights a row gets nothing. -/
theorem ffn_zero (x : Fin 1024 → EReal) (G U : Fin 4 → Fin 1024 → Fin 512 → EReal) (D : Fin 4 → Fin 512 → EReal) : ffn x (fun _ => 0) G U D = 0 := by
  unfold ffn hv
  simp

theorem yy_at (t : FVec Ideal S51200x1024 .f32) (T : IVec S100 32) (e : FVec Ideal S51200x4x4 .f32)
    (WG WU : FVec Ideal S4x4x1024x512 .bf16) (WD : FVec Ideal S4x4x512x1024 .bf16) (r : Fin 51200) (d : Fin 1024) (g : Fin 4)
    (hg : T (ix1 (⟨r.val / 512, by omega⟩ : Fin 100)) = BitVec.ofNat 32 g.val) :
    yy t (cmb (oh T) e) WG WU WD (ix2 r d) = ffn (fun k => t (ix2 r k)) (fun j => e (ix3 r g j))
      (fun j k f => WG (ix4 g j k f)) (fun j k f => WU (ix4 g j k f)) (fun j f => WD (ix4 g j f d)) := by
  have key : ∀ (g' : ℕ) (hg' : g' < 4) (h1 h2 h3), (grp g' h1 h2 h3 t (cmb (oh T) e) WG WU WD (ix2 r d) : EReal)
      = if g.val = g' then ffn (fun k => t (ix2 r k)) (fun j => e (ix3 r g j))
      (fun j k f => WG (ix4 g j k f)) (fun j k f => WU (ix4 g j k f)) (fun j f => WD (ix4 g j f d)) else 0 := by
    intro g' hg' h1 h2 h3
    rw [grp_at g' hg']
    simp only [cmb_at, oh_at, hg]
    by_cases h : g.val = g'
    · subst h
      rw [if_pos rfl]
      simp only [if_true, one_mul]
    · rw [if_neg h, if_neg (fun hh => h (by
        have := congrArg BitVec.toNat hh
        simp only [BitVec.toNat_ofNat] at this
        omega))]
      simp only [zero_mul]
      exact ffn_zero _ _ _ _
  show ((((z0 (ix2 r d) + grp 0 _ _ _ t _ WG WU WD (ix2 r d)) + grp 1 _ _ _ t _ WG WU WD (ix2 r d)) + grp 2 _ _ _ t _ WG WU WD (ix2 r d)
    + grp 3 _ _ _ t _ WG WU WD (ix2 r d) : EReal)) = _
  rw [z0_at, key 0 (by decide), key 1 (by decide), key 2 (by decide), key 3 (by decide)]
  have h4 := g.isLt
  rcases (by omega : g.val = 0 ∨ g.val = 1 ∨ g.val = 2 ∨ g.val = 3) with h | h | h | h <;> rw [h] <;> simp

/-- The reference's result at a row and a feature, under the bounds on the tables. -/
theorem ref_at (X : FVec Ideal S49152x1152 .f32) (s : IVec S51200 32) (T : IVec S100 32) (n : IVec S1 32)
    (WG WU : FVec Ideal S4x4x1024x512 .bf16) (WD : FVec Ideal S4x4x512x1024 .bf16) (r : Fin 51200) (d : Fin 1024)
    (b : Fin 49152) (g : Fin 4) (hb : s (ix1 r) = BitVec.ofNat 32 b.val)
    (hg : T (ix1 (⟨r.val / 512, by omega⟩ : Fin 100)) = BitVec.ofNat 32 g.val) (hn : (n (ix1 (0 : Fin 1))).toNat ≤ 100) :
    fin n (yy (tt (rws X s)) (cmb (oh T) (ew (rws X s))) WG WU WD) (ix2 r d)
    = if r.val / 512 < (n (ix1 (0 : Fin 1))).toNat then
        ffn (fun k => X (ix2 b (⟨k.val, by omega⟩ : Fin 1152))) (fun j => X (ix2 b (⟨1028 + (g.val * 4 + j.val), by omega⟩ : Fin 1152)))
          (fun j k f => WG (ix4 g j k f)) (fun j k f => WU (ix4 g j k f)) (fun j f => WD (ix4 g j f d)) else 0 := by
  have hs : six s (ix2 r (0 : Fin 1)) = BitVec.ofNat 32 b.val := by
    rw [six_at _ _ (by rw [hb, BitVec.toNat_ofNat]; omega), hb]
  rw [fin_at _ _ _ _ hn, yy_at _ _ _ _ _ _ _ _ g hg]
  simp only [tt_at, ew_at, rws_at X s r _ b hs]

end Cert.Proof.Ref2

end
-- ==== Proof.V2.Ker.lean ====
/-
  The kernel's payloads over the reals at an index, and a valid tile's block: the layer's formula of its rows.
-/
module

public import proofs.«01_k».proof.Proof.EI.Run
public import proofs.«01_k».proof.Proof.V2.Ref

@[expose] public section

set_option maxRecDepth 16384

noncomputable section

namespace Cert.Proof.Kernel2Ideal

open Cert.Kernel2Ideal Cert.Kernel2Ideal.Gen
open Idealize.ShloMosaic Idealize.ShloMosaic.TcCoe
open Cert.Proof.Ref2 (hv ffn)

/-- A row's coefficient read as the sum over the lanes of which one is kept. -/
def cf (C : Fin 128 → EReal) (w : BitVec 32) : EReal := ∑ l : Fin 128, Scalar.select (IntOp.cmpi .eq (BitVec.ofNat 32 l.val) w) (C l) 0

theorem cf_eq (C : Fin 128 → EReal) (w : BitVec 32) (l : Fin 128) (h : w = BitVec.ofNat 32 l.val) : cf C w = C l := by
  unfold cf
  rw [Finset.sum_eq_single l]
  · show Scalar.select (BitVec.ofBool (BitVec.ofNat 32 l.val == w)) _ _ = _
    rw [h, beq_self_eq_true]; rfl
  · intro l' _ hl
    show Scalar.select (BitVec.ofBool (BitVec.ofNat 32 l'.val == w)) _ _ = _
    rw [h, beq_false_of_ne (fun hh => hl (Fin.ext (by
      have := congrArg BitVec.toNat hh
      simp only [BitVec.toNat_ofNat] at this
      omega)))]
    rfl
  · exact fun hh => absurd (Finset.mem_univ _) hh

section
variable (v28 : FVec Ideal S512x1024 .bf16) (v31 : FVec Ideal S512x128 .f32) (w : BitVec 32)

theorem pay3_at (v26 : Vec Ideal S1x512x1024 .f32) (p : Fin 512) (k : Fin 1024) : k0_pay3 v26 (ix2 p k) = v26 (ix3 (0 : Fin 1) p k) := by
  pointwise [k0_pay3]

theorem pay4_at (v30 : Vec Ideal S1x512x128 .f32) (p : Fin 512) (k : Fin 128) : k0_pay4 v30 (ix2 p k) = v30 (ix3 (0 : Fin 1) p k) := by
  pointwise [k0_pay4]

theorem pay7_at (p : Fin 512) : k0_pay7 v31 (iota .tc S512x128 32 [1] iota_S512x128_d1_w32) w (ix2 p (0 : Fin 1))
    = cf (fun l => v31 (ix2 p l)) (Scalar.addi w 2#32) := by
  pointwise [k0_pay7, cf]

theorem pay9_at (G U : Vec Ideal S1x1x1024x512 .bf16) (p f : Fin 512) : k0_pay9 v28 v31 (iota .tc S512x128 32 [1] iota_S512x128_d1_w32) w G U (ix2 p f)
    = hv (fun k => v28 (ix2 p k)) (fun k => G (ix4 (0 : Fin 1) (0 : Fin 1) k f)) (fun k => U (ix4 (0 : Fin 1) (0 : Fin 1) k f))
      (cf (fun l => v31 (ix2 p l)) (Scalar.addi w 3#32)) := by
  pointwise [k0_pay9, cf, hv]

theorem pay5_at (v26 : Vec Ideal S1x512x1024 .f32) (v30 : Vec Ideal S1x512x128 .f32) (g : BitVec 32) (G U : Vec Ideal S1x1x1024x512 .bf16) (p f : Fin 512) :
    k0_pay5 v26 v30 g G U (ix2 p f)
    = hv (fun k => v26 (ix3 (0 : Fin 1) p k)) (fun k => G (ix4 (0 : Fin 1) (0 : Fin 1) k f)) (fun k => U (ix4 (0 : Fin 1) (0 : Fin 1) k f))
      (cf (fun l => v30 (ix3 (0 : Fin 1) p l)) (Scalar.addi (Scalar.addi 4#32 (Scalar.muli 4#32 g)) 0#32)) := by
  pointwise [k0_pay5, k0_pay3, k0_pay4, cf, hv]

theorem pay6_at (h0 : FVec Ideal S512x512 .bf16) (D0 : Vec Ideal S1x1x512x1024 .bf16) (G U : Vec Ideal S1x1x1024x512 .bf16) (D : Vec Ideal S1x1x512x1024 .bf16)
    (p : Fin 512) (d : Fin 1024) : k0_pay6 v28 v31 (iota .tc S512x128 32 [1] iota_S512x128_d1_w32) w h0 D0 G U D (ix2 p d)
    = (∑ f : Fin 512, h0 (ix2 p f) * D0 (ix4 (0 : Fin 1) (0 : Fin 1) f d))
      + ∑ f : Fin 512, hv (fun k => v28 (ix2 p k)) (fun k => G (ix4 (0 : Fin 1) (0 : Fin 1) k f)) (fun k => U (ix4 (0 : Fin 1) (0 : Fin 1) k f))
        (cf (fun l => v31 (ix2 p l)) (Scalar.addi w 1#32)) * D (ix4 (0 : Fin 1) (0 : Fin 1) f d) := by
  pointwise [k0_pay6, cf, hv]

theorem pay8_at (y : FVec Ideal S512x1024 .f32) (c : FVec Ideal S512x1 .f32) (G U : Vec Ideal S1x1x1024x512 .bf16) (D : Vec Ideal S1x1x512x1024 .bf16)
    (p : Fin 512) (d : Fin 1024) : k0_pay8 v28 y c G U D (ix2 p d)
    = y (ix2 p d) + ∑ f : Fin 512, hv (fun k => v28 (ix2 p k)) (fun k => G (ix4 (0 : Fin 1) (0 : Fin 1) k f)) (fun k => U (ix4 (0 : Fin 1) (0 : Fin 1) k f))
        (c (ix2 p (0 : Fin 1))) * D (ix4 (0 : Fin 1) (0 : Fin 1) f d) := by
  pointwise [k0_pay8, hv]

theorem pay1_at (y : FVec Ideal S512x1024 .f32) (h : FVec Ideal S512x512 .bf16) (D : Vec Ideal S1x1x512x1024 .bf16) (p : Fin 512) (d : Fin 1024) :
    k0_pay1 y h D (ix2 p d) = y (ix2 p d) + ∑ f : Fin 512, h (ix2 p f) * D (ix4 (0 : Fin 1) (0 : Fin 1) f d) := by
  pointwise [k0_pay1]

theorem pay2_at (p : Fin 512) (d : Fin 1024) : k0_pay2 (F := Ideal) (ix2 p d) = (0 : EReal) := by
  pointwise [k0_pay2]

end

/-- The lane of an expert's weight. -/
theorem lane (g : Fin 4) (j : Fin 4) : Scalar.addi (Scalar.addi 4#32 (Scalar.muli 4#32 (BitVec.ofNat 32 g.val))) (BitVec.ofNat 32 j.val)
    = BitVec.ofNat 32 (4 + (g.val * 4 + j.val)) := by
  revert g j; decide

theorem cf_lane (C : Fin 128 → EReal) (g j : Fin 4) (w : BitVec 32) (hw : w = BitVec.ofNat 32 j.val) :
    cf C (Scalar.addi (Scalar.addi 4#32 (Scalar.muli 4#32 (BitVec.ofNat 32 g.val))) w) = C ⟨4 + (g.val * 4 + j.val), by omega⟩ := by
  subst hw
  exact cf_eq C _ _ (lane g j)

theorem exU_at (e : Fin 4) (Y : Vec Ideal S1x4x1024x512 .bf16) (k : Fin 1024) (f : Fin 512) :
    exU e Y (ix4 (0 : Fin 1) (0 : Fin 1) k f) = Y (ix4 (0 : Fin 1) e k f) :=
  congrArg Y (funext fun a => match a with | ⟨0, _⟩ => rfl | ⟨1, _⟩ => rfl | ⟨2, _⟩ => rfl | ⟨3, _⟩ => rfl)
theorem exD_at (e : Fin 4) (Y : Vec Ideal S1x4x512x1024 .bf16) (f : Fin 512) (d : Fin 1024) :
    exD e Y (ix4 (0 : Fin 1) (0 : Fin 1) f d) = Y (ix4 (0 : Fin 1) e f d) :=
  congrArg Y (funext fun a => match a with | ⟨0, _⟩ => rfl | ⟨1, _⟩ => rfl | ⟨2, _⟩ => rfl | ⟨3, _⟩ => rfl)

/-- A valid tile's block is the layer's formula of its rows. -/
theorem tileB_at (v26 : Vec Ideal S1x512x1024 .f32) (v30 : Vec Ideal S1x512x128 .f32) (g : Fin 4) (Y6 Y7 : Vec Ideal S1x4x1024x512 .bf16)
    (Y8 : Vec Ideal S1x4x512x1024 .bf16) (p : Fin 512) (d : Fin 1024) :
    tileB v26 v30 (BitVec.ofNat 32 g.val) Y6 Y7 Y8 (ix2 p d)
    = ffn (fun k => v26 (ix3 (0 : Fin 1) p k)) (fun j => v30 (ix3 (0 : Fin 1) p (⟨4 + (g.val * 4 + j.val), by omega⟩ : Fin 128)))
      (fun j k f => Y6 (ix4 (0 : Fin 1) j k f)) (fun j k f => Y7 (ix4 (0 : Fin 1) j k f)) (fun j f => Y8 (ix4 (0 : Fin 1) j f d)) := by
  unfold tileB
  rw [pay1_at, pay8_at, pay6_at, pay7_at, cf_lane _ g 1 1#32 rfl, cf_lane _ g 2 2#32 rfl]
  unfold ffn
  rw [Fin.sum_univ_four]
  refine congrArg₂ (· + ·) (congrArg₂ (· + ·) (congrArg₂ (· + ·) ?_ ?_) ?_) ?_ <;> refine Finset.sum_congr rfl fun f _ => ?_
  · rw [pay5_at, cf_lane _ g 0 0#32 rfl]; simp only [exU_at, exD_at]
  · rw [pay4_at]; simp only [pay3_at, exU_at, exD_at]
  · rw [pay4_at]; simp only [pay3_at, exU_at, exD_at]
  · rw [pay9_at, cf_lane _ g 3 3#32 rfl, pay4_at]; simp only [pay3_at, exU_at, exD_at]

end Cert.Proof.Kernel2Ideal

end
-- ==== Proof.V2.Pre.lean ====
/-
  The precondition of the expert layer's call read element by element: the bounds on the row indices, on the tiles'
  groups and on the number of valid tiles.
-/
module

public import proofs.«01_k».proof.Proof.Gen.Pre_moe_tables
public import Idealize.ShloMosaic.Lib.Pointwise

@[expose] public section

set_option maxRecDepth 16384

noncomputable section

namespace Cert.Proof.Pre2

open Idealize.ShloMosaic Idealize.ShloMosaic.TcCoe
open Cert.Pre_moe_tables

theorem one_of_and {p q : Bool} (h : IntOp.andi (BitVec.ofBool p) (BitVec.ofBool q) = 1#1) : p = true ∧ q = true := by
  revert h; cases p <;> cases q <;> decide

/-- A word at least 0 and below `n`, compared signed. -/
theorem below {v n : BitVec 32} (hn : n.toNat < 2 ^ 31) (h : IntOp.andi (IntOp.cmpi .sge v 0#32) (IntOp.cmpi .slt v n) = 1#1) : v.toNat < n.toNat := by
  obtain ⟨h1, h2⟩ := one_of_and h
  simp only [BitVec.sle_eq_decide, BitVec.slt_eq_decide, decide_eq_true_eq, BitVec.toInt_eq_toNat_cond, BitVec.toNat_ofNat, Nat.reducePow, Nat.reduceMod] at h1 h2
  omega

/-- A word from 1 to 100, compared signed. -/
theorem between {v : BitVec 32} (h : IntOp.andi (IntOp.cmpi .sge v 1#32) (IntOp.cmpi .sle v 100#32) = 1#1) : 1 ≤ v.toNat ∧ v.toNat ≤ 100 := by
  obtain ⟨h1, h2⟩ := one_of_and h
  simp only [BitVec.sle_eq_decide, decide_eq_true_eq, BitVec.toInt_eq_toNat_cond, BitVec.toNat_ofNat, Nat.reducePow, Nat.reduceMod] at h1 h2
  omega

section
variable {F : FTy → Type} [FloatOps F]
variable {X : FVec F S49152x1152 .f32} {s : IVec S51200 32} {T : IVec S100 32} {n : IVec S1 32}
variable {A B : FVec F S4x4x1024x512 .bf16} {C : FVec F S4x4x512x1024 .bf16}

theorem src_lt (h : (fn X s T n A B C).1 = fun _ => 1#1) (x : S51200.Idx) : (s x).toNat < 49152 :=
  below (n := 49152#32) (by decide) (congrFun h x)

theorem tg_lt (h : (fn X s T n A B C).2.1 = fun _ => 1#1) (x : S100.Idx) : (T x).toNat < 4 :=
  below (n := 4#32) (by decide) (congrFun h x)

theorem nv_mem (h : (fn X s T n A B C).2.2 = fun _ => 1#1) (x : S1.Idx) : 1 ≤ (n x).toNat ∧ (n x).toNat ≤ 100 :=
  between (congrFun h x)

end

end Cert.Proof.Pre2

end
-- ==== Proof.V2.Main.lean ====
/-
  The kernel's result array: every block is the reference's result at the block's place, under the precondition's bounds.
-/
module

public import proofs.«01_k».proof.Proof.V2.Ker
public import proofs.«01_k».proof.Proof.V2.Pre
public import Idealize.ShloMosaic.Lib.Pipeline.ValueKit

@[expose] public section

set_option maxRecDepth 16384

noncomputable section

namespace Cert.Proof.Kernel2Ideal

open Cert.Kernel2Ideal Cert.Kernel2Ideal.Gen
open Idealize.ShloMosaic Idealize.ShloMosaic.TcCoe
open Cert.Proof.Ref2 (hv ffn)

/-- The bounds on the tables, of the precondition. -/
theorem ok_of_pre {F : FTy → Type} [FloatOps F] (m : (ℓ : Loc nD τ sig) → Buf (Elt F) ℓ)
    {X A B C} (h : (Cert.Pre_moe_tables.fn (F := F) X (m (((0 : Dev nD).tc : Thread nD τ).loc main_arg1)) (m (((0 : Dev nD).tc : Thread nD τ).loc main_arg2))
      (m (((0 : Dev nD).tc : Thread nD τ).loc main_arg3)) A B C).1 = fun _ => 1#1)
    (h1 : (Cert.Pre_moe_tables.fn (F := F) X (m (((0 : Dev nD).tc : Thread nD τ).loc main_arg1)) (m (((0 : Dev nD).tc : Thread nD τ).loc main_arg2))
      (m (((0 : Dev nD).tc : Thread nD τ).loc main_arg3)) A B C).2.1 = fun _ => 1#1)
    (h2 : (Cert.Pre_moe_tables.fn (F := F) X (m (((0 : Dev nD).tc : Thread nD τ).loc main_arg1)) (m (((0 : Dev nD).tc : Thread nD τ).loc main_arg2))
      (m (((0 : Dev nD).tc : Thread nD τ).loc main_arg3)) A B C).2.2 = fun _ => 1#1) : Ok m :=
  ⟨fun x => Pre2.src_lt h x, fun x => Pre2.tg_lt h1 x, (Pre2.nv_mem h2 _).1, (Pre2.nv_mem h2 _).2⟩

section
variable (m : (ℓ : Loc nD τ sig) → Buf (Elt Ideal) ℓ) (ho : Ok m)

/-- The tile's group as an index. -/
def tg (t : Fin 100) : Fin 4 := ⟨(tgW m (ix1 t)).toNat, ho.tg _⟩

theorem transform_6_eq : ∀ i : grid0.Coords, cc0_transform_6 i = ![(i 0).val, 0] := by decide +kernel
theorem flush5 : ∀ t : Fin grid0.N, Pipeline.Window.flushOf grid0 true cc0_transform_6 t = true := by decide +kernel

/-- The group that the weights' index maps read of the table. -/
theorem at_eq (t : Fin grid0.N) (h : ∀ a, k0_off1 (grid0.coords t) a + S1.size a ≤ S100.size a) :
    (pf m).at 0 (Rect.unit (s := S100) (k0_off1 (grid0.coords t)) S1.size h) numel1_S1 = tgW m (ix1 (⟨t.val, t.isLt⟩ : Fin 100)) := by
  have e : k0_off1 (grid0.coords t) 0 = t.val := by
    have e := congrFun (off1_eq (grid0.coords t)) 0
    rw [coords_val] at e
    exact e
  refine congrArg (tgW m) (funext fun a => Fin.ext ?_)
  match a with
  | ⟨0, _⟩ =>
    show k0_off1 (grid0.coords t) 0 + 1 * 0 = t.val
    omega

theorem blk2 (c : Dev nD) (t : Fin (cfgA m ho).N) (j : Fin 4) (k : Fin 1024) (f : Fin 512) : (iblk m ho c 2 t : Vec Ideal S1x4x1024x512 .bf16) (ix4 (0 : Fin 1) j k f)
    = (m ((c.tc : Thread nD τ).loc main_arg4) : Vec Ideal S4x4x1024x512 .bf16) (ix4 (tg m ho ⟨t.val, t.isLt⟩) j k f) := by
  show (V m c main_arg4 : Vec Ideal S4x4x1024x512 .bf16) _ = _
  rw [V_ne m c main_arg4 (by decide)]
  refine congrArg (m ((c.tc : Thread nD τ).loc main_arg4) : Vec Ideal S4x4x1024x512 .bf16) (funext fun a => Fin.ext ?_)
  match a with
  | ⟨0, _⟩ =>
    show ((pf m).at 0 (Rect.unit (s := S100) (k0_off1 (grid0.coords t)) S1.size _) numel1_S1).toNat * 1 + 1 * 0 = (tgW m _).toNat
    rw [at_eq]; omega
  | ⟨1, _⟩ => show 0 * 4 + 1 * j.val = j.val; omega
  | ⟨2, _⟩ => show 0 * 1024 + 1 * k.val = k.val; omega
  | ⟨3, _⟩ => show 0 * 512 + 1 * f.val = f.val; omega

theorem blk3 (c : Dev nD) (t : Fin (cfgA m ho).N) (j : Fin 4) (k : Fin 1024) (f : Fin 512) : (iblk m ho c 3 t : Vec Ideal S1x4x1024x512 .bf16) (ix4 (0 : Fin 1) j k f)
    = (m ((c.tc : Thread nD τ).loc main_arg5) : Vec Ideal S4x4x1024x512 .bf16) (ix4 (tg m ho ⟨t.val, t.isLt⟩) j k f) := by
  show (V m c main_arg5 : Vec Ideal S4x4x1024x512 .bf16) _ = _
  rw [V_ne m c main_arg5 (by decide)]
  refine congrArg (m ((c.tc : Thread nD τ).loc main_arg5) : Vec Ideal S4x4x1024x512 .bf16) (funext fun a => Fin.ext ?_)
  match a with
  | ⟨0, _⟩ =>
    show ((pf m).at 0 (Rect.unit (s := S100) (k0_off1 (grid0.coords t)) S1.size _) numel1_S1).toNat * 1 + 1 * 0 = (tgW m _).toNat
    rw [at_eq]; omega
  | ⟨1, _⟩ => show 0 * 4 + 1 * j.val = j.val; omega
  | ⟨2, _⟩ => show 0 * 1024 + 1 * k.val = k.val; omega
  | ⟨3, _⟩ => show 0 * 512 + 1 * f.val = f.val; omega

theorem blk4 (c : Dev nD) (t : Fin (cfgA m ho).N) (j : Fin 4) (f : Fin 512) (d : Fin 1024) : (iblk m ho c 4 t : Vec Ideal S1x4x512x1024 .bf16) (ix4 (0 : Fin 1) j f d)
    = (m ((c.tc : Thread nD τ).loc main_arg6) : Vec Ideal S4x4x512x1024 .bf16) (ix4 (tg m ho ⟨t.val, t.isLt⟩) j f d) := by
  show (V m c main_arg6 : Vec Ideal S4x4x512x1024 .bf16) _ = _
  rw [V_ne m c main_arg6 (by decide)]
  refine congrArg (m ((c.tc : Thread nD τ).loc main_arg6) : Vec Ideal S4x4x512x1024 .bf16) (funext fun a => Fin.ext ?_)
  match a with
  | ⟨0, _⟩ =>
    show ((pf m).at 0 (Rect.unit (s := S100) (k0_off1 (grid0.coords t)) S1.size _) numel1_S1).toNat * 1 + 1 * 0 = (tgW m _).toNat
    rw [at_eq]; omega
  | ⟨1, _⟩ => show 0 * 4 + 1 * j.val = j.val; omega
  | ⟨2, _⟩ => show 0 * 512 + 1 * f.val = f.val; omega
  | ⟨3, _⟩ => show 0 * 1024 + 1 * d.val = d.val; omega

/-- The reference's result, of the kernel's arguments. -/
def G (c : Dev nD) : Vec Ideal S51200x1024 .f32 :=
  Ref2.fin (m ((c.tc : Thread nD τ).loc main_arg3))
    (Ref2.yy (Ref2.tt (Ref2.rws (m ((c.tc : Thread nD τ).loc main_arg0)) (m ((c.tc : Thread nD τ).loc main_arg1))))
      (Ref2.cmb (Ref2.oh (m ((c.tc : Thread nD τ).loc main_arg2))) (Ref2.ew (Ref2.rws (m ((c.tc : Thread nD τ).loc main_arg0)) (m ((c.tc : Thread nD τ).loc main_arg1)))))
      (m ((c.tc : Thread nD τ).loc main_arg4)) (m ((c.tc : Thread nD τ).loc main_arg5)) (m ((c.tc : Thread nD τ).loc main_arg6)))

include ho in
/-- A word of a table is its number. -/
theorem src_eq (t : ℕ) (ht : t < 100) (p : Fin 512) :
    (srcW m (ix1 (⟨512 * t + p.val, by omega⟩ : Fin 51200))) = BitVec.ofNat 32 (wt m t p).val := by
  have e := wt_val m ho t ht p
  have e' : (ix1 (⟨512 * t + p.val, by omega⟩ : Fin 51200)) = (fun a => match a with | ⟨0, _⟩ => (⟨512 * t + p.val, by omega⟩ : Fin 51200) : S51200.Idx) :=
    funext fun a => match a with | ⟨0, _⟩ => rfl
  rw [e', ← e, BitVec.ofNat_toNat, BitVec.setWidth_eq]
  exact congrArg (srcW m) (funext fun a => match a with | ⟨0, _⟩ => rfl)

/-- One element of a point's block, of any rows, group and weights. -/
theorem outB_at (X : Vec Ideal S49152x1152 .f32) (N : ℕ) (w : Fin 512 → Fin 49152) (v : BitVec 32) (g : Fin 4) (hv : v = BitVec.ofNat 32 g.val)
    (Y6 Y7 : Vec Ideal S1x4x1024x512 .bf16) (Y8 : Vec Ideal S1x4x512x1024 .bf16) (t : ℕ) (p : Fin 512) (d : Fin 1024) :
    outB X N w v Y6 Y7 Y8 t (ix2 p d) = if t < N then
      ffn (fun k => X (ix2 (w p) (⟨k.val, by omega⟩ : Fin 1152))) (fun j => X (ix2 (w p) (⟨1028 + (g.val * 4 + j.val), by omega⟩ : Fin 1152)))
        (fun j k f => Y6 (ix4 (0 : Fin 1) j k f)) (fun j k f => Y7 (ix4 (0 : Fin 1) j k f)) (fun j f => Y8 (ix4 (0 : Fin 1) j f d)) else 0 := by
  subst hv
  unfold outB
  by_cases h : t < N
  · rw [if_pos h, if_pos h, tileB_at]
    have e1 : (fun k : Fin 1024 => rowsX X w (ix3 (0 : Fin 1) p k)) = fun k => X (ix2 (w p) (⟨k.val, by omega⟩ : Fin 1152)) :=
      funext fun k => congrArg X (funext fun a => match a with | ⟨0, _⟩ => rfl | ⟨1, _⟩ => rfl)
    have e2 : (fun j : Fin 4 => rowsC X w (ix3 (0 : Fin 1) p (⟨4 + (g.val * 4 + j.val), by omega⟩ : Fin 128)))
        = fun j => X (ix2 (w p) (⟨1028 + (g.val * 4 + j.val), by omega⟩ : Fin 1152)) :=
      funext fun j => congrArg X (funext fun a => match a with
        | ⟨0, _⟩ => rfl
        | ⟨1, _⟩ => Fin.ext (show 1024 + (4 + (g.val * 4 + j.val)) = 1028 + (g.val * 4 + j.val) by omega))
    rw [e1, e2]
  · rw [if_neg h, if_neg h, pay2_at]

/-- A point's block at the point's place in the reference's result, of any arguments. -/
theorem outB_eq_ref (X : Vec Ideal S49152x1152 .f32) (s : IVec S51200 32) (T : IVec S100 32) (n : IVec S1 32)
    (WG WU : Vec Ideal S4x4x1024x512 .bf16) (WD : Vec Ideal S4x4x512x1024 .bf16)
    (Y6 Y7 : Vec Ideal S1x4x1024x512 .bf16) (Y8 : Vec Ideal S1x4x512x1024 .bf16) (w : Fin 512 → Fin 49152) (g : Fin 4)
    (t : ℕ) (ht : t < 100) (p : Fin 512) (d : Fin 1024)
    (hs : s (ix1 (⟨512 * t + p.val, by omega⟩ : Fin 51200)) = BitVec.ofNat 32 (w p).val)
    (hT : T (ix1 (⟨t, ht⟩ : Fin 100)) = BitVec.ofNat 32 g.val) (hn : (n (ix1 (0 : Fin 1))).toNat ≤ 100)
    (h6 : ∀ j k f, Y6 (ix4 (0 : Fin 1) j k f) = WG (ix4 g j k f)) (h7 : ∀ j k f, Y7 (ix4 (0 : Fin 1) j k f) = WU (ix4 g j k f))
    (h8 : ∀ j f, Y8 (ix4 (0 : Fin 1) j f d) = WD (ix4 g j f d)) (N : ℕ) (hN : N = (n (ix1 (0 : Fin 1))).toNat)
    (v : BitVec 32) (hv : v = BitVec.ofNat 32 g.val) :
    outB X N w v Y6 Y7 Y8 t (ix2 p d) = Ref2.fin n (Ref2.yy (Ref2.tt (Ref2.rws X s)) (Ref2.cmb (Ref2.oh T) (Ref2.ew (Ref2.rws X s))) WG WU WD)
      (ix2 (⟨512 * t + p.val, by omega⟩ : Fin 51200) d) := by
  have hr : (512 * t + p.val) / 512 = t := by omega
  have e : (⟨(512 * t + p.val) / 512, by omega⟩ : Fin 100) = ⟨t, ht⟩ := Fin.ext hr
  rw [Ref2.ref_at X s T n WG WU WD (⟨512 * t + p.val, by omega⟩ : Fin 51200) d (w p) g hs ((congrArg (fun x => T (ix1 x)) e).trans hT) hn,
    outB_at X N w v g hv, hN]
  simp only [h6, h7, h8, hr]

/-- One element of the block of point `t`. -/
theorem outsAt_eq (c : Dev nD) (t : Fin (cfgA m ho).N) (ht : t.val < 100) (p : Fin 512) (d : Fin 1024) :
    outsAt m ho c t (ix2 p d) = G m c (ix2 (⟨512 * t.val + p.val, by omega⟩ : Fin 51200) d) := by
  obtain rfl : c = 0 := Subsingleton.elim _ _
  have hnv : nvW m = (m (((0 : Dev nD).tc : Thread nD τ).loc main_arg3) : IVec S1 32) (ix1 (0 : Fin 1)) :=
    congrArg (m (((0 : Dev nD).tc : Thread nD τ).loc main_arg3) : IVec S1 32) (funext fun a => match a with | ⟨0, _⟩ => rfl)
  have htg : tgW m (ix1 (⟨t.val, ht⟩ : Fin 100)) = BitVec.ofNat 32 (tg m ho ⟨t.val, ht⟩).val := by
    unfold tg; simp
  have hx : xc m 0 = m (((0 : Dev nD).tc : Thread nD τ).loc main_arg0) := V_ne m 0 main_arg0 (by decide)
  have hv : tgW m (fun a => match a with | ⟨0, _⟩ => (⟨t.val, t.isLt⟩ : Fin 100)) = BitVec.ofNat 32 (tg m ho ⟨t.val, ht⟩).val :=
    Eq.trans (congrArg (tgW m) (funext fun a => match a with | ⟨0, _⟩ => rfl)) htg
  have key := outB_eq_ref (xc m 0) (srcW m) (tgW m) (m (((0 : Dev nD).tc : Thread nD τ).loc main_arg3))
    (m (((0 : Dev nD).tc : Thread nD τ).loc main_arg4)) (m (((0 : Dev nD).tc : Thread nD τ).loc main_arg5)) (m (((0 : Dev nD).tc : Thread nD τ).loc main_arg6))
    (iblk m ho 0 2 t) (iblk m ho 0 3 t) (iblk m ho 0 4 t) (wt m t.val) (tg m ho ⟨t.val, ht⟩) t.val ht p d
    (src_eq m ho t.val ht p) htg (by rw [← hnv]; exact ho.hi)
    (fun j k f => blk2 m ho 0 t j k f) (fun j k f => blk3 m ho 0 t j k f) (fun j f => blk4 m ho 0 t j f d)
    (nvW m).toNat (congrArg BitVec.toNat hnv) _ hv
  rw [hx] at key
  exact key

/-- The blocks of the result cover it. -/
theorem cover (i : S51200x1024.Idx) : ∃ t : Fin (cfgA m ho).N, ((cfgA m ho).win (5 : Fin 6)).flush t = true ∧ i ∈ (((cfgA m ho).win (5 : Fin 6)).blk t).view.set := by
  have h0 : (i 0).val < 51200 := (i 0).isLt
  have h1 : (i 1).val < 1024 := (i 1).isLt
  let t : Fin grid0.N := ⟨(i 0).val / 512, by show _ < 100; omega⟩
  refine ⟨t, flush5 _, (((cfgA m ho).win (5 : Fin 6)).emb_mem_blk_iff t i rfl).mpr fun a => ?_⟩
  have e := transform_6_eq (grid0.coords t)
  rw [coords_val] at e
  match a with
  | ⟨0, _⟩ =>
    show cc0_transform_6 (grid0.coords t) 0 * 512 ≤ (i 0).val ∧ (i 0).val < cc0_transform_6 (grid0.coords t) 0 * 512 + 512
    rw [e]
    show (i 0).val / 512 * 512 ≤ (i 0).val ∧ (i 0).val < (i 0).val / 512 * 512 + 512
    omega
  | ⟨1, _⟩ =>
    show cc0_transform_6 (grid0.coords t) 1 * 1024 ≤ (i 1).val ∧ (i 1).val < cc0_transform_6 (grid0.coords t) 1 * 1024 + 1024
    rw [e]
    show 0 * 1024 ≤ (i 1).val ∧ (i 1).val < 0 * 1024 + 1024
    omega

/-- The result array after the run. -/
theorem arr_eq (c : Dev nD) : (dats m ho 0 c).arrAt (5 : Fin 6) (cfgA m ho).N = G m c := by
  refine (dats m ho 0 c).arrAt_eq_of_emb (5 : Fin 6) _ (fun t hf y => ?_) (cover m ho)
  blk_simp
  rw [after0_5]
  have e := transform_6_eq (grid0.coords t)
  rw [coords_val] at e
  have ht : t.val < 100 := t.isLt
  have hp : (y 0).val < 512 := (y 0).isLt
  have hd : (y 1).val < 1024 := (y 1).isLt
  have hy : y = (ix2 (⟨(y 0).val, hp⟩ : Fin 512) (⟨(y 1).val, hd⟩ : Fin 1024) : S512x1024.Idx) :=
    funext fun a => match a with | ⟨0, _⟩ => rfl | ⟨1, _⟩ => rfl
  refine (congrArg (outsAt m ho c t) hy).trans ((outsAt_eq m ho c t ht _ _).trans (congrArg (G m c) (funext fun a => Fin.ext ?_)))
  match a with
  | ⟨0, _⟩ =>
    show 512 * t.val + (y 0).val = cc0_transform_6 (grid0.coords t) 0 * 512 + 1 * (y 0).val
    rw [e]
    show 512 * t.val + (y 0).val = t.val * 512 + 1 * (y 0).val
    omega
  | ⟨1, _⟩ =>
    show (y 1).val = cc0_transform_6 (grid0.coords t) 1 * 1024 + 1 * (y 1).val
    rw [e]
    show (y 1).val = 0 * 1024 + 1 * (y 1).val
    omega

end

end Cert.Proof.Kernel2Ideal

end
-- ==== Proof.V3.Tab.lean ====
/-
  The table of row blocks that the projection's third window reads, and the frame it admits.
-/
module

public import proofs.«01_k».proof.Proof.Gen.Kernel3Ideal.Frame

@[expose] public section

set_option maxRecDepth 16384

noncomputable section

namespace Cert.Proof.Kernel3Ideal

open Cert.Kernel3Ideal Cert.Kernel3Ideal.Gen
open Idealize.ShloMosaic Idealize.ShloMosaic.TcCoe

variable {F : FTy → Type} [FloatOps F] (m : (ℓ : Loc nD τ sig) → Buf (Elt F) ℓ)

/-- The table is the constant that the program starts from. -/
theorem tbl_eq : (tbl m 0 : IVec S48 32) = fun i => lit0 (S48.rowMajor i) := by
  show (V m (0 : Dev nD) main_c : IVec S48 32) = _
  dsimp only [V, hostOps0]
  after_results
  rfl

theorem lit_le : ∀ n : Fin 48, (lit0 n).toNat ≤ 7 := by decide +kernel

/-- A table of words below eight keeps every block of the rotation table inside it. -/
theorem ok0_of_le (pf : pre0.Contents (Elt F)) (h : ∀ j : S48.Idx, BitVec.toNat (pf 0 j) ≤ 7) : ok0 pf := by
  intro i
  refine ⟨fun a => ?_, Or.inl rfl⟩
  match a with
  | ⟨0, _⟩ => show (0 + 1) * 3 ≤ 3; omega
  | ⟨1, _⟩ => exact (fun n hn => by omega : ∀ n : ℕ, n ≤ 7 → (n + 1) * 1024 ≤ 8192) _ (h _)
  | ⟨2, _⟩ => show (0 + 1) * 128 ≤ 128; omega

theorem ok : Ok m := ok0_of_le _ fun j => by
  rw [tbl_eq]
  exact lit_le _

end Cert.Proof.Kernel3Ideal
-- ==== Proof.V3.Def.lean ====
/-
  One result of the projection, as a number: a product column, scaled in the queries, rotated in the queries and keys.
-/
module

public import Idealize.ShloMosaic.Lib.Pointwise

@[expose] public section

noncomputable section

namespace Cert.Proof.Proj

open Idealize.ShloMosaic Idealize.ShloMosaic.TcCoe

/-- The eight frequencies of the rotation. -/
def inv : FVec Ideal ⟨1, ![8]⟩ .f32 :=
  Host.powf (fun _ => Ideal.ofBits .f32 0x48F42400#32) (mulf (Host.negf (sitofp .f32 (iotaInDim ⟨1, ![8]⟩ 32 0))) (fun _ => Ideal.ofBits .f32 0x3E000000#32))
/-- A position as a number. -/
def pos (n : ℕ) : EReal := (((BitVec.ofNat 32 n).toInt : ℝ) : EReal)
/-- Cosine and sine of frequency `j` at position `p`. -/
def cs (p : ℕ) (j : Fin 8) : EReal := Ideal.cos (pos p * inv (ix1 j))
def sn (p : ℕ) (j : Fin 8) : EReal := Ideal.sin (pos p * inv (ix1 j))
/-- The scale of the scores. -/
def qs : EReal := Ideal.ofBits .f32 0x3E38AA3B#32
/-- Row `x` times column `n` of `w`. -/
def col (x : Fin 1024 → EReal) (w : Fin 1024 → Fin 3072 → EReal) (n : Fin 3072) : EReal := ∑ k : Fin 1024, x k * w k n
/-- The same, times the scale in the queries' columns. -/
def scol (x : Fin 1024 → EReal) (w : Fin 1024 → Fin 3072 → EReal) (n : Fin 3072) : EReal :=
  if n.val < 1024 then col x w n * qs else col x w n
/-- Values `z` by column, rotated at position `p` in the columns of the queries and keys. -/
def rot (z : Fin 3072 → EReal) (p : ℕ) (n : Fin 3072) : EReal :=
  if h : n.val < 2048 ∧ n.val % 64 < 8 then
    z n * cs p ⟨n.val % 64, h.2⟩ - z ⟨n.val + 8, by omega⟩ * sn p ⟨n.val % 64, h.2⟩
  else if h : n.val < 2048 ∧ n.val % 64 < 16 then
    z n * cs p ⟨n.val % 64 - 8, by omega⟩ + z ⟨n.val - 8, by omega⟩ * sn p ⟨n.val % 64 - 8, by omega⟩
  else z n
/-- The position of a row in its sequence: the longer sequences' rows come first. -/
def posOf (r : ℕ) : ℕ := if r < 32768 then r % 8192 else r % 4096

end Cert.Proof.Proj
-- ==== Proof.V3.Rope.lean ====
/-
  The rotation tables that the projection's host code prepares, read at an index.
-/
module

public import proofs.«01_k».proof.Proof.V3.Tab
public import proofs.«01_k».proof.Proof.V3.Def
public import Idealize.ShloMosaic.Lib.IdealHost

@[expose] public section

set_option maxRecDepth 16384

noncomputable section

namespace Cert.Proof.Kernel3Ideal

open Cert.Kernel3Ideal Cert.Kernel3Ideal.Gen
open Idealize.ShloMosaic Idealize.ShloMosaic.TcCoe
open Cert.Proof (Proj.pos Proj.inv Proj.cs Proj.sn)

/-- The frequencies and the angles. -/
def iv : FVec Ideal S8 .f32 :=
  Host.powf (broadcastInDim S8 ![] bcast_S_S8 (constant S_ .f32 0x48F42400#32))
    (mulf (Host.negf (sitofp .f32 (iotaInDim S8 32 0))) (broadcastInDim S8 ![] bcast_S_S8 (constant S_ .f32 0x3E000000#32)))
def an (f : FVec Ideal S8 .f32) : FVec Ideal S8192x8 .f32 :=
  mulf (broadcastInDim S8192x8 ![0, 1] bcast_S8192x1_S8192x8_0_1 (broadcastInDim S8192x1 ![0] bcast_S8192_S8192x1_0 (sitofp .f32 (iotaInDim S8192 32 0))))
    (broadcastInDim S8192x8 ![0, 1] bcast_S1x8_S8192x8_0_1 (broadcastInDim S1x8 ![1] bcast_S8_S1x8_1 f))
/-- A number in every place of a table. -/
def k8 (b : BitVec 32) : FVec Ideal S8192x8 .f32 := broadcastInDim S8192x8 ![] bcast_S_S8192x8 (constant S_ .f32 b)
def k48 (b : BitVec 32) : FVec Ideal S8192x48 .f32 := broadcastInDim S8192x48 ![] bcast_S_S8192x48 (constant S_ .f32 b)
/-- One head's row: two runs of eight lanes, then the rest. -/
def row (a b : FVec Ideal S8192x8 .f32) (c : FVec Ideal S8192x48 .f32) : FVec Ideal S8192x64 .f32 :=
  concatenate S8192x64 1 [⟨S8192x8, a⟩, ⟨S8192x8, b⟩, ⟨S8192x48, c⟩] concatenates_S8192x8_S8192x8_S8192x48_S8192x64_d1
/-- Two heads side by side, as one plane of the stack. -/
def pln (x : FVec Ideal S8192x64 .f32) : FVec Ideal S1x8192x128 .f32 :=
  broadcastInDim S1x8192x128 ![1, 2] bcast_S8192x128_S1x8192x128_1_2 (shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128)
/-- The stack of three planes. -/
def st (a b c : FVec Ideal S1x8192x128 .f32) : FVec Ideal S3x8192x128 .f32 :=
  concatenate S3x8192x128 0 [⟨S1x8192x128, a⟩, ⟨S1x8192x128, b⟩, ⟨S1x8192x128, c⟩] concatenates_S1x8192x128_S1x8192x128_S1x8192x128_S3x8192x128_d0
/-- The tables: cosines, sines for the lanes above, sines with their sign for the lanes below. -/
def tabs : FVec Ideal S3x8192x128 .f32 :=
  st (pln (row (Host.cos (an iv)) (Host.cos (an iv)) (k48 0x3F800000#32))) (pln (row (k8 0x00000000#32) (Host.sin (an iv)) (k48 0x00000000#32)))
    (pln (row (Host.negf (Host.sin (an iv))) (k8 0x00000000#32) (k48 0x00000000#32)))

set_option maxHeartbeats 4000000 in
theorem V_tabs (m : (ℓ : Loc nD τ sig) → Buf (Elt Ideal) ℓ) (c : Dev nD) : (V m c main_v33 : FVec Ideal S3x8192x128 .f32) = tabs := by
  dsimp only [V, hostOps0]
  after_results
  rfl

theorem an_at (f : FVec Ideal S8 .f32) (p : Fin 8192) (j : Fin 8) : an f (ix2 p j) = Proj.pos p.val * f (ix1 j) := by
  pointwise [an]
  rfl
theorem k8_at (b : BitVec 32) (p : Fin 8192) (j : Fin 8) : k8 b (ix2 p j) = Ideal.ofBits .f32 b := by
  pointwise [k8]
theorem k48_at (b : BitVec 32) (p : Fin 8192) (j : Fin 48) : k48 b (ix2 p j) = Ideal.ofBits .f32 b := by
  pointwise [k48]
theorem row_at (a b : FVec Ideal S8192x8 .f32) (c : FVec Ideal S8192x48 .f32) (p : Fin 8192) (l : Fin 64) :
    row a b c (ix2 p l) = if h : l.val < 8 then a (ix2 p ⟨l.val, h⟩) else if h : l.val - 8 < 8 then b (ix2 p ⟨l.val - 8, h⟩) else c (ix2 p ⟨l.val - 8 - 8, by omega⟩) := by
  pointwise [row]
theorem pln_at (x : FVec Ideal S8192x64 .f32) (p : Fin 8192) (l : Fin 128) : pln x (ix3 (0 : Fin 1) p l) = x (ix2 p (⟨l.val % 64, by omega⟩ : Fin 64)) := by
  pointwise [pln]
theorem st_at (a b c : FVec Ideal S1x8192x128 .f32) (i : Fin 3) (p : Fin 8192) (l : Fin 128) :
    st a b c (ix3 i p l) = (if i.val = 0 then a else if i.val = 1 then b else c) (ix3 (0 : Fin 1) p l) := by
  match i with
  | ⟨0, _⟩ => pointwise [st]
  | ⟨1, _⟩ => pointwise [st]
  | ⟨2, _⟩ => pointwise [st]

theorem cos_at (p : Fin 8192) (j : Fin 8) : Host.cos (an iv) (ix2 p j) = Proj.cs p.val j := by
  show Ideal.cos (an iv (ix2 p j)) = _
  rw [an_at]
  rfl
theorem sin_at (p : Fin 8192) (j : Fin 8) : Host.sin (an iv) (ix2 p j) = Proj.sn p.val j := by
  show Ideal.sin (an iv (ix2 p j)) = _
  rw [an_at]
  rfl

theorem one : Ideal.ofBits .f32 0x3F800000#32 = 1 := by simp
theorem zero : Ideal.ofBits .f32 0x00000000#32 = 0 := by simp

/-- The tables by lane. -/
theorem tab0 (p : Fin 8192) (l : Fin 128) : tabs (ix3 (0 : Fin 3) p l) =
    if h : l.val % 64 < 8 then Proj.cs p.val ⟨l.val % 64, h⟩ else if h : l.val % 64 - 8 < 8 then Proj.cs p.val ⟨l.val % 64 - 8, h⟩ else 1 := by
  unfold tabs
  rw [st_at, if_pos (by rfl), pln_at, row_at]
  simp only [cos_at, k48_at, one]
theorem tab1 (p : Fin 8192) (l : Fin 128) : tabs (ix3 (1 : Fin 3) p l) =
    if l.val % 64 < 8 then 0 else if h : l.val % 64 - 8 < 8 then Proj.sn p.val ⟨l.val % 64 - 8, h⟩ else 0 := by
  unfold tabs
  rw [st_at, if_neg (by decide), if_pos (by rfl), pln_at, row_at]
  simp only [sin_at, k48_at, k8_at, zero, dite_eq_ite]
theorem tab2 (p : Fin 8192) (l : Fin 128) : tabs (ix3 (2 : Fin 3) p l) =
    if h : l.val % 64 < 8 then -Proj.sn p.val ⟨l.val % 64, h⟩ else 0 := by
  unfold tabs
  rw [st_at, if_neg (by decide), if_neg (by decide), pln_at, row_at]
  have e : ∀ j : Fin 8, Host.negf (Host.sin (an iv)) (ix2 p j) = -Proj.sn p.val j := fun j => congrArg (fun x : EReal => -x) (sin_at p j)
  simp only [e, k48_at, k8_at, zero, dite_eq_ite, ite_self]

/-- A value and its neighbours eight lanes away, weighted by the tables, are the rotation. -/
theorem rot_of_tabs (z : Fin 3072 → EReal) (p : Fin 8192) (n n' n'' : Fin 3072) (l : Fin 128) (hn : n.val < 2048) (hl : n.val % 128 = l.val)
    (h' : n'.val = n.val - l.val + (l.val + 120) % 128) (h'' : n''.val = n.val - l.val + (l.val + 8) % 128) :
    z n * tabs (ix3 (0 : Fin 3) p l) + z n' * tabs (ix3 (1 : Fin 3) p l) + z n'' * tabs (ix3 (2 : Fin 3) p l) = Proj.rot z p.val n := by
  have e : l.val % 64 = n.val % 64 := by omega
  rw [tab0, tab1, tab2]
  simp only [e]
  unfold Proj.rot
  by_cases h1 : n.val % 64 < 8
  · rw [dif_pos h1, if_pos h1, dif_pos h1, dif_pos ⟨hn, h1⟩, mul_zero, add_zero, mul_neg, sub_eq_add_neg,
      show n'' = ⟨n.val + 8, by omega⟩ from Fin.ext (by show n''.val = n.val + 8; omega)]
  · by_cases h2 : n.val % 64 < 16
    · have h3 : n.val % 64 - 8 < 8 := by omega
      rw [dif_neg h1, dif_pos h3, if_neg h1, dif_pos h3, dif_neg h1, dif_neg (fun h => h1 h.2), dif_pos ⟨hn, h2⟩, mul_zero, add_zero,
        show n' = ⟨n.val - 8, by omega⟩ from Fin.ext (by show n'.val = n.val - 8; omega)]
    · have h3 : ¬ n.val % 64 - 8 < 8 := by omega
      rw [dif_neg h1, dif_neg h3, if_neg h1, dif_neg h3, dif_neg h1, dif_neg (fun h => h1 h.2), dif_neg (fun h => h2 h.2), mul_zero, mul_zero, add_zero, add_zero, mul_one]

end Cert.Proof.Kernel3Ideal
-- ==== Proof.V3.Ker.lean ====
/-
  What the projection's body leaves of a block: every tile of 128 columns is the rotation of the product's columns.
-/
module

public import proofs.«01_k».proof.Proof.V3.Rope
public import Idealize.ShloMosaic.Lib.Writes
public import Idealize.ShloMosaic.Lib.WholeRead

@[expose] public section

set_option maxRecDepth 16384

noncomputable section

namespace Cert.Proof.Kernel3Ideal

open Cert.Kernel3Ideal Cert.Kernel3Ideal.Gen
open Idealize.ShloMosaic Idealize.ShloMosaic.TcCoe
open Cert.Proof (Proj.col Proj.scol Proj.rot Proj.qs)

/-! ## The steps of a tile -/

/-- The product of the rows and 256 columns of the weights, and its scaling. -/
def mm (x : Vec Ideal S1024x1024 .bf16) (w : Vec Ideal S1024x256 .bf16) : FVec Ideal S1024x256 .f32 :=
  matmul (φ₁ := .bf16) (φ₂ := .bf16) dot_S1024x1024_S1024x256_S1024x256_1_0_0_1_n_n none x w (constant S1024x256 .f32 0x00000000#32)
def scl (u : FVec Ideal S1024x256 .f32) : FVec Ideal S1024x256 .f32 := mulf u (broadcast S1024x256 (Scalar.ofBits .f32 0x3E38AA3B#32))
/-- 128 of the 256 columns. -/
def half (o : ℕ) (h : S1024x256.Slices ![0, o] S1024x128) (u : FVec Ideal S1024x256 .f32) : FVec Ideal S1024x128 .f32 := extractStridedSlice S1024x128 ![0, o] u h
/-- A plane of the tables. -/
def pl (v : Vec Ideal S1x1024x128 .f32) : FVec Ideal S1024x128 .f32 := shapeCast S1024x128 v shapeCasts_S1x1024x128_S1024x128
/-- The tile and its two shifts along the lanes, weighted. -/
def rt (y a b c : FVec Ideal S1024x128 .f32) : FVec Ideal S1024x128 .f32 :=
  addf (addf (mulf y a) (mulf (dynamicRotate 1 8#32 none y rotates_S1024x128_d1) b)) (mulf (dynamicRotate 1 120#32 none y rotates_S1024x128_d1) c)
/-- The tile as it is stored. -/
def put (y : FVec Ideal S1024x128 .f32) : FVec Ideal S1x1024x128 .bf16 := shapeCast S1x1024x128 (truncf .bf16 y bitsLt_bf16_f32) shapeCasts_S1024x128_S1x1024x128

theorem mm_at (x : Vec Ideal S1024x1024 .bf16) (w : Vec Ideal S1024x256 .bf16) (p : Fin 1024) (n : Fin 256) : mm x w (ix2 p n) = ∑ k : Fin 1024, x (ix2 p k) * w (ix2 k n) := by
  pointwise [mm]
theorem scl_at (u : FVec Ideal S1024x256 .f32) (p : Fin 1024) (n : Fin 256) : scl u (ix2 p n) = u (ix2 p n) * Proj.qs := by
  pointwise [scl]
  rfl
theorem half_at (o : ℕ) (ho : o + 128 ≤ 256) (h) (u : FVec Ideal S1024x256 .f32) (p : Fin 1024) (l : Fin 128) :
    half o h u (ix2 p l) = u (ix2 p (⟨o + l.val, by omega⟩ : Fin 256)) := by
  pointwise [half]
theorem pl_at (v : Vec Ideal S1x1024x128 .f32) (p : Fin 1024) (l : Fin 128) : pl v (ix2 p l) = v (ix3 (0 : Fin 1) p l) := by
  pointwise [pl]
theorem rt_at (y a b c : FVec Ideal S1024x128 .f32) (p : Fin 1024) (l : Fin 128) :
    rt y a b c (ix2 p l) = y (ix2 p l) * a (ix2 p l) + y (ix2 p (⟨(l.val + 128 - 8) % 128, by omega⟩ : Fin 128)) * b (ix2 p l)
      + y (ix2 p (⟨(l.val + 128 - 120) % 128, by omega⟩ : Fin 128)) * c (ix2 p l) := by
  pointwise [rt]
theorem put_at (y : FVec Ideal S1024x128 .f32) (p : Fin 1024) (l : Fin 128) : put y (ix3 (0 : Fin 1) p l) = y (ix2 p l) := by
  pointwise [put]

/-! ## A tile's values -/

/-- The block's values, of its rows `x`, the weights `w` and the rows' positions. -/
def blkG (x : Vec Ideal S1024x1024 .bf16) (w : Vec Ideal S1024x3072 .bf16) (P : Fin 1024 → Fin 8192) : Vec Ideal S1x1024x3072 .bf16 :=
  fun y => Proj.rot (Proj.scol (fun k => x (ix2 (y 1) k)) (fun k n => w (ix2 k n))) (P (y 1)).val (y 2)

section
variable {X : Vec Ideal S1024x1024 .bf16} (w : Vec Ideal S1024x3072 .bf16) (x : Vec Ideal S1024x1024 .bf16) (ws : Vec Ideal S1024x256 .bf16)
  (v1 v3 v5 : Vec Ideal S1x1024x128 .f32) (P : Fin 1024 → Fin 8192)

/-- A column of the product is the whole product's. -/
theorem mm_col (b : ℕ) (hb : b + 256 ≤ 3072) (hx : x = X) (hw : ∀ (k : Fin 1024) (n : Fin 256), ws (ix2 k n) = w (ix2 k (⟨b + n.val, by omega⟩ : Fin 3072)))
    (p : Fin 1024) (n : Fin 256) : mm x ws (ix2 p n) = Proj.col (fun k => X (ix2 p k)) (fun k n => w (ix2 k n)) ⟨b + n.val, by omega⟩ := by
  subst hx
  rw [mm_at]
  exact Finset.sum_congr rfl fun k _ => by rw [hw]

/-- A tile of values by column, rotated by the planes of the tables. -/
theorem rt_rot (q : ℕ) (z : Fin 3072 → EReal) (y : FVec Ideal S1024x128 .f32) (p : Fin 1024) (hq : q + 128 ≤ 2048) (hm : q % 128 = 0)
    (hy : ∀ l : Fin 128, y (ix2 p l) = z ⟨q + l.val, by omega⟩)
    (h0 : ∀ (p : Fin 1024) (l : Fin 128), v1 (ix3 (0 : Fin 1) p l) = tabs (ix3 (0 : Fin 3) (P p) l))
    (h1 : ∀ (p : Fin 1024) (l : Fin 128), v3 (ix3 (0 : Fin 1) p l) = tabs (ix3 (1 : Fin 3) (P p) l))
    (h2 : ∀ (p : Fin 1024) (l : Fin 128), v5 (ix3 (0 : Fin 1) p l) = tabs (ix3 (2 : Fin 3) (P p) l)) (l : Fin 128) :
    rt y (pl v1) (pl v3) (pl v5) (ix2 p l) = Proj.rot z (P p).val ⟨q + l.val, by omega⟩ := by
  rw [rt_at, pl_at, pl_at, pl_at, h0, h1, h2, hy, hy, hy]
  exact rot_of_tabs z (P p) ⟨q + l.val, by omega⟩ _ _ l (by show q + l.val < 2048; omega) (by show (q + l.val) % 128 = l.val; omega)
    (by show q + (l.val + 128 - 8) % 128 = q + l.val - l.val + (l.val + 120) % 128; omega) (by show q + (l.val + 128 - 120) % 128 = q + l.val - l.val + (l.val + 8) % 128; omega)

variable (X) in
/-- The tile `y` holds the rotated columns from `q` on. -/
def Tile (q : ℕ) (y : FVec Ideal S1024x128 .f32) : Prop :=
  ∃ hq : q + 128 ≤ 3072, ∀ (p : Fin 1024) (l : Fin 128), y (ix2 p l) = Proj.rot (Proj.scol (fun k => X (ix2 p k)) (fun k n => w (ix2 k n))) (P p).val ⟨q + l.val, by omega⟩

/-- A stored tile's value at its place in the block. -/
theorem put_emb (q : ℕ) (y : FVec Ideal S1024x128 .f32) (h : Tile X w P q y) (hr : ∀ a, ![0, 0, q] a + ![1, 1024, 128] a ≤ S1x1024x3072.size a)
    (j : S1x1024x128.Idx) : put y j = blkG X w P ((Rect.unit (s := S1x1024x3072) ![0, 0, q] ![1, 1024, 128] hr).emb j) := by
  obtain ⟨hq, h⟩ := h
  have h0 : (j 0).val < 1 := (j 0).isLt
  have h1 : (j 1).val < 1024 := (j 1).isLt
  have h2 : (j 2).val < 128 := (j 2).isLt
  have hj : j = (ix3 (0 : Fin 1) (⟨(j 1).val, h1⟩ : Fin 1024) (⟨(j 2).val, h2⟩ : Fin 128) : S1x1024x128.Idx) :=
    funext fun a => match a with | ⟨0, _⟩ => Fin.ext (show (j 0).val = 0 by omega) | ⟨1, _⟩ => rfl | ⟨2, _⟩ => rfl
  refine (congrArg (put y) hj).trans ((put_at y _ _).trans ((h _ _).trans ?_))
  have e : (ix3 (0 : Fin 1) (⟨(j 1).val, h1⟩ : Fin 1024) (⟨q + (j 2).val, by omega⟩ : Fin 3072) : S1x1024x3072.Idx)
      = (Rect.unit (s := S1x1024x3072) ![0, 0, q] ![1, 1024, 128] hr).emb j := funext fun a => match a with
    | ⟨0, _⟩ => Fin.ext (show 0 = 0 + 1 * (j 0).val by omega)
    | ⟨1, _⟩ => Fin.ext (show (j 1).val = 0 + 1 * (j 1).val by omega)
    | ⟨2, _⟩ => Fin.ext (show q + (j 2).val = q + 1 * (j 2).val by omega)
  exact congrArg (blkG X w P) e

/-- A tile of the queries. -/
theorem tileS (b o q : ℕ) (hq : b + o = q) (hb : b + 256 ≤ 3072) (ho : o + 128 ≤ 256) (hm : q % 128 = 0) (hr : q + 128 ≤ 1024) (hx : x = X)
    (hw : ∀ (k : Fin 1024) (n : Fin 256), ws (ix2 k n) = w (ix2 k (⟨b + n.val, by omega⟩ : Fin 3072)))
    (h0 : ∀ (p : Fin 1024) (l : Fin 128), v1 (ix3 (0 : Fin 1) p l) = tabs (ix3 (0 : Fin 3) (P p) l))
    (h1 : ∀ (p : Fin 1024) (l : Fin 128), v3 (ix3 (0 : Fin 1) p l) = tabs (ix3 (1 : Fin 3) (P p) l))
    (h2 : ∀ (p : Fin 1024) (l : Fin 128), v5 (ix3 (0 : Fin 1) p l) = tabs (ix3 (2 : Fin 3) (P p) l)) (hs) : Tile X w P q (rt (half o hs (scl (mm x ws))) (pl v1) (pl v3) (pl v5)) := by
  subst hq
  refine ⟨by omega, fun p l => rt_rot v1 v3 v5 P _ _ _ p (by omega) hm (fun l => ?_) h0 h1 h2 l⟩
  rw [half_at o ho, scl_at, mm_col w x ws b hb hx hw]
  unfold Proj.scol
  rw [if_pos (show b + o + l.val < 1024 by omega)]
  exact congrArg (fun n => Proj.col _ _ n * Proj.qs) (Fin.ext (Nat.add_assoc b o l.val).symm)

/-- A tile of the keys. -/
theorem tileK (b o q : ℕ) (hq : b + o = q) (hb : b + 256 ≤ 3072) (ho : o + 128 ≤ 256) (hm : q % 128 = 0) (hr : q + 128 ≤ 2048) (hr' : 1024 ≤ q) (hx : x = X)
    (hw : ∀ (k : Fin 1024) (n : Fin 256), ws (ix2 k n) = w (ix2 k (⟨b + n.val, by omega⟩ : Fin 3072)))
    (h0 : ∀ (p : Fin 1024) (l : Fin 128), v1 (ix3 (0 : Fin 1) p l) = tabs (ix3 (0 : Fin 3) (P p) l))
    (h1 : ∀ (p : Fin 1024) (l : Fin 128), v3 (ix3 (0 : Fin 1) p l) = tabs (ix3 (1 : Fin 3) (P p) l))
    (h2 : ∀ (p : Fin 1024) (l : Fin 128), v5 (ix3 (0 : Fin 1) p l) = tabs (ix3 (2 : Fin 3) (P p) l)) (hs) : Tile X w P q (rt (half o hs (mm x ws)) (pl v1) (pl v3) (pl v5)) := by
  subst hq
  refine ⟨by omega, fun p l => rt_rot v1 v3 v5 P _ _ _ p (by omega) hm (fun l => ?_) h0 h1 h2 l⟩
  rw [half_at o ho, mm_col w x ws b hb hx hw]
  unfold Proj.scol
  rw [if_neg (show ¬ b + o + l.val < 1024 by omega)]
  exact congrArg (fun n => Proj.col _ _ n) (Fin.ext (Nat.add_assoc b o l.val).symm)

/-- A tile of the values. -/
theorem tileV (b o q : ℕ) (hq : b + o = q) (hb : b + 256 ≤ 3072) (ho : o + 128 ≤ 256) (hr : q + 128 ≤ 3072) (hr' : 2048 ≤ q) (hx : x = X)
    (hw : ∀ (k : Fin 1024) (n : Fin 256), ws (ix2 k n) = w (ix2 k (⟨b + n.val, by omega⟩ : Fin 3072))) (hs) : Tile X w P q (half o hs (mm x ws)) := by
  subst hq
  refine ⟨by omega, fun p l => ?_⟩
  rw [half_at o ho, mm_col w x ws b hb hx hw]
  unfold Proj.rot Proj.scol
  have h1 : ¬ b + o + l.val < 2048 := by omega
  rw [dif_neg fun h => h1 h.1, dif_neg fun h => h1 h.1, if_neg (show ¬ b + o + l.val < 1024 by omega)]
  exact congrArg (fun n => Proj.col _ _ n) (Fin.ext (Nat.add_assoc b o l.val).symm)

end

/-! ## The loads -/

theorem ld_x {σ : RefSig} (arg2 : Memref σ .tc .vmem S1024x1024 .bf16) (h : arg2.IsWhole) (x0 : Vec Ideal S1024x1024 .bf16) (hi) :
    View.readAt (Elt Ideal) arg2.view (Rect.unit (s := S1024x1024) ![0, 0] ![1024, 1024] hi).toLoadRect (h.unread x0) = x0 := by
  funext j
  rw [h.readAt_unread]
  exact congrArg x0 (funext fun a => match a with
    | ⟨0, _⟩ => Fin.ext (show 0 + 1 * (j 0).val = (j 0).val by omega)
    | ⟨1, _⟩ => Fin.ext (show 0 + 1 * (j 1).val = (j 1).val by omega))

theorem ld_w {σ : RefSig} (arg3 : Memref σ .tc .vmem S1024x3072 .bf16) (h : arg3.IsWhole) (x1 : Vec Ideal S1024x3072 .bf16) (b : ℕ) (hb : b + 256 ≤ 3072) (hi) (k : Fin 1024) (n : Fin 256) :
    (View.readAt (Elt Ideal) arg3.view (Rect.unit (s := S1024x3072) ![0, b] ![1024, 256] hi).toLoadRect (h.unread x1) : Vec Ideal S1024x256 .bf16) (ix2 k n)
      = x1 (ix2 k (⟨b + n.val, by omega⟩ : Fin 3072)) := by
  rw [h.readAt_unread]
  exact congrArg x1 (funext fun a => match a with
    | ⟨0, _⟩ => Fin.ext (show 0 + 1 * k.val = k.val by omega)
    | ⟨1, _⟩ => Fin.ext (show b + 1 * n.val = b + n.val by omega))

theorem ld_t {σ : RefSig} (arg4 : Memref σ .tc .vmem S3x1024x128 .f32) (h : arg4.IsWhole) (x2 : Vec Ideal S3x1024x128 .f32) (i : Fin 3) (hi) (p : Fin 1024) (l : Fin 128) :
    (View.readAt (Elt Ideal) arg4.view (Rect.unit (s := S3x1024x128) ![i.val, 0, 0] ![1, 1024, 128] hi).toLoadRect (h.unread x2) : Vec Ideal S1x1024x128 .f32) (ix3 (0 : Fin 1) p l)
      = x2 (ix3 i p l) := by
  rw [h.readAt_unread]
  exact congrArg x2 (funext fun a => match a with
    | ⟨0, _⟩ => Fin.ext (show i.val + 1 * 0 = i.val by omega)
    | ⟨1, _⟩ => Fin.ext (show 0 + 1 * p.val = p.val by omega)
    | ⟨2, _⟩ => Fin.ext (show 0 + 1 * l.val = l.val by omega))

set_option maxHeartbeats 4000000 in
/-- The block that the body leaves, of a block of rows, the weights and the tables' rows at positions `P`. -/
theorem out_eq (c : Dev nD) (i : grid0.Coords) (arg2 : Memref sig .tc .vmem S1024x1024 .bf16) (harg2 : arg2.IsWhole) (arg3 : Memref sig .tc .vmem S1024x3072 .bf16) (harg3 : arg3.IsWhole) (arg4 : Memref sig .tc .vmem S3x1024x128 .f32) (harg4 : arg4.IsWhole)
    (arg5 : Memref sig .tc .vmem S1x1024x3072 .bf16) (harg5 : arg5.IsWhole) (arg6 : Memref sig .tc .vmem S4x1024x128 .f32) (harg6 : arg6.IsWhole) (arg7 : Memref sig .tc .vmem S2x4x256x128 .f32) (harg7 : arg7.IsWhole)
    (x0 : Vec Ideal S1024x1024 .bf16) (x1 : Vec Ideal S1024x3072 .bf16) (x2 : Vec Ideal S3x1024x128 .f32) (xt0 : TbBuf0 (F := Ideal) c tbM0_0)
    (P : Fin 1024 → Fin 8192) (hT : ∀ (i : Fin 3) (p : Fin 1024) (l : Fin 128), x2 (ix3 i p l) = tabs (ix3 i (P p) l)) (y : S1x1024x3072.Idx) :
    out0_A_3 (F := Ideal) c i arg2 harg2 arg3 harg3 arg4 harg4 arg5 harg5 arg6 harg6 arg7 harg7 x0 x1 x2 xt0 y = blkG x0 x1 P y := by
  have hx := ld_x arg2 harg2 x0
  have hw := ld_w arg3 harg3 x1
  have h0 := fun hi p l => (ld_t arg4 harg4 x2 0 hi p l).trans (hT 0 p l)
  have h1 := fun hi p l => (ld_t arg4 harg4 x2 1 hi p l).trans (hT 1 p l)
  have h2 := fun hi p l => (ld_t arg4 harg4 x2 2 hi p l).trans (hT 2 p l)
  unfold out0_A_3
  refine View.read_writes_apply_of_pieces _ _ (blkG x0 x1 P) _ ?_ y ?_
  · unfold kernelRun0_A
    dsimp only
    simp only [List.forall_mem_cons]
    refine ⟨?_, ?_, ?_, ?_, ?_, ?_, ?_, ?_, ?_, ?_, ?_, ?_, ?_, ?_, ?_, ?_, ?_, ?_, ?_, ?_, ?_, ?_, ?_, ?_, ?_⟩
    · exact put_emb x1 P _ _ (tileV x1 _ _ P 2816 128 2944 rfl (by decide) (by decide) (by decide) (by decide) (hx _) (hw _ (by decide) _) (by decide)) _
    · exact put_emb x1 P _ _ (tileV x1 _ _ P 2816 0 2816 rfl (by decide) (by decide) (by decide) (by decide) (hx _) (hw _ (by decide) _) (by decide)) _
    · exact put_emb x1 P _ _ (tileV x1 _ _ P 2560 128 2688 rfl (by decide) (by decide) (by decide) (by decide) (hx _) (hw _ (by decide) _) (by decide)) _
    · exact put_emb x1 P _ _ (tileV x1 _ _ P 2560 0 2560 rfl (by decide) (by decide) (by decide) (by decide) (hx _) (hw _ (by decide) _) (by decide)) _
    · exact put_emb x1 P _ _ (tileV x1 _ _ P 2304 128 2432 rfl (by decide) (by decide) (by decide) (by decide) (hx _) (hw _ (by decide) _) (by decide)) _
    · exact put_emb x1 P _ _ (tileV x1 _ _ P 2304 0 2304 rfl (by decide) (by decide) (by decide) (by decide) (hx _) (hw _ (by decide) _) (by decide)) _
    · exact put_emb x1 P _ _ (tileV x1 _ _ P 2048 128 2176 rfl (by decide) (by decide) (by decide) (by decide) (hx _) (hw _ (by decide) _) (by decide)) _
    · exact put_emb x1 P _ _ (tileV x1 _ _ P 2048 0 2048 rfl (by decide) (by decide) (by decide) (by decide) (hx _) (hw _ (by decide) _) (by decide)) _
    · exact put_emb x1 P _ _ (tileK x1 _ _ _ _ _ P 1792 128 1920 rfl (by decide) (by decide) (by decide) (by decide) (by decide) (hx _) (hw _ (by decide) _) (h0 _) (h1 _) (h2 _) (by decide)) _
    · exact put_emb x1 P _ _ (tileK x1 _ _ _ _ _ P 1792 0 1792 rfl (by decide) (by decide) (by decide) (by decide) (by decide) (hx _) (hw _ (by decide) _) (h0 _) (h1 _) (h2 _) (by decide)) _
    · exact put_emb x1 P _ _ (tileK x1 _ _ _ _ _ P 1536 128 1664 rfl (by decide) (by decide) (by decide) (by decide) (by decide) (hx _) (hw _ (by decide) _) (h0 _) (h1 _) (h2 _) (by decide)) _
    · exact put_emb x1 P _ _ (tileK x1 _ _ _ _ _ P 1536 0 1536 rfl (by decide) (by decide) (by decide) (by decide) (by decide) (hx _) (hw _ (by decide) _) (h0 _) (h1 _) (h2 _) (by decide)) _
    · exact put_emb x1 P _ _ (tileK x1 _ _ _ _ _ P 1280 128 1408 rfl (by decide) (by decide) (by decide) (by decide) (by decide) (hx _) (hw _ (by decide) _) (h0 _) (h1 _) (h2 _) (by decide)) _
    · exact put_emb x1 P _ _ (tileK x1 _ _ _ _ _ P 1280 0 1280 rfl (by decide) (by decide) (by decide) (by decide) (by decide) (hx _) (hw _ (by decide) _) (h0 _) (h1 _) (h2 _) (by decide)) _
    · exact put_emb x1 P _ _ (tileK x1 _ _ _ _ _ P 1024 128 1152 rfl (by decide) (by decide) (by decide) (by decide) (by decide) (hx _) (hw _ (by decide) _) (h0 _) (h1 _) (h2 _) (by decide)) _
    · exact put_emb x1 P _ _ (tileK x1 _ _ _ _ _ P 1024 0 1024 rfl (by decide) (by decide) (by decide) (by decide) (by decide) (hx _) (hw _ (by decide) _) (h0 _) (h1 _) (h2 _) (by decide)) _
    · exact put_emb x1 P _ _ (tileS x1 _ _ _ _ _ P 768 128 896 rfl (by decide) (by decide) (by decide) (by decide) (hx _) (hw _ (by decide) _) (h0 _) (h1 _) (h2 _) (by decide)) _
    · exact put_emb x1 P _ _ (tileS x1 _ _ _ _ _ P 768 0 768 rfl (by decide) (by decide) (by decide) (by decide) (hx _) (hw _ (by decide) _) (h0 _) (h1 _) (h2 _) (by decide)) _
    · exact put_emb x1 P _ _ (tileS x1 _ _ _ _ _ P 512 128 640 rfl (by decide) (by decide) (by decide) (by decide) (hx _) (hw _ (by decide) _) (h0 _) (h1 _) (h2 _) (by decide)) _
    · exact put_emb x1 P _ _ (tileS x1 _ _ _ _ _ P 512 0 512 rfl (by decide) (by decide) (by decide) (by decide) (hx _) (hw _ (by decide) _) (h0 _) (h1 _) (h2 _) (by decide)) _
    · exact put_emb x1 P _ _ (tileS x1 _ _ _ _ _ P 256 128 384 rfl (by decide) (by decide) (by decide) (by decide) (hx _) (hw _ (by decide) _) (h0 _) (h1 _) (h2 _) (by decide)) _
    · exact put_emb x1 P _ _ (tileS x1 _ _ _ _ _ P 256 0 256 rfl (by decide) (by decide) (by decide) (by decide) (hx _) (hw _ (by decide) _) (h0 _) (h1 _) (h2 _) (by decide)) _
    · exact put_emb x1 P _ _ (tileS x1 _ _ _ _ _ P 0 128 128 rfl (by decide) (by decide) (by decide) (by decide) (hx _) (hw _ (by decide) _) (h0 _) (h1 _) (h2 _) (by decide)) _
    · exact put_emb x1 P _ _ (tileS x1 _ _ _ _ _ P 0 0 0 rfl (by decide) (by decide) (by decide) (by decide) (hx _) (hw _ (by decide) _) (h0 _) (h1 _) (h2 _) (by decide)) _
    · exact fun _ h => absurd h List.not_mem_nil
  · exact cover0_A_3 c i arg2 harg2 arg3 harg3 arg4 harg4 arg5 harg5 arg6 harg6 arg7 harg7 x0 x1 x2 xt0 y

end Cert.Proof.Kernel3Ideal
-- ==== Proof.V3.Ref.lean ====
/-
  The reference of the projection over the reals, cut into its stages, each read at an index.
-/
module

public import proofs.«01_k».proof.Proof.Gen.Reference3Ideal.Run
public import proofs.«01_k».proof.Proof.V3.Def

@[expose] public section

set_option maxRecDepth 16384

noncomputable section

namespace Cert.Proof.Ref3

open Cert.Reference3Ideal Cert.Reference3Ideal.Gen
open Idealize.ShloMosaic Idealize.ShloMosaic.TcCoe
open Cert.Proof (Proj.pos Proj.inv Proj.cs Proj.sn Proj.qs Proj.col Proj.scol Proj.rot Proj.posOf)

/-- The product of the rows and the weights. -/
def yy (X : FVec Ideal S49152x1024 .bf16) (W : FVec Ideal S1024x3072 .bf16) : FVec Ideal S49152x3072 .f32 :=
  Host.dotGeneral dot_S49152x1024_S1024x3072_S49152x3072_1_0_0_1_n_n none (extf .f32 X bitsLt_bf16_f32) (extf .f32 W bitsLt_bf16_f32)
/-- Queries, keys or values of a product. -/
def part (g : ℕ) (h : S49152x3x16x64.Slices ![0, g, 0, 0] S49152x1x16x64) (y : FVec Ideal S49152x3072 .f32) : FVec Ideal S49152x16x64 .f32 :=
  shapeCast S49152x16x64 (extractStridedSlice S49152x1x16x64 ![0, g, 0, 0] (shapeCast S49152x3x16x64 y shapeCasts_S49152x3072_S49152x3x16x64) h) shapeCasts_S49152x1x16x64_S49152x16x64
/-- Queries times the scale. -/
def scl (v : FVec Ideal S49152x16x64 .f32) : FVec Ideal S49152x16x64 .f32 :=
  mulf v (broadcastInDim S49152x16x64 ![] bcast_S_S49152x16x64 (constant S_ .f32 0x3E38AA3B#32))
/-- The positions of the longer sequences' rows, then the shorter ones'. -/
def p1 : FVec Ideal S32768 .f32 :=
  shapeCast S32768 (broadcastInDim S4x8192 ![0, 1] bcast_S1x8192_S4x8192_0_1 (shapeCast S1x8192 (sitofp .f32 (iotaInDim S8192 32 0)) shapeCasts_S8192_S1x8192)) shapeCasts_S4x8192_S32768
def p2 : FVec Ideal S16384 .f32 :=
  shapeCast S16384 (broadcastInDim S4x4096 ![0, 1] bcast_S1x4096_S4x4096_0_1 (shapeCast S1x4096 (sitofp .f32 (iotaInDim S4096 32 0)) shapeCasts_S4096_S1x4096)) shapeCasts_S4x4096_S16384
def ps : FVec Ideal S49152 .f32 := concatenate S49152 0 [⟨S32768, p1⟩, ⟨S16384, p2⟩] concatenates_S32768_S16384_S49152_d0
/-- The frequencies. -/
def iv : FVec Ideal S8 .f32 :=
  Host.powf (broadcastInDim S8 ![] bcast_S_S8 (constant S_ .f32 0x48F42400#32))
    (mulf (Host.negf (sitofp .f32 (iotaInDim S8 32 0))) (broadcastInDim S8 ![] bcast_S_S8 (constant S_ .f32 0x3E000000#32)))
/-- The angles of positions `p` and frequencies `f`. -/
def an (p : FVec Ideal S49152 .f32) (f : FVec Ideal S8 .f32) : FVec Ideal S49152x8 .f32 :=
  mulf (broadcastInDim S49152x8 ![0, 1] bcast_S49152x1_S49152x8_0_1 (broadcastInDim S49152x1 ![0] bcast_S49152_S49152x1_0 p))
    (broadcastInDim S49152x8 ![0, 1] bcast_S1x8_S49152x8_0_1 (broadcastInDim S1x8 ![1] bcast_S8_S1x8_1 f))
/-- A value per row and frequency, for every head. -/
def hd (a : FVec Ideal S49152x8 .f32) : FVec Ideal S49152x16x8 .f32 :=
  broadcastInDim S49152x16x8 ![0, 1, 2] bcast_S49152x1x8_S49152x16x8_0_1_2 (broadcastInDim S49152x1x8 ![0, 2] bcast_S49152x8_S49152x1x8_0_2 a)
/-- The rotated features, and the rest. -/
def lo (x : FVec Ideal S49152x16x64 .f32) : FVec Ideal S49152x16x8 .f32 := extractStridedSlice S49152x16x8 ![0, 0, 0] x slices_S49152x16x64_S49152x16x8_0_0_0
def hi (x : FVec Ideal S49152x16x64 .f32) : FVec Ideal S49152x16x8 .f32 := extractStridedSlice S49152x16x8 ![0, 0, 8] x slices_S49152x16x64_S49152x16x8_0_0_8
def tl (x : FVec Ideal S49152x16x64 .f32) : FVec Ideal S49152x16x48 .f32 := extractStridedSlice S49152x16x48 ![0, 0, 16] x slices_S49152x16x64_S49152x16x48_0_0_16
/-- The rotation of `x` by cosines `C` and sines `S`. -/
def rope (x : FVec Ideal S49152x16x64 .f32) (C S : FVec Ideal S49152x16x8 .f32) : FVec Ideal S49152x16x64 .f32 :=
  concatenate S49152x16x64 2 [⟨S49152x16x8, subf (mulf (lo x) C) (mulf (hi x) S)⟩, ⟨S49152x16x8, addf (mulf (hi x) C) (mulf (lo x) S)⟩, ⟨S49152x16x48, tl x⟩]
    concatenates_S49152x16x8_S49152x16x8_S49152x16x48_S49152x16x64_d2
/-- Queries, keys and values side by side. -/
def stk (q k v : FVec Ideal S49152x16x64 .f32) : FVec Ideal S1x49152x3072 .bf16 :=
  truncf .bf16 (shapeCast S1x49152x3072 (concatenate S49152x3x16x64 1 [⟨S49152x1x16x64, broadcastInDim S49152x1x16x64 ![0, 2, 3] bcast_S49152x16x64_S49152x1x16x64_0_2_3 q⟩,
    ⟨S49152x1x16x64, broadcastInDim S49152x1x16x64 ![0, 2, 3] bcast_S49152x16x64_S49152x1x16x64_0_2_3 k⟩,
    ⟨S49152x1x16x64, broadcastInDim S49152x1x16x64 ![0, 2, 3] bcast_S49152x16x64_S49152x1x16x64_0_2_3 v⟩]
    concatenates_S49152x1x16x64_S49152x1x16x64_S49152x1x16x64_S49152x3x16x64_d1) shapeCasts_S49152x3x16x64_S1x49152x3072) bitsLt_bf16_f32
/-- The queries, keys and values of the product `y`. -/
def qq (y : FVec Ideal S49152x3072 .f32) : FVec Ideal S49152x16x64 .f32 :=
  rope (scl (part 0 slices_S49152x3x16x64_S49152x1x16x64_0_0_0_0 y)) (hd (Host.cos (an ps iv))) (hd (Host.sin (an ps iv)))
def kk (y : FVec Ideal S49152x3072 .f32) : FVec Ideal S49152x16x64 .f32 :=
  rope (part 1 slices_S49152x3x16x64_S49152x1x16x64_0_1_0_0 y) (hd (Host.cos (an ps iv))) (hd (Host.sin (an ps iv)))
def vv (y : FVec Ideal S49152x3072 .f32) : FVec Ideal S49152x16x64 .f32 := part 2 slices_S49152x3x16x64_S49152x1x16x64_0_2_0_0 y
/-- The whole reference, of the product `y`. -/
def all (y : FVec Ideal S49152x3072 .f32) : FVec Ideal S1x49152x3072 .bf16 := stk (qq y) (kk y) (vv y)

set_option maxHeartbeats 4000000 in
/-- What the reference's run leaves is the stages put together. -/
theorem res_eq (m : (ℓ : Loc nD τ sig) → Buf (Elt Ideal) ℓ) (c : Dev nD) :
    Value.res_main_v84 (F := Ideal) m c = all (yy (m ((c.tc : Thread nD τ).loc main_arg0)) (m ((c.tc : Thread nD τ).loc main_arg1))) := by
  unfold Value.res_main_v84
  rfl

/-! ## The stages at an index -/

theorem yy_at (X : FVec Ideal S49152x1024 .bf16) (W : FVec Ideal S1024x3072 .bf16) (r : Fin 49152) (n : Fin 3072) :
    yy X W (ix2 r n) = Proj.col (fun k => X (ix2 r k)) (fun k n => W (ix2 k n)) n := by
  pointwise [yy]
  rfl

theorem part_at (g : ℕ) (hg : g < 3) (h) (y : FVec Ideal S49152x3072 .f32) (r : Fin 49152) (a : Fin 16) (d : Fin 64) :
    part g h y (ix3 r a d) = y (ix2 r (⟨g * 1024 + a.val * 64 + d.val, by omega⟩ : Fin 3072)) := by
  pointwise [part]

theorem scl_at (v : FVec Ideal S49152x16x64 .f32) (r : Fin 49152) (a : Fin 16) (d : Fin 64) : scl v (ix3 r a d) = v (ix3 r a d) * Proj.qs := by
  pointwise [scl]
  rfl

theorem p1_at (r : Fin 32768) : p1 (ix1 r) = Proj.pos (r.val % 8192) := by
  pointwise [p1]
  rfl
theorem p2_at (r : Fin 16384) : p2 (ix1 r) = Proj.pos (r.val % 4096) := by
  pointwise [p2]
  rfl

theorem ps_lo (r : Fin 49152) (h : r.val < 32768) : ps (ix1 r) = Proj.pos (r.val % 8192) := by
  pointwise [ps, h]
  exact p1_at _
theorem ps_hi (r : Fin 49152) (h : 32768 ≤ r.val) : ps (ix1 r) = Proj.pos (r.val % 4096) := by
  pointwise [ps, not_lt.mpr h]
  refine (p2_at _).trans (congrArg Proj.pos ?_)
  show (r.val - 32768) % 4096 = r.val % 4096
  omega

theorem iv_eq : iv = Proj.inv := rfl

theorem an_at (p : FVec Ideal S49152 .f32) (f : FVec Ideal S8 .f32) (r : Fin 49152) (j : Fin 8) : an p f (ix2 r j) = p (ix1 r) * f (ix1 j) := by
  pointwise [an]

theorem hd_at (x : FVec Ideal S49152x8 .f32) (r : Fin 49152) (a : Fin 16) (j : Fin 8) : hd x (ix3 r a j) = x (ix2 r j) := by
  pointwise [hd]

theorem rope_lo (x : FVec Ideal S49152x16x64 .f32) (C S : FVec Ideal S49152x16x8 .f32) (r : Fin 49152) (a : Fin 16) (d : Fin 64) (h : d.val < 8) :
    rope x C S (ix3 r a d) = x (ix3 r a d) * C (ix3 r a (⟨d.val, h⟩ : Fin 8)) - x (ix3 r a (⟨8 + d.val, by omega⟩ : Fin 64)) * S (ix3 r a (⟨d.val, h⟩ : Fin 8)) := by
  pointwise [rope, lo, hi, tl, h]

theorem rope_hi (x : FVec Ideal S49152x16x64 .f32) (C S : FVec Ideal S49152x16x8 .f32) (r : Fin 49152) (a : Fin 16) (d : Fin 64) (h : 8 ≤ d.val) (h' : d.val < 16) :
    rope x C S (ix3 r a d) = x (ix3 r a d) * C (ix3 r a (⟨d.val - 8, by omega⟩ : Fin 8)) + x (ix3 r a (⟨d.val - 8, by omega⟩ : Fin 64)) * S (ix3 r a (⟨d.val - 8, by omega⟩ : Fin 8)) := by
  pointwise [rope, lo, hi, tl, not_lt.mpr h, h']
  have e : ∀ h8, (⟨8 + (d.val - 8), h8⟩ : Fin 64) = d := fun _ => Fin.ext (by show 8 + (d.val - 8) = d.val; omega)
  rw [dif_pos (show d.val - 8 < 8 by omega), e]

theorem rope_tl (x : FVec Ideal S49152x16x64 .f32) (C S : FVec Ideal S49152x16x8 .f32) (r : Fin 49152) (a : Fin 16) (d : Fin 64) (h : 16 ≤ d.val) :
    rope x C S (ix3 r a d) = x (ix3 r a d) := by
  pointwise [rope, lo, hi, tl]
  rw [dif_neg (show ¬ d.val < 8 by omega), dif_neg (show ¬ d.val - 8 < 8 by omega)]
  exact congrArg (fun e => x (ix3 r a e)) (Fin.ext (show 16 + (d.val - 8 - 8) = d.val by omega))

theorem stk_at (q k v : FVec Ideal S49152x16x64 .f32) (r : Fin 49152) (n : Fin 3072) :
    stk q k v (ix3 (0 : Fin 1) r n) = (if n.val < 1024 then q else if n.val < 2048 then k else v) (ix3 r (⟨n.val / 64 % 16, by omega⟩ : Fin 16) (⟨n.val % 64, by omega⟩ : Fin 64)) := by
  pointwise [stk]
  by_cases h1 : n.val < 1024
  · rw [dif_pos (show n.val / 1024 < 1 by omega), if_pos h1]
  · by_cases h2 : n.val < 2048
    · rw [dif_neg (show ¬ n.val / 1024 < 1 by omega), dif_pos (show n.val / 1024 - 1 < 1 by omega), if_neg h1, if_pos h2]
    · rw [dif_neg (show ¬ n.val / 1024 < 1 by omega), dif_neg (show ¬ n.val / 1024 - 1 < 1 by omega), if_neg h1, if_neg h2]

theorem ps_at (r : Fin 49152) : ps (ix1 r) = Proj.pos (Proj.posOf r.val) := by
  unfold Proj.posOf
  by_cases h : r.val < 32768
  · rw [if_pos h]
    exact ps_lo r h
  · rw [if_neg h]
    exact ps_hi r (not_lt.mp h)

theorem cos_at (r : Fin 49152) (a : Fin 16) (j : Fin 8) : hd (Host.cos (an ps iv)) (ix3 r a j) = Proj.cs (Proj.posOf r.val) j := by
  rw [hd_at]
  show Ideal.cos (an ps iv (ix2 r j)) = _
  rw [an_at, ps_at]
  rfl
theorem sin_at (r : Fin 49152) (a : Fin 16) (j : Fin 8) : hd (Host.sin (an ps iv)) (ix3 r a j) = Proj.sn (Proj.posOf r.val) j := by
  rw [hd_at]
  show Ideal.sin (an ps iv (ix2 r j)) = _
  rw [an_at, ps_at]
  rfl

/-- A rotated head's feature is the rotation of the columns it comes from. -/
theorem rope_at (x : FVec Ideal S49152x16x64 .f32) (z : Fin 3072 → EReal) (r : Fin 49152) (a : Fin 16) (n : Fin 3072) (hn : n.val < 2048)
    (hx : ∀ d : Fin 64, x (ix3 r a d) = z ⟨n.val - n.val % 64 + d.val, by omega⟩) :
    rope x (hd (Host.cos (an ps iv))) (hd (Host.sin (an ps iv))) (ix3 r a (⟨n.val % 64, by omega⟩ : Fin 64)) = Proj.rot z (Proj.posOf r.val) n := by
  have e : ∀ (d : Fin 64) (k : Fin 3072), n.val - n.val % 64 + d.val = k.val → x (ix3 r a d) = z k := fun d k h => (hx d).trans (congrArg z (Fin.ext h))
  unfold Proj.rot
  by_cases h1 : n.val % 64 < 8
  · rw [dif_pos ⟨hn, h1⟩, rope_lo _ _ _ _ _ _ h1, cos_at, sin_at, e _ n (by show n.val - n.val % 64 + n.val % 64 = _; omega),
      e _ ⟨n.val + 8, by omega⟩ (by show n.val - n.val % 64 + (8 + n.val % 64) = n.val + 8; omega)]
  · rw [dif_neg fun h => h1 h.2]
    by_cases h2 : n.val % 64 < 16
    · rw [dif_pos ⟨hn, h2⟩, rope_hi _ _ _ _ _ _ (by show 8 ≤ n.val % 64; omega) h2, cos_at, sin_at, e _ n (by show n.val - n.val % 64 + n.val % 64 = _; omega),
        e _ ⟨n.val - 8, by omega⟩ (by show n.val - n.val % 64 + (n.val % 64 - 8) = n.val - 8; omega)]
    · rw [dif_neg fun h => h2 h.2, rope_tl _ _ _ _ _ _ (by show 16 ≤ n.val % 64; omega), e _ n (by show n.val - n.val % 64 + n.val % 64 = _; omega)]

/-- Column `n` of row `r` among the queries, keys and values. -/
theorem sel_at (X : FVec Ideal S49152x1024 .bf16) (W : FVec Ideal S1024x3072 .bf16) (r : Fin 49152) (n : Fin 3072) :
    (if n.val < 1024 then qq (yy X W) else if n.val < 2048 then kk (yy X W) else vv (yy X W)) (ix3 r (⟨n.val / 64 % 16, by omega⟩ : Fin 16) (⟨n.val % 64, by omega⟩ : Fin 64))
      = Proj.rot (Proj.scol (fun k => X (ix2 r k)) (fun k n => W (ix2 k n))) (Proj.posOf r.val) n := by
  unfold qq kk vv
  by_cases h1 : n.val < 1024
  · rw [if_pos h1]
    refine rope_at _ _ r _ n (by omega) fun d => ?_
    rw [scl_at, part_at 0 (by decide), yy_at]
    unfold Proj.scol
    rw [if_pos (show n.val - n.val % 64 + d.val < 1024 by omega)]
    exact congrArg (fun k => Proj.col _ _ k * Proj.qs) (Fin.ext (show 0 * 1024 + n.val / 64 % 16 * 64 + d.val = n.val - n.val % 64 + d.val by omega))
  · rw [if_neg h1]
    by_cases h2 : n.val < 2048
    · rw [if_pos h2]
      refine rope_at _ _ r _ n h2 fun d => ?_
      rw [part_at 1 (by decide), yy_at]
      unfold Proj.scol
      rw [if_neg (show ¬ n.val - n.val % 64 + d.val < 1024 by omega)]
      exact congrArg (fun k => Proj.col _ _ k) (Fin.ext (show 1 * 1024 + n.val / 64 % 16 * 64 + d.val = n.val - n.val % 64 + d.val by omega))
    · rw [if_neg h2, part_at 2 (by decide), yy_at]
      unfold Proj.rot Proj.scol
      rw [dif_neg fun h => h2 h.1, dif_neg fun h => h2 h.1, if_neg h1]
      exact congrArg (fun k => Proj.col _ _ k) (Fin.ext (show 2 * 1024 + n.val / 64 % 16 * 64 + n.val % 64 = n.val by omega))

/-- The reference's result at row `r` and column `n`. -/
theorem all_at (X : FVec Ideal S49152x1024 .bf16) (W : FVec Ideal S1024x3072 .bf16) (r : Fin 49152) (n : Fin 3072) :
    all (yy X W) (ix3 (0 : Fin 1) r n) = Proj.rot (Proj.scol (fun k => X (ix2 r k)) (fun k n => W (ix2 k n))) (Proj.posOf r.val) n := by
  unfold all
  rw [stk_at]
  exact sel_at X W r n

end Cert.Proof.Ref3
-- ==== Proof.V3.Main.lean ====
/-
  The projection's result array: every block of rows is the reference's result at the block's place.
-/
module

public import proofs.«01_k».proof.Proof.V3.Ker
public import proofs.«01_k».proof.Proof.V3.Ref
public import Idealize.ShloMosaic.Lib.Pipeline.ValueKit

@[expose] public section

set_option maxRecDepth 16384

noncomputable section

namespace Cert.Proof.Kernel3Ideal

open Cert.Kernel3Ideal Cert.Kernel3Ideal.Gen
open Idealize.ShloMosaic Idealize.ShloMosaic.TcCoe

/-! ## The places of the blocks -/

theorem coords_val : ∀ t : Fin grid0.N, (grid0.coords t 0).val = t.val := by decide +kernel
theorem transform_0_eq : ∀ i : grid0.Coords, cc0_transform_0 i = ![(i 0).val, 0] := by decide +kernel
theorem transform_1_eq : ∀ i : grid0.Coords, cc0_transform_1 i = ![0, 0] := by decide +kernel
theorem transform_3_eq : ∀ i : grid0.Coords, cc0_transform_3 i = ![0, (i 0).val, 0] := by decide +kernel
theorem off1_eq : ∀ i : grid0.Coords, k0_off1 i = ![(i 0).val] := by decide +kernel

/-- The table's word of block `t`: its place in its sequence. -/
def wd (t : ℕ) : ℕ := if t < 32 then t % 8 else t % 4
theorem wd_le (t : ℕ) : wd t ≤ 7 := by unfold wd; split <;> omega
theorem lit_eq : ∀ t : Fin 48, (lit0 (S48.rowMajor (ix1 t))).toNat = wd t.val := by decide +kernel

/-- The position of row `p` of block `t`. -/
def rowPos (t : ℕ) (p : Fin 1024) : Fin 8192 := ⟨wd t * 1024 + p.val, by have := wd_le t; omega⟩
theorem rowPos_eq (t : ℕ) (p : Fin 1024) : (rowPos t p).val = Proj.posOf (1024 * t + p.val) := by
  have hp := p.isLt
  show wd t * 1024 + p.val = _
  unfold Proj.posOf wd
  by_cases h : t < 32
  · rw [if_pos h, if_pos (by omega)]; omega
  · rw [if_neg h, if_neg (by omega)]; omega

section
variable (m : (ℓ : Loc nD τ sig) → Buf (Elt Ideal) ℓ)

/-- The word that the tables' window reads. -/
theorem at_eq (t : Fin grid0.N) (h : ∀ a, k0_off1 (grid0.coords t) a + S1.size a ≤ S48.size a) :
    ((tbl m).at 0 (Rect.unit (s := S48) (k0_off1 (grid0.coords t)) S1.size h) numel1_S1).toNat = wd t.val := by
  have e : k0_off1 (grid0.coords t) 0 = t.val := by
    have e := congrFun (off1_eq (grid0.coords t)) 0
    rw [coords_val] at e
    exact e
  refine Eq.trans (congrArg BitVec.toNat (Eq.trans ?_ (congrFun (tbl_eq m) (ix1 (⟨t.val, t.isLt⟩ : Fin 48))))) (lit_eq ⟨t.val, t.isLt⟩)
  refine congrArg (tbl m 0 : IVec S48 32) (funext fun a => Fin.ext ?_)
  match a with
  | ⟨0, _⟩ =>
    show k0_off1 (grid0.coords t) 0 + 1 * 0 = t.val
    omega

theorem blk0 (c : Dev nD) (t : Fin (cfgM m (ok m)).N) (ht : t.val < 48) (p k : Fin 1024) : (iblk m (ok m) c 0 t : Vec Ideal S1024x1024 .bf16) (ix2 p k)
    = (m ((c.tc : Thread nD τ).loc main_arg0) : Vec Ideal S49152x1024 .bf16) (ix2 (⟨1024 * t.val + p.val, by omega⟩ : Fin 49152) k) := by
  show (V m c main_arg0 : Vec Ideal S49152x1024 .bf16) _ = _
  rw [V_main_arg0]
  refine congrArg (m ((c.tc : Thread nD τ).loc main_arg0) : Vec Ideal S49152x1024 .bf16) (funext fun a => Fin.ext ?_)
  have e := transform_0_eq (grid0.coords t)
  rw [coords_val] at e
  match a with
  | ⟨0, _⟩ =>
    show cc0_transform_0 (grid0.coords t) 0 * 1024 + 1 * p.val = 1024 * t.val + p.val
    rw [e]
    show t.val * 1024 + 1 * p.val = 1024 * t.val + p.val
    omega
  | ⟨1, _⟩ =>
    show cc0_transform_0 (grid0.coords t) 1 * 1024 + 1 * k.val = k.val
    rw [e]
    show 0 * 1024 + 1 * k.val = k.val
    omega

theorem blk1 (c : Dev nD) (t : Fin (cfgM m (ok m)).N) (k : Fin 1024) (n : Fin 3072) : (iblk m (ok m) c 1 t : Vec Ideal S1024x3072 .bf16) (ix2 k n)
    = (m ((c.tc : Thread nD τ).loc main_arg1) : Vec Ideal S1024x3072 .bf16) (ix2 k n) := by
  show (V m c main_arg1 : Vec Ideal S1024x3072 .bf16) _ = _
  rw [V_main_arg1]
  refine congrArg (m ((c.tc : Thread nD τ).loc main_arg1) : Vec Ideal S1024x3072 .bf16) (funext fun a => Fin.ext ?_)
  match a with
  | ⟨0, _⟩ => show 0 * 1024 + 1 * k.val = k.val; omega
  | ⟨1, _⟩ => show 0 * 3072 + 1 * n.val = n.val; omega

theorem blk2 (c : Dev nD) (t : Fin (cfgM m (ok m)).N) (i : Fin 3) (p : Fin 1024) (l : Fin 128) : (iblk m (ok m) c 2 t : Vec Ideal S3x1024x128 .f32) (ix3 i p l)
    = tabs (ix3 i (rowPos t.val p) l) := by
  show (V m c main_v33 : FVec Ideal S3x8192x128 .f32) _ = _
  rw [V_tabs]
  refine congrArg tabs (funext fun a => Fin.ext ?_)
  match a with
  | ⟨0, _⟩ => show 0 * 3 + 1 * i.val = i.val; omega
  | ⟨1, _⟩ =>
    show ((tbl m).at 0 (Rect.unit (s := S48) (k0_off1 (grid0.coords t)) S1.size _) numel1_S1).toNat * 1024 + 1 * p.val = wd t.val * 1024 + p.val
    rw [at_eq]; omega
  | ⟨2, _⟩ => show 0 * 128 + 1 * l.val = l.val; omega

/-- The reference's result, of the kernel's arguments. -/
def G (c : Dev nD) : Vec Ideal S1x49152x3072 .bf16 :=
  Ref3.all (Ref3.yy (m ((c.tc : Thread nD τ).loc main_arg0)) (m ((c.tc : Thread nD τ).loc main_arg1)))

/-- A block of rows at its place in the reference's result, of any arguments. -/
theorem blkG_eq_ref (X : Vec Ideal S49152x1024 .bf16) (W : Vec Ideal S1024x3072 .bf16) (x : Vec Ideal S1024x1024 .bf16) (w : Vec Ideal S1024x3072 .bf16)
    (t : ℕ) (ht : t < 48) (p : Fin 1024) (n : Fin 3072) (hx : ∀ k, x (ix2 p k) = X (ix2 (⟨1024 * t + p.val, by omega⟩ : Fin 49152) k))
    (hw : ∀ k n, w (ix2 k n) = W (ix2 k n)) :
    blkG x w (rowPos t) (ix3 (0 : Fin 1) p n) = Ref3.all (Ref3.yy X W) (ix3 (0 : Fin 1) (⟨1024 * t + p.val, by omega⟩ : Fin 49152) n) := by
  rw [Ref3.all_at, ← rowPos_eq]
  show Proj.rot (Proj.scol (fun k => x (ix2 p k)) (fun k n => w (ix2 k n))) (rowPos t p).val n = _
  simp only [hx, hw]

/-- One element of the block of point `t`. -/
theorem outsAt_eq (c : Dev nD) (t : Fin (cfgM m (ok m)).N) (ht : t.val < 48) (p : Fin 1024) (n : Fin 3072) :
    outsAt0 m (ok m) c t (ix3 (0 : Fin 1) p n) = G m c (ix3 (0 : Fin 1) (⟨1024 * t.val + p.val, by omega⟩ : Fin 49152) n) := by
  unfold outsAt0
  rw [out_eq c _ _ _ _ _ _ _ _ _ _ _ _ _ (iblk m (ok m) c 0 t) (iblk m (ok m) c 1 t) (iblk m (ok m) c 2 t) (tbl m 0) (rowPos t.val) (blk2 m c t)]
  exact blkG_eq_ref _ _ (iblk m (ok m) c 0 t) (iblk m (ok m) c 1 t) t.val ht p n (blk0 m c t ht p) (blk1 m c t)

/-- The blocks of the result cover it. -/
theorem cover (i : S1x49152x3072.Idx) : ∃ t : Fin (cfgM m (ok m)).N, ((cfgM m (ok m)).win (3 : Fin 4)).flush t = true ∧ i ∈ (((cfgM m (ok m)).win (3 : Fin 4)).blk t).view.set := by
  have h0 : (i 0).val < 1 := (i 0).isLt
  have h1 : (i 1).val < 49152 := (i 1).isLt
  have h2 : (i 2).val < 3072 := (i 2).isLt
  let t : Fin grid0.N := ⟨(i 1).val / 1024, by show _ < 48; omega⟩
  refine ⟨t, flush0_3 _ t, (((cfgM m (ok m)).win (3 : Fin 4)).emb_mem_blk_iff t i rfl).mpr fun a => ?_⟩
  have e := transform_3_eq (grid0.coords t)
  rw [coords_val] at e
  match a with
  | ⟨0, _⟩ =>
    show cc0_transform_3 (grid0.coords t) 0 * 1 ≤ (i 0).val ∧ (i 0).val < cc0_transform_3 (grid0.coords t) 0 * 1 + 1
    rw [e]
    show 0 * 1 ≤ (i 0).val ∧ (i 0).val < 0 * 1 + 1
    omega
  | ⟨1, _⟩ =>
    show cc0_transform_3 (grid0.coords t) 1 * 1024 ≤ (i 1).val ∧ (i 1).val < cc0_transform_3 (grid0.coords t) 1 * 1024 + 1024
    rw [e]
    show (i 1).val / 1024 * 1024 ≤ (i 1).val ∧ (i 1).val < (i 1).val / 1024 * 1024 + 1024
    omega
  | ⟨2, _⟩ =>
    show cc0_transform_3 (grid0.coords t) 2 * 3072 ≤ (i 2).val ∧ (i 2).val < cc0_transform_3 (grid0.coords t) 2 * 3072 + 3072
    rw [e]
    show 0 * 3072 ≤ (i 2).val ∧ (i 2).val < 0 * 3072 + 3072
    omega

/-- The result array after the run. -/
theorem arr_eq (c : Dev nD) : (dats m (ok m) 0 c).arrAt (3 : Fin 4) (cfgM m (ok m)).N = G m c := by
  refine (dats m (ok m) 0 c).arrAt_eq_of_emb (3 : Fin 4) _ (fun t hf y => ?_) (cover m)
  blk_simp
  rw [after0_3]
  have e := transform_3_eq (grid0.coords t)
  rw [coords_val] at e
  have ht : t.val < 48 := t.isLt
  have h0 : (y 0).val < 1 := (y 0).isLt
  have hp : (y 1).val < 1024 := (y 1).isLt
  have hn : (y 2).val < 3072 := (y 2).isLt
  have hy : y = (ix3 (0 : Fin 1) (⟨(y 1).val, hp⟩ : Fin 1024) (⟨(y 2).val, hn⟩ : Fin 3072) : S1x1024x3072.Idx) :=
    funext fun a => match a with | ⟨0, _⟩ => Fin.ext (show (y 0).val = 0 by omega) | ⟨1, _⟩ => rfl | ⟨2, _⟩ => rfl
  refine (congrArg (outsAt0 m (ok m) c t) hy).trans ((outsAt_eq m c t ht _ _).trans (congrArg (G m c) (funext fun a => Fin.ext ?_)))
  match a with
  | ⟨0, _⟩ =>
    show 0 = cc0_transform_3 (grid0.coords t) 0 * 1 + 1 * (y 0).val
    rw [e]
    show 0 = 0 * 1 + 1 * (y 0).val
    omega
  | ⟨1, _⟩ =>
    show 1024 * t.val + (y 1).val = cc0_transform_3 (grid0.coords t) 1 * 1024 + 1 * (y 1).val
    rw [e]
    show 1024 * t.val + (y 1).val = t.val * 1024 + 1 * (y 1).val
    omega
  | ⟨2, _⟩ =>
    show (y 2).val = cc0_transform_3 (grid0.coords t) 2 * 3072 + 1 * (y 2).val
    rw [e]
    show (y 2).val = 0 * 3072 + 1 * (y 2).val
    omega

end

end Cert.Proof.Kernel3Ideal

end
-- ==== Proof.V4.Tab.lean ====
/-
  The table of row blocks that the projection's third window reads, and the frame it admits.
-/
module

public import proofs.«01_k».proof.Proof.Gen.Kernel4Ideal.Frame

@[expose] public section

set_option maxRecDepth 16384

noncomputable section

namespace Cert.Proof.Kernel4Ideal

open Cert.Kernel4Ideal Cert.Kernel4Ideal.Gen
open Idealize.ShloMosaic Idealize.ShloMosaic.TcCoe

variable {F : FTy → Type} [FloatOps F] (m : (ℓ : Loc nD τ sig) → Buf (Elt F) ℓ)

/-- The table is the constant that the program starts from. -/
theorem tbl_eq : (tbl m 0 : IVec S48 32) = fun i => lit0 (S48.rowMajor i) := by
  show (V m (0 : Dev nD) main_c : IVec S48 32) = _
  dsimp only [V, hostOps0]
  after_results
  rfl

theorem lit_le : ∀ n : Fin 48, (lit0 n).toNat ≤ 7 := by decide +kernel

/-- A table of words below eight keeps every block of the rotation table inside it. -/
theorem ok0_of_le (pf : pre0.Contents (Elt F)) (h : ∀ j : S48.Idx, BitVec.toNat (pf 0 j) ≤ 7) : ok0 pf := by
  intro i
  refine ⟨fun a => ?_, Or.inl rfl⟩
  match a with
  | ⟨0, _⟩ => show (0 + 1) * 3 ≤ 3; omega
  | ⟨1, _⟩ => exact (fun n hn => by omega : ∀ n : ℕ, n ≤ 7 → (n + 1) * 1024 ≤ 8192) _ (h _)
  | ⟨2, _⟩ => show (0 + 1) * 128 ≤ 128; omega

theorem ok : Ok m := ok0_of_le _ fun j => by
  rw [tbl_eq]
  exact lit_le _

end Cert.Proof.Kernel4Ideal
-- ==== Proof.V4.Ker.lean ====
/-
  A block of the projection of dilation 4: every tile is written to a slot of the scratch and read back in four parts, rows
  `r`, `r + 4`, `r + 8`, …
-/
module

public import proofs.«01_k».proof.Proof.V4.Tab
public import proofs.«01_k».proof.Proof.V3.Ker

@[expose] public section

set_option maxRecDepth 16384

noncomputable section

namespace Cert.Proof.Kernel4Ideal

open Cert.Kernel4Ideal Cert.Kernel4Ideal.Gen
open Idealize.ShloMosaic Idealize.ShloMosaic.TcCoe
open Cert.Proof.Kernel3Ideal (tabs Tile tileS tileK tileV ld_x ld_w ld_t)

/-- The host prepares the same tables. -/
theorem V_tabs (m : (ℓ : Loc nD τ sig) → Buf (Elt Ideal) ℓ) (c : Dev nD) : (V m c main_v33 : FVec Ideal S3x8192x128 .f32) = tabs := by
  dsimp only [V, hostOps0]
  after_results
  rfl

/-- A tile as it is written to a slot, and a quarter of it as it is stored. -/
def up (y : FVec Ideal S1024x128 .f32) : FVec Ideal S1x1024x128 .f32 := shapeCast S1x1024x128 y shapeCasts_S1024x128_S1x1024x128
def put (v : Vec Ideal S1x256x128 .f32) : FVec Ideal S1x256x128 .bf16 :=
  shapeCast S1x256x128 (truncf .bf16 (shapeCast S256x128 v shapeCasts_S1x256x128_S256x128) bitsLt_bf16_f32) shapeCasts_S256x128_S1x256x128

theorem up_at (y : FVec Ideal S1024x128 .f32) (p : Fin 1024) (l : Fin 128) : up y (ix3 (0 : Fin 1) p l) = y (ix2 p l) := by
  pointwise [up]
theorem put_at (v : Vec Ideal S1x256x128 .f32) (p : Fin 256) (l : Fin 128) : put v (ix3 (0 : Fin 1) p l) = v (ix3 (0 : Fin 1) p l) := by
  pointwise [put]

/-- The row of part `g` and row `p` of it. -/
def row (g : Fin 4) (p : Fin 256) : Fin 1024 := ⟨p.val * 4 + g.val, by omega⟩

/-- The block's values, of its rows `x`, the weights `w` and the rows' positions. -/
def blkG (x : Vec Ideal S1024x1024 .bf16) (w : Vec Ideal S1024x3072 .bf16) (P : Fin 1024 → Fin 8192) : Vec Ideal S4x256x3072 .bf16 :=
  fun y => Proj.rot (Proj.scol (fun k => x (ix2 (row (y 0) (y 1)) k)) (fun k n => w (ix2 k n))) (P (row (y 0) (y 1))).val (y 2)

section
variable {σ : RefSig} {X : Vec Ideal S1024x1024 .bf16} (w : Vec Ideal S1024x3072 .bf16) (P : Fin 1024 → Fin 8192) (arg6 : Memref σ .tc .vmem S4x1024x128 .f32)

/-- What a strided load reads of the slot written last. -/
def rd (s : ℕ) (u : FVec Ideal S1x1024x128 .f32) (L : List (View.Piece (Elt Ideal) S4x1024x128 .f32))
    (hw : ∀ a, ![s, 0, 0] a + ![1, 1024, 128] a ≤ S4x1024x128.size a) (r : ℕ)
    (hi : ∀ a, S1x256x128.size a = 0 ∨ (![s, r, 0] : Fin 3 → Nat) a + (![1, 4, 1] : Fin 3 → Nat) a * (S1x256x128.size a - 1) < S4x1024x128.size a) : Vec Ideal S1x256x128 .f32 :=
  arg6.view.readCov (⟨Rect.unit (s := S4x1024x128) ![s, 0, 0] ![1, 1024, 128] hw, u⟩ :: L) (⟨![s, r, 0], S1x256x128.size, ![1, 4, 1], hi⟩ : LoadRect S4x1024x128)

/-- The newest write, read at a place that its rectangle holds. -/
theorem read_hit (r : Rect S4x1024x128) (u : r.shape.Idx → Elt Ideal .f32) (L : List (View.Piece (Elt Ideal) S4x1024x128 .f32))
    (x : r.shape.Idx) (y : S4x1024x128.Idx) (h : r.emb x = y) :
    arg6.view.read (Elt Ideal) (arg6.view.writes (Elt Ideal) arg6.view.junk (⟨r, u⟩ :: L)) y = u x :=
  View.read_writes_cons_hit arg6.view _ r u L x y h

/-- The place of an element of a slot in the scratch. -/
theorem slot_emb (s : ℕ) (hw : ∀ a, ![s, 0, 0] a + ![1, 1024, 128] a ≤ S4x1024x128.size a) (x : S1x1024x128.Idx) (y : S4x1024x128.Idx)
    (h0 : (y 0).val = s + (x 0).val) (h1 : (y 1).val = (x 1).val) (h2 : (y 2).val = (x 2).val) :
    (Rect.unit (s := S4x1024x128) ![s, 0, 0] ![1, 1024, 128] hw).emb x = y := funext fun a => match a with
  | ⟨0, _⟩ => Fin.ext (show s + 1 * (x 0).val = (y 0).val by omega)
  | ⟨1, _⟩ => Fin.ext (show 0 + 1 * (x 1).val = (y 1).val by omega)
  | ⟨2, _⟩ => Fin.ext (show 0 + 1 * (x 2).val = (y 2).val by omega)

theorem rd_at (s : ℕ) (u : FVec Ideal S1x1024x128 .f32) (L : List (View.Piece (Elt Ideal) S4x1024x128 .f32))
    (hw : ∀ a, ![s, 0, 0] a + ![1, 1024, 128] a ≤ S4x1024x128.size a) (g : Fin 4)
    (hi : ∀ a, S1x256x128.size a = 0 ∨ (![s, g.val, 0] : Fin 3 → Nat) a + (![1, 4, 1] : Fin 3 → Nat) a * (S1x256x128.size a - 1) < S4x1024x128.size a) (p : Fin 256) (l : Fin 128) :
    rd arg6 s u L hw g.val hi (ix3 (0 : Fin 1) p l) = u (ix3 (0 : Fin 1) (row g p) l) := by
  refine read_hit arg6 (Rect.unit (s := S4x1024x128) ![s, 0, 0] ![1, 1024, 128] hw) u L (ix3 (0 : Fin 1) (row g p) l)
    ((⟨![s, g.val, 0], S1x256x128.size, ![1, 4, 1], hi⟩ : LoadRect S4x1024x128).idx (ix3 (0 : Fin 1) p l)) (slot_emb s hw _ _ ?_ ?_ ?_)
  · show s + 1 * 0 = s + 0
    rfl
  · show g.val + 4 * p.val = p.val * 4 + g.val
    omega
  · show 0 + 1 * l.val = l.val
    omega

/-- The place of an element of a quarter in the block. -/
theorem block_emb (g q : ℕ) (hr : ∀ a, ![g, 0, q] a + ![1, 256, 128] a ≤ S4x256x3072.size a) (x : S1x256x128.Idx) (y : S4x256x3072.Idx)
    (h0 : (y 0).val = g + (x 0).val) (h1 : (y 1).val = (x 1).val) (h2 : (y 2).val = q + (x 2).val) :
    (Rect.unit (s := S4x256x3072) ![g, 0, q] ![1, 256, 128] hr).emb x = y := funext fun a => match a with
  | ⟨0, _⟩ => Fin.ext (show g + 1 * (x 0).val = (y 0).val by omega)
  | ⟨1, _⟩ => Fin.ext (show 0 + 1 * (x 1).val = (y 1).val by omega)
  | ⟨2, _⟩ => Fin.ext (show q + 1 * (x 2).val = (y 2).val by omega)

/-- One element of a quarter of a tile. -/
theorem quarter_at (s q : ℕ) (hq : q + 128 ≤ 3072) (y : FVec Ideal S1024x128 .f32) (L : List (View.Piece (Elt Ideal) S4x1024x128 .f32))
    (hw : ∀ a, ![s, 0, 0] a + ![1, 1024, 128] a ≤ S4x1024x128.size a) (h : Tile X w P q y) (g : Fin 4)
    (hi : ∀ a, S1x256x128.size a = 0 ∨ (![s, g.val, 0] : Fin 3 → Nat) a + (![1, 4, 1] : Fin 3 → Nat) a * (S1x256x128.size a - 1) < S4x1024x128.size a) (p : Fin 256) (l : Fin 128) :
    put (rd arg6 s (up y) L hw g.val hi) (ix3 (0 : Fin 1) p l) = blkG X w P (ix3 g p (⟨q + l.val, by omega⟩ : Fin 3072)) := by
  obtain ⟨_, h⟩ := h
  rw [put_at, rd_at, up_at, h]
  rfl

/-- A quarter of a tile at its place in the block. -/
theorem piece (s q : ℕ) (y : FVec Ideal S1024x128 .f32) (L : List (View.Piece (Elt Ideal) S4x1024x128 .f32))
    (hw : ∀ a, ![s, 0, 0] a + ![1, 1024, 128] a ≤ S4x1024x128.size a) (h : Tile X w P q y) (g : Fin 4)
    (hi : ∀ a, S1x256x128.size a = 0 ∨ (![s, g.val, 0] : Fin 3 → Nat) a + (![1, 4, 1] : Fin 3 → Nat) a * (S1x256x128.size a - 1) < S4x1024x128.size a)
    (hr : ∀ a, ![g.val, 0, q] a + ![1, 256, 128] a ≤ S4x256x3072.size a) (j : S1x256x128.Idx) :
    put (rd arg6 s (up y) L hw g.val hi) j = blkG X w P ((Rect.unit (s := S4x256x3072) ![g.val, 0, q] ![1, 256, 128] hr).emb j) := by
  have hq := h.1
  have h0 : (j 0).val < 1 := (j 0).isLt
  have h1 : (j 1).val < 256 := (j 1).isLt
  have h2 : (j 2).val < 128 := (j 2).isLt
  have hj : j = (ix3 (0 : Fin 1) (⟨(j 1).val, h1⟩ : Fin 256) (⟨(j 2).val, h2⟩ : Fin 128) : S1x256x128.Idx) :=
    funext fun a => match a with | ⟨0, _⟩ => Fin.ext (show (j 0).val = 0 by omega) | ⟨1, _⟩ => rfl | ⟨2, _⟩ => rfl
  refine (congrArg (put _) hj).trans ((quarter_at w P arg6 s q hq y L hw h g hi ⟨(j 1).val, h1⟩ ⟨(j 2).val, h2⟩).trans (congrArg (blkG X w P) (block_emb _ _ _ _ _ ?_ ?_ ?_).symm))
  · show g.val = g.val + (j 0).val
    omega
  · rfl
  · rfl

/-- The four quarters of a tile, and what is stored before them. -/
theorem pieces (s : ℕ) (q : ℕ) (y : FVec Ideal S1024x128 .f32) (L : List (View.Piece (Elt Ideal) S4x1024x128 .f32))
    (hw : ∀ a, ![s, 0, 0] a + ![1, 1024, 128] a ≤ S4x1024x128.size a) (h : Tile X w P q y)
    (i0 : ∀ a, S1x256x128.size a = 0 ∨ (![s, 0, 0] : Fin 3 → Nat) a + (![1, 4, 1] : Fin 3 → Nat) a * (S1x256x128.size a - 1) < S4x1024x128.size a)
    (i1 : ∀ a, S1x256x128.size a = 0 ∨ (![s, 1, 0] : Fin 3 → Nat) a + (![1, 4, 1] : Fin 3 → Nat) a * (S1x256x128.size a - 1) < S4x1024x128.size a)
    (i2 : ∀ a, S1x256x128.size a = 0 ∨ (![s, 2, 0] : Fin 3 → Nat) a + (![1, 4, 1] : Fin 3 → Nat) a * (S1x256x128.size a - 1) < S4x1024x128.size a)
    (i3 : ∀ a, S1x256x128.size a = 0 ∨ (![s, 3, 0] : Fin 3 → Nat) a + (![1, 4, 1] : Fin 3 → Nat) a * (S1x256x128.size a - 1) < S4x1024x128.size a)
    (r0 : ∀ a, ![0, 0, q] a + ![1, 256, 128] a ≤ S4x256x3072.size a) (r1 : ∀ a, ![1, 0, q] a + ![1, 256, 128] a ≤ S4x256x3072.size a)
    (r2 : ∀ a, ![2, 0, q] a + ![1, 256, 128] a ≤ S4x256x3072.size a) (r3 : ∀ a, ![3, 0, q] a + ![1, 256, 128] a ≤ S4x256x3072.size a)
    (M : List (View.Piece (Elt Ideal) S4x256x3072 .bf16)) (hM : ∀ pc ∈ M, ∀ x, pc.2 x = blkG X w P (pc.1.emb x)) :
    ∀ pc ∈ ((⟨Rect.unit (s := S4x256x3072) ![3, 0, q] ![1, 256, 128] r3, put (rd arg6 s (up y) L hw 3 i3)⟩
        :: ⟨Rect.unit (s := S4x256x3072) ![2, 0, q] ![1, 256, 128] r2, put (rd arg6 s (up y) L hw 2 i2)⟩
        :: ⟨Rect.unit (s := S4x256x3072) ![1, 0, q] ![1, 256, 128] r1, put (rd arg6 s (up y) L hw 1 i1)⟩
        :: ⟨Rect.unit (s := S4x256x3072) ![0, 0, q] ![1, 256, 128] r0, put (rd arg6 s (up y) L hw 0 i0)⟩ :: M) : List (View.Piece (Elt Ideal) S4x256x3072 .bf16)),
      ∀ x, pc.2 x = blkG X w P (pc.1.emb x) :=
  List.forall_mem_cons.2 ⟨piece w P arg6 s q y L hw h 3 i3 r3, List.forall_mem_cons.2 ⟨piece w P arg6 s q y L hw h 2 i2 r2,
    List.forall_mem_cons.2 ⟨piece w P arg6 s q y L hw h 1 i1 r1, List.forall_mem_cons.2 ⟨piece w P arg6 s q y L hw h 0 i0 r0, hM⟩⟩⟩⟩

end

set_option maxHeartbeats 4000000 in
/-- The block that the body leaves, of a block of rows, the weights and the tables' rows at positions `P`. -/
theorem out_eq (c : Dev nD) (i : grid0.Coords) (arg2 : Memref sig .tc .vmem S1024x1024 .bf16) (harg2 : arg2.IsWhole) (arg3 : Memref sig .tc .vmem S1024x3072 .bf16) (harg3 : arg3.IsWhole) (arg4 : Memref sig .tc .vmem S3x1024x128 .f32) (harg4 : arg4.IsWhole)
    (arg5 : Memref sig .tc .vmem S4x256x3072 .bf16) (harg5 : arg5.IsWhole) (arg6 : Memref sig .tc .vmem S4x1024x128 .f32) (harg6 : arg6.IsWhole) (arg7 : Memref sig .tc .vmem S2x4x256x128 .f32) (harg7 : arg7.IsWhole)
    (x0 : Vec Ideal S1024x1024 .bf16) (x1 : Vec Ideal S1024x3072 .bf16) (x2 : Vec Ideal S3x1024x128 .f32) (xt0 : TbBuf0 (F := Ideal) c tbM0_0)
    (P : Fin 1024 → Fin 8192) (hT : ∀ (i : Fin 3) (p : Fin 1024) (l : Fin 128), x2 (ix3 i p l) = tabs (ix3 i (P p) l)) (y : S4x256x3072.Idx) :
    out0_A_3 (F := Ideal) c i arg2 harg2 arg3 harg3 arg4 harg4 arg5 harg5 arg6 harg6 arg7 harg7 x0 x1 x2 xt0 y = blkG x0 x1 P y := by
  have hx := ld_x arg2 harg2 x0
  have hw := ld_w arg3 harg3 x1
  have h0 := fun hi p l => (ld_t arg4 harg4 x2 0 hi p l).trans (hT 0 p l)
  have h1 := fun hi p l => (ld_t arg4 harg4 x2 1 hi p l).trans (hT 1 p l)
  have h2 := fun hi p l => (ld_t arg4 harg4 x2 2 hi p l).trans (hT 2 p l)
  unfold out0_A_3
  refine View.read_writes_apply_of_pieces _ _ (blkG x0 x1 P) _ ?_ y ?_
  · unfold kernelRun0_A
    dsimp only
    refine pieces x1 P arg6 3 2944 _ _ _ (tileV x1 _ _ P 2816 128 2944 rfl (by decide) (by decide) (by decide) (by decide) (hx _) (hw _ (by decide) _) (by decide)) _ _ _ _ _ _ _ _ _ ?_
    refine pieces x1 P arg6 2 2816 _ _ _ (tileV x1 _ _ P 2816 0 2816 rfl (by decide) (by decide) (by decide) (by decide) (hx _) (hw _ (by decide) _) (by decide)) _ _ _ _ _ _ _ _ _ ?_
    refine pieces x1 P arg6 1 2688 _ _ _ (tileV x1 _ _ P 2560 128 2688 rfl (by decide) (by decide) (by decide) (by decide) (hx _) (hw _ (by decide) _) (by decide)) _ _ _ _ _ _ _ _ _ ?_
    refine pieces x1 P arg6 0 2560 _ _ _ (tileV x1 _ _ P 2560 0 2560 rfl (by decide) (by decide) (by decide) (by decide) (hx _) (hw _ (by decide) _) (by decide)) _ _ _ _ _ _ _ _ _ ?_
    refine pieces x1 P arg6 3 2432 _ _ _ (tileV x1 _ _ P 2304 128 2432 rfl (by decide) (by decide) (by decide) (by decide) (hx _) (hw _ (by decide) _) (by decide)) _ _ _ _ _ _ _ _ _ ?_
    refine pieces x1 P arg6 2 2304 _ _ _ (tileV x1 _ _ P 2304 0 2304 rfl (by decide) (by decide) (by decide) (by decide) (hx _) (hw _ (by decide) _) (by decide)) _ _ _ _ _ _ _ _ _ ?_
    refine pieces x1 P arg6 1 2176 _ _ _ (tileV x1 _ _ P 2048 128 2176 rfl (by decide) (by decide) (by decide) (by decide) (hx _) (hw _ (by decide) _) (by decide)) _ _ _ _ _ _ _ _ _ ?_
    refine pieces x1 P arg6 0 2048 _ _ _ (tileV x1 _ _ P 2048 0 2048 rfl (by decide) (by decide) (by decide) (by decide) (hx _) (hw _ (by decide) _) (by decide)) _ _ _ _ _ _ _ _ _ ?_
    refine pieces x1 P arg6 3 1920 _ _ _ (tileK x1 _ _ _ _ _ P 1792 128 1920 rfl (by decide) (by decide) (by decide) (by decide) (by decide) (hx _) (hw _ (by decide) _) (h0 _) (h1 _) (h2 _) (by decide)) _ _ _ _ _ _ _ _ _ ?_
    refine pieces x1 P arg6 2 1792 _ _ _ (tileK x1 _ _ _ _ _ P 1792 0 1792 rfl (by decide) (by decide) (by decide) (by decide) (by decide) (hx _) (hw _ (by decide) _) (h0 _) (h1 _) (h2 _) (by decide)) _ _ _ _ _ _ _ _ _ ?_
    refine pieces x1 P arg6 1 1664 _ _ _ (tileK x1 _ _ _ _ _ P 1536 128 1664 rfl (by decide) (by decide) (by decide) (by decide) (by decide) (hx _) (hw _ (by decide) _) (h0 _) (h1 _) (h2 _) (by decide)) _ _ _ _ _ _ _ _ _ ?_
    refine pieces x1 P arg6 0 1536 _ _ _ (tileK x1 _ _ _ _ _ P 1536 0 1536 rfl (by decide) (by decide) (by decide) (by decide) (by decide) (hx _) (hw _ (by decide) _) (h0 _) (h1 _) (h2 _) (by decide)) _ _ _ _ _ _ _ _ _ ?_
    refine pieces x1 P arg6 3 1408 _ _ _ (tileK x1 _ _ _ _ _ P 1280 128 1408 rfl (by decide) (by decide) (by decide) (by decide) (by decide) (hx _) (hw _ (by decide) _) (h0 _) (h1 _) (h2 _) (by decide)) _ _ _ _ _ _ _ _ _ ?_
    refine pieces x1 P arg6 2 1280 _ _ _ (tileK x1 _ _ _ _ _ P 1280 0 1280 rfl (by decide) (by decide) (by decide) (by decide) (by decide) (hx _) (hw _ (by decide) _) (h0 _) (h1 _) (h2 _) (by decide)) _ _ _ _ _ _ _ _ _ ?_
    refine pieces x1 P arg6 1 1152 _ _ _ (tileK x1 _ _ _ _ _ P 1024 128 1152 rfl (by decide) (by decide) (by decide) (by decide) (by decide) (hx _) (hw _ (by decide) _) (h0 _) (h1 _) (h2 _) (by decide)) _ _ _ _ _ _ _ _ _ ?_
    refine pieces x1 P arg6 0 1024 _ _ _ (tileK x1 _ _ _ _ _ P 1024 0 1024 rfl (by decide) (by decide) (by decide) (by decide) (by decide) (hx _) (hw _ (by decide) _) (h0 _) (h1 _) (h2 _) (by decide)) _ _ _ _ _ _ _ _ _ ?_
    refine pieces x1 P arg6 3 896 _ _ _ (tileS x1 _ _ _ _ _ P 768 128 896 rfl (by decide) (by decide) (by decide) (by decide) (hx _) (hw _ (by decide) _) (h0 _) (h1 _) (h2 _) (by decide)) _ _ _ _ _ _ _ _ _ ?_
    refine pieces x1 P arg6 2 768 _ _ _ (tileS x1 _ _ _ _ _ P 768 0 768 rfl (by decide) (by decide) (by decide) (by decide) (hx _) (hw _ (by decide) _) (h0 _) (h1 _) (h2 _) (by decide)) _ _ _ _ _ _ _ _ _ ?_
    refine pieces x1 P arg6 1 640 _ _ _ (tileS x1 _ _ _ _ _ P 512 128 640 rfl (by decide) (by decide) (by decide) (by decide) (hx _) (hw _ (by decide) _) (h0 _) (h1 _) (h2 _) (by decide)) _ _ _ _ _ _ _ _ _ ?_
    refine pieces x1 P arg6 0 512 _ _ _ (tileS x1 _ _ _ _ _ P 512 0 512 rfl (by decide) (by decide) (by decide) (by decide) (hx _) (hw _ (by decide) _) (h0 _) (h1 _) (h2 _) (by decide)) _ _ _ _ _ _ _ _ _ ?_
    refine pieces x1 P arg6 3 384 _ _ _ (tileS x1 _ _ _ _ _ P 256 128 384 rfl (by decide) (by decide) (by decide) (by decide) (hx _) (hw _ (by decide) _) (h0 _) (h1 _) (h2 _) (by decide)) _ _ _ _ _ _ _ _ _ ?_
    refine pieces x1 P arg6 2 256 _ _ _ (tileS x1 _ _ _ _ _ P 256 0 256 rfl (by decide) (by decide) (by decide) (by decide) (hx _) (hw _ (by decide) _) (h0 _) (h1 _) (h2 _) (by decide)) _ _ _ _ _ _ _ _ _ ?_
    refine pieces x1 P arg6 1 128 _ _ _ (tileS x1 _ _ _ _ _ P 0 128 128 rfl (by decide) (by decide) (by decide) (by decide) (hx _) (hw _ (by decide) _) (h0 _) (h1 _) (h2 _) (by decide)) _ _ _ _ _ _ _ _ _ ?_
    refine pieces x1 P arg6 0 0 _ _ _ (tileS x1 _ _ _ _ _ P 0 0 0 rfl (by decide) (by decide) (by decide) (by decide) (hx _) (hw _ (by decide) _) (h0 _) (h1 _) (h2 _) (by decide)) _ _ _ _ _ _ _ _ _ ?_
    exact fun _ h => absurd h List.not_mem_nil
  · exact cover0_A_3 c i arg2 harg2 arg3 harg3 arg4 harg4 arg5 harg5 arg6 harg6 arg7 harg7 x0 x1 x2 xt0 y

end Cert.Proof.Kernel4Ideal

end
-- ==== Proof.V4.Ref.lean ====
/-
  The reference of the projection of dilation 4 over the reals: the projection's values, their rows apart by their position
  modulo 4.
-/
module

public import proofs.«01_k».proof.Proof.Gen.Reference4Ideal.Run
public import proofs.«01_k».proof.Proof.V3.Ref

@[expose] public section

set_option maxRecDepth 16384

noncomputable section

namespace Cert.Proof.Ref4

open Cert.Reference4Ideal Cert.Reference4Ideal.Gen
open Idealize.ShloMosaic Idealize.ShloMosaic.TcCoe
open Cert.Proof.Ref3 (yy qq kk vv)

/-- Queries, keys and values side by side, the rows apart. -/
def stk (q k v : FVec Ideal S49152x16x64 .f32) : FVec Ideal S4x12288x3072 .bf16 :=
  truncf .bf16 (transpose S4x12288x3072 [1, 0, 2] (shapeCast S12288x4x3072 (concatenate S49152x3x16x64 1 [⟨S49152x1x16x64, broadcastInDim S49152x1x16x64 ![0, 2, 3] bcast_S49152x16x64_S49152x1x16x64_0_2_3 q⟩,
    ⟨S49152x1x16x64, broadcastInDim S49152x1x16x64 ![0, 2, 3] bcast_S49152x16x64_S49152x1x16x64_0_2_3 k⟩,
    ⟨S49152x1x16x64, broadcastInDim S49152x1x16x64 ![0, 2, 3] bcast_S49152x16x64_S49152x1x16x64_0_2_3 v⟩]
    concatenates_S49152x1x16x64_S49152x1x16x64_S49152x1x16x64_S49152x3x16x64_d1) shapeCasts_S49152x3x16x64_S12288x4x3072) transposes_S12288x4x3072_S4x12288x3072_1_0_2) bitsLt_bf16_f32
/-- The whole reference, of the product `y`. -/
def all (y : FVec Ideal S49152x3072 .f32) : FVec Ideal S4x12288x3072 .bf16 := stk (qq y) (kk y) (vv y)

set_option maxHeartbeats 4000000 in
/-- What the reference's run leaves is the stages put together. -/
theorem res_eq (m : (ℓ : Loc nD τ sig) → Buf (Elt Ideal) ℓ) (c : Dev nD) :
    Value.res_main_v85 (F := Ideal) m c = all (yy (m ((c.tc : Thread nD τ).loc main_arg0)) (m ((c.tc : Thread nD τ).loc main_arg1))) := by
  unfold Value.res_main_v85
  rfl

theorem stk_at (q k v : FVec Ideal S49152x16x64 .f32) (g : Fin 4) (r : Fin 12288) (n : Fin 3072) :
    stk q k v (ix3 g r n) = (if n.val < 1024 then q else if n.val < 2048 then k else v)
      (ix3 (⟨r.val * 4 + g.val, by omega⟩ : Fin 49152) (⟨n.val / 64 % 16, by omega⟩ : Fin 16) (⟨n.val % 64, by omega⟩ : Fin 64)) := by
  pointwise [stk]
  by_cases h1 : n.val < 1024
  · rw [dif_pos (show n.val / 1024 < 1 by omega), if_pos h1]
  · by_cases h2 : n.val < 2048
    · rw [dif_neg (show ¬ n.val / 1024 < 1 by omega), dif_pos (show n.val / 1024 - 1 < 1 by omega), if_neg h1, if_pos h2]
    · rw [dif_neg (show ¬ n.val / 1024 < 1 by omega), dif_neg (show ¬ n.val / 1024 - 1 < 1 by omega)]
      simp only [if_neg h1, if_neg h2]

/-- The reference's result at part `g`, row `r` of it and column `n`. -/
theorem all_at (X : FVec Ideal S49152x1024 .bf16) (W : FVec Ideal S1024x3072 .bf16) (g : Fin 4) (r : Fin 12288) (n : Fin 3072) :
    all (yy X W) (ix3 g r n) = Proj.rot (Proj.scol (fun k => X (ix2 (⟨r.val * 4 + g.val, by omega⟩ : Fin 49152) k)) (fun k n => W (ix2 k n))) (Proj.posOf (r.val * 4 + g.val)) n := by
  unfold all
  rw [stk_at]
  exact Ref3.sel_at X W _ n

end Cert.Proof.Ref4

end
-- ==== Proof.V4.Main.lean ====
/-
  The result array of the projection of dilation 4: every block of rows is the reference's result at the block's place.
-/
module

public import proofs.«01_k».proof.Proof.V4.Ker
public import proofs.«01_k».proof.Proof.V4.Ref
public import proofs.«01_k».proof.Proof.V3.Main
public import Idealize.ShloMosaic.Lib.Pipeline.ValueKit

@[expose] public section

set_option maxRecDepth 16384

noncomputable section

namespace Cert.Proof.Kernel4Ideal

open Cert.Kernel4Ideal Cert.Kernel4Ideal.Gen
open Idealize.ShloMosaic Idealize.ShloMosaic.TcCoe
open Cert.Proof.Kernel3Ideal (tabs wd lit_eq rowPos rowPos_eq)

/-! ## The places of the blocks -/

theorem coords_val : ∀ t : Fin grid0.N, (grid0.coords t 0).val = t.val := by decide +kernel
theorem transform_0_eq : ∀ i : grid0.Coords, cc0_transform_0 i = ![(i 0).val, 0] := by decide +kernel
theorem transform_1_eq : ∀ i : grid0.Coords, cc0_transform_1 i = ![0, 0] := by decide +kernel
theorem transform_3_eq : ∀ i : grid0.Coords, cc0_transform_3 i = ![0, (i 0).val, 0] := by decide +kernel
theorem off1_eq : ∀ i : grid0.Coords, k0_off1 i = ![(i 0).val] := by decide +kernel

section
variable (m : (ℓ : Loc nD τ sig) → Buf (Elt Ideal) ℓ)

/-- The word that the tables' window reads. -/
theorem at_eq (t : Fin grid0.N) (h : ∀ a, k0_off1 (grid0.coords t) a + S1.size a ≤ S48.size a) :
    ((tbl m).at 0 (Rect.unit (s := S48) (k0_off1 (grid0.coords t)) S1.size h) numel1_S1).toNat = wd t.val := by
  have e : k0_off1 (grid0.coords t) 0 = t.val := by
    have e := congrFun (off1_eq (grid0.coords t)) 0
    rw [coords_val] at e
    exact e
  refine Eq.trans (congrArg BitVec.toNat (Eq.trans ?_ (congrFun (tbl_eq m) (ix1 (⟨t.val, t.isLt⟩ : Fin 48))))) (lit_eq ⟨t.val, t.isLt⟩)
  refine congrArg (tbl m 0 : IVec S48 32) (funext fun a => Fin.ext ?_)
  match a with
  | ⟨0, _⟩ =>
    show k0_off1 (grid0.coords t) 0 + 1 * 0 = t.val
    omega

theorem blk0 (c : Dev nD) (t : Fin (cfgM m (ok m)).N) (ht : t.val < 48) (p k : Fin 1024) : (iblk m (ok m) c 0 t : Vec Ideal S1024x1024 .bf16) (ix2 p k)
    = (m ((c.tc : Thread nD τ).loc main_arg0) : Vec Ideal S49152x1024 .bf16) (ix2 (⟨1024 * t.val + p.val, by omega⟩ : Fin 49152) k) := by
  show (V m c main_arg0 : Vec Ideal S49152x1024 .bf16) _ = _
  rw [V_main_arg0]
  refine congrArg (m ((c.tc : Thread nD τ).loc main_arg0) : Vec Ideal S49152x1024 .bf16) (funext fun a => Fin.ext ?_)
  have e := transform_0_eq (grid0.coords t)
  rw [coords_val] at e
  match a with
  | ⟨0, _⟩ =>
    show cc0_transform_0 (grid0.coords t) 0 * 1024 + 1 * p.val = 1024 * t.val + p.val
    rw [e]
    show t.val * 1024 + 1 * p.val = 1024 * t.val + p.val
    omega
  | ⟨1, _⟩ =>
    show cc0_transform_0 (grid0.coords t) 1 * 1024 + 1 * k.val = k.val
    rw [e]
    show 0 * 1024 + 1 * k.val = k.val
    omega

theorem blk1 (c : Dev nD) (t : Fin (cfgM m (ok m)).N) (k : Fin 1024) (n : Fin 3072) : (iblk m (ok m) c 1 t : Vec Ideal S1024x3072 .bf16) (ix2 k n)
    = (m ((c.tc : Thread nD τ).loc main_arg1) : Vec Ideal S1024x3072 .bf16) (ix2 k n) := by
  show (V m c main_arg1 : Vec Ideal S1024x3072 .bf16) _ = _
  rw [V_main_arg1]
  refine congrArg (m ((c.tc : Thread nD τ).loc main_arg1) : Vec Ideal S1024x3072 .bf16) (funext fun a => Fin.ext ?_)
  match a with
  | ⟨0, _⟩ => show 0 * 1024 + 1 * k.val = k.val; omega
  | ⟨1, _⟩ => show 0 * 3072 + 1 * n.val = n.val; omega

theorem blk2 (c : Dev nD) (t : Fin (cfgM m (ok m)).N) (i : Fin 3) (p : Fin 1024) (l : Fin 128) : (iblk m (ok m) c 2 t : Vec Ideal S3x1024x128 .f32) (ix3 i p l)
    = tabs (ix3 i (rowPos t.val p) l) := by
  show (V m c main_v33 : FVec Ideal S3x8192x128 .f32) _ = _
  rw [V_tabs]
  refine congrArg tabs (funext fun a => Fin.ext ?_)
  match a with
  | ⟨0, _⟩ => show 0 * 3 + 1 * i.val = i.val; omega
  | ⟨1, _⟩ =>
    show ((tbl m).at 0 (Rect.unit (s := S48) (k0_off1 (grid0.coords t)) S1.size _) numel1_S1).toNat * 1024 + 1 * p.val = wd t.val * 1024 + p.val
    rw [at_eq]; omega
  | ⟨2, _⟩ => show 0 * 128 + 1 * l.val = l.val; omega

/-- The reference's result, of the kernel's arguments. -/
def G (c : Dev nD) : Vec Ideal S4x12288x3072 .bf16 :=
  Ref4.all (Ref3.yy (m ((c.tc : Thread nD τ).loc main_arg0)) (m ((c.tc : Thread nD τ).loc main_arg1)))

/-- A block of rows at its place in the reference's result, of any arguments. -/
theorem blkG_eq_ref (X : Vec Ideal S49152x1024 .bf16) (W : Vec Ideal S1024x3072 .bf16) (x : Vec Ideal S1024x1024 .bf16) (w : Vec Ideal S1024x3072 .bf16)
    (t : ℕ) (ht : t < 48) (g : Fin 4) (p : Fin 256) (n : Fin 3072) (hx : ∀ p k, x (ix2 p k) = X (ix2 (⟨1024 * t + p.val, by omega⟩ : Fin 49152) k))
    (hw : ∀ k n, w (ix2 k n) = W (ix2 k n)) :
    blkG x w (rowPos t) (ix3 g p n) = Ref4.all (Ref3.yy X W) (ix3 g (⟨256 * t + p.val, by omega⟩ : Fin 12288) n) := by
  have e : 1024 * t + (row g p).val = (256 * t + p.val) * 4 + g.val := by
    show 1024 * t + (p.val * 4 + g.val) = _
    omega
  have er : (⟨1024 * t + (row g p).val, by omega⟩ : Fin 49152) = ⟨(256 * t + p.val) * 4 + g.val, by omega⟩ := Fin.ext e
  rw [Ref4.all_at]
  show Proj.rot (Proj.scol (fun k => x (ix2 (row g p) k)) (fun k n => w (ix2 k n))) (rowPos t (row g p)).val n = _
  rw [rowPos_eq, e]
  simp only [hx, hw, er]

/-- One element of the block of point `t`. -/
theorem outsAt_eq (c : Dev nD) (t : Fin (cfgM m (ok m)).N) (ht : t.val < 48) (g : Fin 4) (p : Fin 256) (n : Fin 3072) :
    outsAt0 m (ok m) c t (ix3 g p n) = G m c (ix3 g (⟨256 * t.val + p.val, by omega⟩ : Fin 12288) n) := by
  unfold outsAt0
  rw [out_eq c _ _ _ _ _ _ _ _ _ _ _ _ _ (iblk m (ok m) c 0 t) (iblk m (ok m) c 1 t) (iblk m (ok m) c 2 t) (tbl m 0) (rowPos t.val) (blk2 m c t)]
  exact blkG_eq_ref _ _ (iblk m (ok m) c 0 t) (iblk m (ok m) c 1 t) t.val ht g p n (blk0 m c t ht) (blk1 m c t)

/-- The blocks of the result cover it. -/
theorem cover (i : S4x12288x3072.Idx) : ∃ t : Fin (cfgM m (ok m)).N, ((cfgM m (ok m)).win (3 : Fin 4)).flush t = true ∧ i ∈ (((cfgM m (ok m)).win (3 : Fin 4)).blk t).view.set := by
  have h0 : (i 0).val < 4 := (i 0).isLt
  have h1 : (i 1).val < 12288 := (i 1).isLt
  have h2 : (i 2).val < 3072 := (i 2).isLt
  let t : Fin grid0.N := ⟨(i 1).val / 256, by show _ < 48; omega⟩
  refine ⟨t, flush0_3 _ t, (((cfgM m (ok m)).win (3 : Fin 4)).emb_mem_blk_iff t i rfl).mpr fun a => ?_⟩
  have e := transform_3_eq (grid0.coords t)
  rw [coords_val] at e
  match a with
  | ⟨0, _⟩ =>
    show cc0_transform_3 (grid0.coords t) 0 * 4 ≤ (i 0).val ∧ (i 0).val < cc0_transform_3 (grid0.coords t) 0 * 4 + 4
    rw [e]
    show 0 * 4 ≤ (i 0).val ∧ (i 0).val < 0 * 4 + 4
    omega
  | ⟨1, _⟩ =>
    show cc0_transform_3 (grid0.coords t) 1 * 256 ≤ (i 1).val ∧ (i 1).val < cc0_transform_3 (grid0.coords t) 1 * 256 + 256
    rw [e]
    show (i 1).val / 256 * 256 ≤ (i 1).val ∧ (i 1).val < (i 1).val / 256 * 256 + 256
    omega
  | ⟨2, _⟩ =>
    show cc0_transform_3 (grid0.coords t) 2 * 3072 ≤ (i 2).val ∧ (i 2).val < cc0_transform_3 (grid0.coords t) 2 * 3072 + 3072
    rw [e]
    show 0 * 3072 ≤ (i 2).val ∧ (i 2).val < 0 * 3072 + 3072
    omega

/-- The result array after the run. -/
theorem arr_eq (c : Dev nD) : (dats m (ok m) 0 c).arrAt (3 : Fin 4) (cfgM m (ok m)).N = G m c := by
  refine (dats m (ok m) 0 c).arrAt_eq_of_emb (3 : Fin 4) _ (fun t hf y => ?_) (cover m)
  blk_simp
  rw [after0_3]
  have e := transform_3_eq (grid0.coords t)
  rw [coords_val] at e
  have ht : t.val < 48 := t.isLt
  have h0 : (y 0).val < 4 := (y 0).isLt
  have hp : (y 1).val < 256 := (y 1).isLt
  have hn : (y 2).val < 3072 := (y 2).isLt
  have hy : y = (ix3 (⟨(y 0).val, h0⟩ : Fin 4) (⟨(y 1).val, hp⟩ : Fin 256) (⟨(y 2).val, hn⟩ : Fin 3072) : S4x256x3072.Idx) :=
    funext fun a => match a with | ⟨0, _⟩ => rfl | ⟨1, _⟩ => rfl | ⟨2, _⟩ => rfl
  refine (congrArg (outsAt0 m (ok m) c t) hy).trans ((outsAt_eq m c t ht _ _ _).trans (congrArg (G m c) (funext fun a => Fin.ext ?_)))
  match a with
  | ⟨0, _⟩ =>
    show (y 0).val = cc0_transform_3 (grid0.coords t) 0 * 4 + 1 * (y 0).val
    rw [e]
    show (y 0).val = 0 * 4 + 1 * (y 0).val
    omega
  | ⟨1, _⟩ =>
    show 256 * t.val + (y 1).val = cc0_transform_3 (grid0.coords t) 1 * 256 + 1 * (y 1).val
    rw [e]
    show 256 * t.val + (y 1).val = t.val * 256 + 1 * (y 1).val
    omega
  | ⟨2, _⟩ =>
    show (y 2).val = cc0_transform_3 (grid0.coords t) 2 * 3072 + 1 * (y 2).val
    rw [e]
    show (y 2).val = 0 * 3072 + 1 * (y 2).val
    omega

end

end Cert.Proof.Kernel4Ideal

end
-- ==== Proof.lean ====
/-
  The proof of `Cert.Claim`, for the attention call, for the expert layer's call and for the two projection calls: the frames
  of the kernel on words and over the reals and of the reference, that the two kernels are one program, and that over the reals
  the kernel's result is the reference's.
-/
module

public import proofs.«01_k».proof.Proof.Gen.ReferenceIdeal.Run
public import proofs.«01_k».proof.Defs
public import proofs.«01_k».proof.Proof.K.Run
public import proofs.«01_k».proof.Proof.V.Main
public import proofs.«01_k».proof.Proof.E.Run
public import proofs.«01_k».proof.Proof.EI.Run
public import proofs.«01_k».proof.Proof.V2.Main
public import proofs.«01_k».proof.Proof.Gen.Reference2Ideal.Run
public import proofs.«01_k».proof.Proof.V3.TabB
public import proofs.«01_k».proof.Proof.V3.Main
public import proofs.«01_k».proof.Proof.Gen.Reference3Ideal.Run
public import proofs.«01_k».proof.Proof.V4.TabB
public import proofs.«01_k».proof.Proof.V4.Main
public import proofs.«01_k».proof.Proof.Gen.Reference4Ideal.Run
public import Idealize.ShloMosaic.Adequacy
public import Idealize.ShloMosaic.Init

@[expose] public section

noncomputable section

namespace Cert.Proof

open Idealize.ShloMosaic Idealize.SL.Sem

/-- The reference's frame: its run read at the arguments; it declares no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The equation: both programs leave the reference's result of the arguments. -/
theorem algebraic : @Cert.algebraic_KernelIdeal_ReferenceIdeal_pre_finite_with_ones Cert.KernelIdeal.Gen.facts Cert.ReferenceIdeal.Gen.facts Pre.facts :=
  fun m g m' g' hpre hm => by
  haveI := Pre.facts
  refine ⟨fun c => KernelIdeal.G m c, ?_, ?_⟩
  · refine (θ_run Cert.KernelIdeal.defs _ _).mono (fun r h c => ⟨?_, h.2.1 c⟩) (θ_run_and (KernelIdeal.run_main m g) (KernelIdeal.frame_main m g))
    obtain ⟨h0, h1, h2, h3⟩ := hpre c
    exact (h.1.1.out_eq c 5).trans (KernelIdeal.arr_pre m c h0 h1 h2 h3)
  · refine (θ_run Cert.ReferenceIdeal.defs _ _).mono (fun r h c => ⟨(h c).1.trans ?_, (h c).2⟩) (Cert.ReferenceIdeal.Value.run (F := Ideal) m' g')
    rw [Ref.res_eq]
    obtain ⟨e0, e1, e2, e3⟩ := hm c
    rw [e0, e1, e2, e3]
    rfl

/-- The precondition's bounds on the tables, for the expert layer's call on words. -/
theorem ok2 (m : (ℓ : Loc Kernel2.nD Kernel2.τ Kernel2.sig) → Buf (Elt Bits) ℓ) (h : Cert.Pre_Kernel2 m) : Kernel2.Ok m :=
  ⟨fun x => Pre2.src_lt (h 0).1 x, fun x => Pre2.tg_lt (h 0).2.1 x, (Pre2.nv_mem (h 0).2.2 _).1, (Pre2.nv_mem (h 0).2.2 _).2⟩

/-- The same over the reals. -/
theorem ok2i (m : (ℓ : Loc Kernel2Ideal.nD Kernel2Ideal.τ Kernel2Ideal.sig) → Buf (Elt Ideal) ℓ) (h : Cert.Pre_Kernel2Ideal m) : Kernel2Ideal.Ok m :=
  Kernel2Ideal.ok_of_pre m (h 0).1 (h 0).2.1 (h 0).2.2

/-- The frame of the expert layer's reference. -/
theorem frame_ref2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The equation of the expert layer's call: both programs leave the reference's result of the arguments. -/
theorem algebraic2 : Cert.algebraic_Kernel2Ideal_Reference2Ideal := fun m g m' g' hpre hm => by
  have ho := ok2i m hpre
  refine ⟨fun c => Kernel2Ideal.G m c, ?_, ?_⟩
  · refine (θ_run Cert.Kernel2Ideal.defs _ _).mono (fun r h c => ⟨?_, h.2.1 c⟩)
      (θ_run_and (Kernel2Ideal.run_main m g ho) (Kernel2Ideal.frame_main m g ho))
    exact (h.1.1.out_eq c (5 : Fin 6)).trans (Kernel2Ideal.arr_eq m ho c)
  · refine (θ_run Cert.Reference2Ideal.defs _ _).mono (fun r h c => ⟨(h c).1.trans ?_, (h c).2⟩) (Cert.Reference2Ideal.Value.run (F := Ideal) m' g')
    rw [Ref2.res_eq]
    obtain ⟨e0, e1, e2, e3, e4, e5, e6⟩ := hm c
    rw [e0, e1, e2, e3, e4, e5, e6]
    rfl

/-- The frame of the projection's reference. -/
theorem frame_ref3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The equation of the projection's call: both programs leave the reference's result of the arguments. -/
theorem algebraic3 : Cert.algebraic_Kernel3Ideal_Reference3Ideal := fun m g m' g' _ hm => by
  have ho := Kernel3Ideal.ok m
  refine ⟨fun c => Kernel3Ideal.G m c, ?_, ?_⟩
  · refine (θ_run Cert.Kernel3Ideal.defs _ _).mono (fun r h c => ⟨?_, h.2.1 c⟩)
      (θ_run_and (Cert.Kernel3Ideal.Gen.run_main m g ho) (Cert.Kernel3Ideal.Gen.frame m g ho))
    exact (h.1.out_eq c (3 : Fin 4)).trans (Kernel3Ideal.arr_eq m c)
  · refine (θ_run Cert.Reference3Ideal.defs _ _).mono (fun r h c => ⟨(h c).1.trans ?_, (h c).2⟩) (Cert.Reference3Ideal.Value.run (F := Ideal) m' g')
    rw [Ref3.res_eq]
    obtain ⟨e0, e1⟩ := hm c
    rw [e0, e1]
    rfl

/-- The frame of the reference of the projection of dilation 4. -/
theorem frame_ref4 : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The equation of the call of dilation 4: both programs leave the reference's result of the arguments. -/
theorem algebraic4 : Cert.algebraic_Kernel4Ideal_Reference4Ideal := fun m g m' g' _ hm => by
  have ho := Kernel4Ideal.ok m
  refine ⟨fun c => Kernel4Ideal.G m c, ?_, ?_⟩
  · refine (θ_run Cert.Kernel4Ideal.defs _ _).mono (fun r h c => ⟨?_, h.2.1 c⟩)
      (θ_run_and (Cert.Kernel4Ideal.Gen.run_main m g ho) (Cert.Kernel4Ideal.Gen.frame m g ho))
    exact (h.1.out_eq c (3 : Fin 4)).trans (Kernel4Ideal.arr_eq m c)
  · refine (θ_run Cert.Reference4Ideal.defs _ _).mono (fun r h c => ⟨(h c).1.trans ?_, (h c).2⟩) (Cert.Reference4Ideal.Value.run (F := Ideal) m' g')
    rw [Ref4.res_eq]
    obtain ⟨e0, e1⟩ := hm c
    rw [e0, e1]
    rfl

/-- Everything that is claimed of the four calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Pre.facts, Cert.Pre_moe_tables.Gen.facts,
  fun m g _ => Kernel.frame_main m g, fun m g _ => KernelIdeal.frame_main m g, fun m g _ => KernelIdeal.frame_main m g,
  frame_ref, fun m g _ => frame_ref m g trivial,
  fun m g h => Kernel2.frame_main m g (ok2 m h), fun m g h => Kernel2Ideal.frame_main m g (ok2i m h),
  frame_ref2, fun m g _ => frame_ref2 m g trivial,
  fun m g _ => Cert.Kernel3.Gen.frame m g (Kernel3.ok m), fun m g _ => Cert.Kernel3Ideal.Gen.frame m g (Kernel3Ideal.ok m), frame_ref3,
  fun m g _ => Cert.Kernel4.Gen.frame m g (Kernel4.ok m), fun m g _ => Cert.Kernel4Ideal.Gen.frame m g (Kernel4Ideal.ok m), frame_ref4,
  trivial, algebraic, trivial, algebraic2, trivial, algebraic3, trivial, algebraic4⟩

end Cert.Proof

end
